-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S2048x1024 : Shape := ⟨2, ![2048, 1024]⟩
abbrev S2x512x1024 : Shape := ⟨3, ![2, 512, 1024]⟩
abbrev S2 : Shape := ⟨1, ![2]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S256x1024 : Shape := ⟨2, ![256, 1024]⟩

abbrev nBuf : Space → Nat
  | .hbm => 2
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .local _ .vmem, ⟨0, _⟩ => ⟨S2048x1024, .f32⟩
  | .local _ .vmem, ⟨1, _⟩ => ⟨S2048x1024, .f32⟩
  | .local _ .vmem, ⟨2, _⟩ => ⟨S2x512x1024, .f32⟩
  | .local _ .vmem, ⟨3, _⟩ => ⟨S2x512x1024, .f32⟩
  | .local _ .vmem, ⟨4, _⟩ => ⟨S2x512x1024, .f32⟩
  | .local _ .vmem, ⟨5, _⟩ => ⟨S2x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 6 → Bool
  | ⟨0, _⟩ => true
  | ⟨1, _⟩ => true
  | ⟨2, _⟩ => true
  | ⟨3, _⟩ => true
  | ⟨4, _⟩ => true
  | ⟨5, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 6 28 bufScoped semScoped dmaSemScoped tileCredit tileCredit_eq_zero tileCredit_pos).withBarriers [(0, 5)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem0_1 : DmaSem sig := 1
abbrev barrier0 : Sem sig := 5

abbrev nD : Nat := 16
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_16 : BitVec 32 := 0#32
  let v33 : BitVec 1 := Scalar.cmpi .eq arg0 c0_i32_16
  let v34 : BitVec 32 := Scalar.extui v33
  let c0_i32_17 : BitVec 32 := 0#32
  let v35 : BitVec 1 := Scalar.cmpi .ne v34 c0_i32_17
  v35

def k0_dev1 (d0 : Dev nD) : Nat :=
  let c0_i32_36 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_35 : BitVec 32 := 8#32
  let v63 : BitVec 32 := Scalar.muli v19 c8_i32_35
  let v64 : BitVec 32 := Scalar.addi c0_i32_36 v63
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_37 : BitVec 32 := 4#32
  let v65 : BitVec 32 := Scalar.muli v5 c4_i32_37
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v67 : BitVec 32 := Scalar.muli v8 c1_i32_38
  let v68 : BitVec 32 := Scalar.addi v66 v67
  v68.toNat
def k0_dev2 (d0 : Dev nD) : Nat :=
  let c0_i32_41 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_40 : BitVec 32 := 8#32
  let v69 : BitVec 32 := Scalar.muli v2 c8_i32_40
  let v70 : BitVec 32 := Scalar.addi c0_i32_41 v69
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_42 : BitVec 32 := 4#32
  let v71 : BitVec 32 := Scalar.muli v20 c4_i32_42
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v73 : BitVec 32 := Scalar.muli v8 c1_i32_43
  let v74 : BitVec 32 := Scalar.addi v72 v73
  v74.toNat
def k0_dev3 (d0 : Dev nD) : Nat :=
  let c0_i32_46 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_45 : BitVec 32 := 8#32
  let v75 : BitVec 32 := Scalar.muli v2 c8_i32_45
  let v76 : BitVec 32 := Scalar.addi c0_i32_46 v75
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v77 : BitVec 32 := Scalar.muli v5 c4_i32_47
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v8 v21
  let c1_i32_10 : BitVec 32 := 1#32
  let v23 : BitVec 32 := Scalar.addi v22 c1_i32_10
  let c1_i32_48 : BitVec 32 := 1#32
  let v79 : BitVec 32 := Scalar.muli v23 c1_i32_48
  let v80 : BitVec 32 := Scalar.addi v78 v79
  v80.toNat
def k0_cond2 (i : grid0.Coords) : BitVec 1 :=
  let arg0 : BitVec 32 := BitVec.ofNat 32 (i 0).val
  let c2_i32_18 : BitVec 32 := 2#32
  let c0_i32_19 : BitVec 32 := 0#32
  let v36 : BitVec 1 := Scalar.cmpi .eq c2_i32_18 c0_i32_19
  let c1_i32_20 : BitVec 32 := 1#32
  let v37 : BitVec 32 := Scalar.select v36 c1_i32_20 c2_i32_18
  let v38 : BitVec 32 := Scalar.remsi arg0 v37
  let c0_i32_22 : BitVec 32 := 0#32
  let v40 : BitVec 1 := Scalar.cmpi .slt v38 c0_i32_22
  let c0_i32_23 : BitVec 32 := 0#32
  let v41 : BitVec 1 := Scalar.cmpi .slt v37 c0_i32_23
  let v42 : BitVec 1 := Scalar.xori v40 v41
  let c0_i32_21 : BitVec 32 := 0#32
  let v39 : BitVec 1 := Scalar.cmpi .ne v38 c0_i32_21
  let v43 : BitVec 1 := Scalar.andi v42 v39
  let v44 : BitVec 32 := Scalar.addi v38 v37
  let v45 : BitVec 32 := Scalar.select v43 v44 v38
  let c0_i32_24 : BitVec 32 := 0#32
  let v46 : BitVec 1 := Scalar.cmpi .eq v45 c0_i32_24
  let v47 : BitVec 32 := Scalar.extui v46
  let c0_i32_25 : BitVec 32 := 0#32
  let v48 : BitVec 1 := Scalar.cmpi .ne v47 c0_i32_25
  v48

def k0_off1 (d0 : Dev nD) : Fin 2 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c512_i32 : BitVec 32 := 512#32
  let v67 : BitVec 32 := Scalar.muli v25 c512_i32
  let c0_i32_47 : BitVec 32 := 0#32
  ![v67.toNat, 0]
def k0_dev4 (d0 : Dev nD) : Nat :=
  let c0_i32_42 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_41 : BitVec 32 := 8#32
  let v68 : BitVec 32 := Scalar.muli v19 c8_i32_41
  let v69 : BitVec 32 := Scalar.addi c0_i32_42 v68
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_43 : BitVec 32 := 4#32
  let v70 : BitVec 32 := Scalar.muli v5 c4_i32_43
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v72 : BitVec 32 := Scalar.muli v8 c1_i32_44
  let v73 : BitVec 32 := Scalar.addi v71 v72
  v73.toNat
def k0_cond4 (i : grid0.Coords) : BitVec 1 :=
  let arg0 : BitVec 32 := BitVec.ofNat 32 (i 0).val
  let c2_i32_48 : BitVec 32 := 2#32
  let v81 : BitVec 1 := Scalar.cmpi .sge arg0 c2_i32_48
  let v82 : BitVec 32 := Scalar.extui v81
  let c0_i32_49 : BitVec 32 := 0#32
  let v83 : BitVec 1 := Scalar.cmpi .ne v82 c0_i32_49
  v83

def k0_off2 (i : grid0.Coords) (d0 : Dev nD) : Fin 2 → Nat :=
  let arg0 : BitVec 32 := BitVec.ofNat 32 (i 0).val
  let c2_i32_129 : BitVec 32 := 2#32
  let v176 : BitVec 32 := Scalar.subi arg0 c2_i32_129
  let c2048_i32_130 : BitVec 32 := 2048#32
  let v177 : BitVec 32 := Scalar.muli v176 c2048_i32_130
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v30 : BitVec 32 := Scalar.addi v29 c1_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi v30 v18
  let c512_i32_131 : BitVec 32 := 512#32
  let v178 : BitVec 32 := Scalar.muli v31 c512_i32_131
  let v179 : BitVec 32 := Scalar.addi v177 v178
  let c0_i32_139 : BitVec 32 := 0#32
  ![v179.toNat, 0]
def k0_off3 (i : grid0.Coords) (d0 : Dev nD) : Fin 2 → Nat :=
  let arg0 : BitVec 32 := BitVec.ofNat 32 (i 0).val
  let c2_i32_144 : BitVec 32 := 2#32
  let v192 : BitVec 32 := Scalar.subi arg0 c2_i32_144
  let c2048_i32_145 : BitVec 32 := 2048#32
  let v193 : BitVec 32 := Scalar.muli v192 c2048_i32_145
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c512_i32_146 : BitVec 32 := 512#32
  let v194 : BitVec 32 := Scalar.muli v28 c512_i32_146
  let v195 : BitVec 32 := Scalar.addi v193 v194
  let c256_i32 : BitVec 32 := 256#32
  let v196 : BitVec 32 := Scalar.addi v195 c256_i32
  let c0_i32_154 : BitVec 32 := 0#32
  ![v196.toNat, 0]
def k0_cond5 (i : grid0.Coords) : BitVec 1 :=
  let arg0 : BitVec 32 := BitVec.ofNat 32 (i 0).val
  let c2_i32_50 : BitVec 32 := 2#32
  let v84 : BitVec 1 := Scalar.cmpi .sge arg0 c2_i32_50
  let c6_i32 : BitVec 32 := 6#32
  let v85 : BitVec 1 := Scalar.cmpi .sle arg0 c6_i32
  let v86 : BitVec 1 := Scalar.andi v84 v85
  let v87 : BitVec 32 := Scalar.extui v86
  let c0_i32_51 : BitVec 32 := 0#32
  let v88 : BitVec 1 := Scalar.cmpi .ne v87 c0_i32_51
  v88

def k0_dev5 (d0 : Dev nD) : Nat :=
  let c0_i32_131 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_130 : BitVec 32 := 8#32
  let v176 : BitVec 32 := Scalar.muli v2 c8_i32_130
  let v177 : BitVec 32 := Scalar.addi c0_i32_131 v176
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_132 : BitVec 32 := 4#32
  let v178 : BitVec 32 := Scalar.muli v20 c4_i32_132
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v180 : BitVec 32 := Scalar.muli v8 c1_i32_133
  let v181 : BitVec 32 := Scalar.addi v179 v180
  v181.toNat
def k0_dev6 (d0 : Dev nD) : Nat :=
  let c0_i32_136 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_135 : BitVec 32 := 8#32
  let v182 : BitVec 32 := Scalar.muli v2 c8_i32_135
  let v183 : BitVec 32 := Scalar.addi c0_i32_136 v182
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_137 : BitVec 32 := 4#32
  let v184 : BitVec 32 := Scalar.muli v5 c4_i32_137
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v8 v21
  let c1_i32_10 : BitVec 32 := 1#32
  let v23 : BitVec 32 := Scalar.addi v22 c1_i32_10
  let c1_i32_138 : BitVec 32 := 1#32
  let v186 : BitVec 32 := Scalar.muli v23 c1_i32_138
  let v187 : BitVec 32 := Scalar.addi v185 v186
  v187.toNat
def k0_cond6 (i : grid0.Coords) : BitVec 1 :=
  let arg0 : BitVec 32 := BitVec.ofNat 32 (i 0).val
  let c1_i32_52 : BitVec 32 := 1#32
  let v89 : BitVec 1 := Scalar.cmpi .sge arg0 c1_i32_52
  let v90 : BitVec 32 := Scalar.extui v89
  let c0_i32_53 : BitVec 32 := 0#32
  let v91 : BitVec 1 := Scalar.cmpi .ne v90 c0_i32_53
  v91

def k0_off4 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v30 : BitVec 32 := Scalar.addi v29 c1_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi v30 v18
  let c512_i32_142 : BitVec 32 := 512#32
  let v191 : BitVec 32 := Scalar.muli v31 c512_i32_142
  let v192 : BitVec 32 := Scalar.addi v63 v191
  let c0_i32_150 : BitVec 32 := 0#32
  ![v192.toNat, 0]
def k0_dev7 (d0 : Dev nD) : Nat :=
  let c0_i32_147 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_146 : BitVec 32 := 8#32
  let v193 : BitVec 32 := Scalar.muli v2 c8_i32_146
  let v194 : BitVec 32 := Scalar.addi c0_i32_147 v193
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_148 : BitVec 32 := 4#32
  let v195 : BitVec 32 := Scalar.muli v20 c4_i32_148
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v197 : BitVec 32 := Scalar.muli v8 c1_i32_149
  let v198 : BitVec 32 := Scalar.addi v196 v197
  v198.toNat
def k0_off5 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c512_i32_169 : BitVec 32 := 512#32
  let v222 : BitVec 32 := Scalar.muli v28 c512_i32_169
  let v223 : BitVec 32 := Scalar.addi v63 v222
  let c256_i32 : BitVec 32 := 256#32
  let v224 : BitVec 32 := Scalar.addi v223 c256_i32
  let c0_i32_177 : BitVec 32 := 0#32
  ![v224.toNat, 0]
def k0_dev8 (d0 : Dev nD) : Nat :=
  let c0_i32_174 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_173 : BitVec 32 := 8#32
  let v225 : BitVec 32 := Scalar.muli v2 c8_i32_173
  let v226 : BitVec 32 := Scalar.addi c0_i32_174 v225
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_175 : BitVec 32 := 4#32
  let v227 : BitVec 32 := Scalar.muli v5 c4_i32_175
  let v228 : BitVec 32 := Scalar.addi v226 v227
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v8 v21
  let c1_i32_10 : BitVec 32 := 1#32
  let v23 : BitVec 32 := Scalar.addi v22 c1_i32_10
  let c1_i32_176 : BitVec 32 := 1#32
  let v229 : BitVec 32 := Scalar.muli v23 c1_i32_176
  let v230 : BitVec 32 := Scalar.addi v228 v229
  v230.toNat
def k0_off6 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v30 : BitVec 32 := Scalar.addi v29 c1_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi v30 v18
  let c512_i32_182 : BitVec 32 := 512#32
  let v239 : BitVec 32 := Scalar.muli v31 c512_i32_182
  let v240 : BitVec 32 := Scalar.addi v63 v239
  let c0_i32_185 : BitVec 32 := 0#32
  ![v240.toNat, 0]
def k0_off7 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c512_i32_188 : BitVec 32 := 512#32
  let v246 : BitVec 32 := Scalar.muli v28 c512_i32_188
  let v247 : BitVec 32 := Scalar.addi v63 v246
  let c0_i32_191 : BitVec 32 := 0#32
  ![v247.toNat, 0]
def k0_cond9 (i : grid0.Coords) : BitVec 1 :=
  let arg0 : BitVec 32 := BitVec.ofNat 32 (i 0).val
  let c2_i32_64 : BitVec 32 := 2#32
  let v103 : BitVec 1 := Scalar.cmpi .sge arg0 c2_i32_64
  let v104 : BitVec 32 := Scalar.extui v103
  let c0_i32_65 : BitVec 32 := 0#32
  let v105 : BitVec 1 := Scalar.cmpi .ne v104 c0_i32_65
  v105

def k0_off8 (i : grid0.Coords) (d0 : Dev nD) : Fin 2 → Nat :=
  let arg0 : BitVec 32 := BitVec.ofNat 32 (i 0).val
  let c2048_i32 : BitVec 32 := 2048#32
  let v32 : BitVec 32 := Scalar.muli arg0 c2048_i32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c512_i32_147 : BitVec 32 := 512#32
  let v188 : BitVec 32 := Scalar.muli v25 c512_i32_147
  let v189 : BitVec 32 := Scalar.addi v32 v188
  let c0_i32_150 : BitVec 32 := 0#32
  ![v189.toNat, 0]
def k0_off9 (d0 : Dev nD) : Fin 2 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c512_i32_66 : BitVec 32 := 512#32
  let v106 : BitVec 32 := Scalar.muli v25 c512_i32_66
  let v107 : Index := Scalar.indexCast v106
  let c0 : Index := 0#32
  ![v107.toNat, 0]
def k0_cond10 (i : grid0.Coords) : BitVec 1 :=
  let arg0 : BitVec 32 := BitVec.ofNat 32 (i 0).val
  let c5_i32 : BitVec 32 := 5#32
  let v116 : BitVec 1 := Scalar.cmpi .sle arg0 c5_i32
  let v117 : BitVec 32 := Scalar.extui v116
  let c0_i32_73 : BitVec 32 := 0#32
  let v118 : BitVec 1 := Scalar.cmpi .ne v117 c0_i32_73
  v118

def k0_dev9 (d0 : Dev nD) : Nat :=
  let c0_i32_131 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_130 : BitVec 32 := 8#32
  let v176 : BitVec 32 := Scalar.muli v19 c8_i32_130
  let v177 : BitVec 32 := Scalar.addi c0_i32_131 v176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_132 : BitVec 32 := 4#32
  let v178 : BitVec 32 := Scalar.muli v5 c4_i32_132
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v180 : BitVec 32 := Scalar.muli v8 c1_i32_133
  let v181 : BitVec 32 := Scalar.addi v179 v180
  v181.toNat
def k0_dev10 (d0 : Dev nD) : Nat :=
  let c0_i32_88 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_87 : BitVec 32 := 8#32
  let v127 : BitVec 32 := Scalar.muli v2 c8_i32_87
  let v128 : BitVec 32 := Scalar.addi c0_i32_88 v127
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_89 : BitVec 32 := 4#32
  let v129 : BitVec 32 := Scalar.muli v20 c4_i32_89
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v131 : BitVec 32 := Scalar.muli v8 c1_i32_90
  let v132 : BitVec 32 := Scalar.addi v130 v131
  v132.toNat
def k0_dev11 (d0 : Dev nD) : Nat :=
  let c0_i32_102 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_101 : BitVec 32 := 8#32
  let v144 : BitVec 32 := Scalar.muli v2 c8_i32_101
  let v145 : BitVec 32 := Scalar.addi c0_i32_102 v144
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_103 : BitVec 32 := 4#32
  let v146 : BitVec 32 := Scalar.muli v5 c4_i32_103
  let v147 : BitVec 32 := Scalar.addi v145 v146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v8 v21
  let c1_i32_10 : BitVec 32 := 1#32
  let v23 : BitVec 32 := Scalar.addi v22 c1_i32_10
  let c1_i32_104 : BitVec 32 := 1#32
  let v148 : BitVec 32 := Scalar.muli v23 c1_i32_104
  let v149 : BitVec 32 := Scalar.addi v147 v148
  v149.toNat
def k0_off10 (i : grid0.Coords) (d0 : Dev nD) : Fin 2 → Nat :=
  let arg0 : BitVec 32 := BitVec.ofNat 32 (i 0).val
  let c2048_i32 : BitVec 32 := 2048#32
  let v32 : BitVec 32 := Scalar.muli arg0 c2048_i32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c512_i32_109 : BitVec 32 := 512#32
  let v158 : BitVec 32 := Scalar.muli v25 c512_i32_109
  let v159 : BitVec 32 := Scalar.addi v32 v158
  let c0_i32_112 : BitVec 32 := 0#32
  ![v159.toNat, 0]
def k0_cond13 (i : grid0.Coords) : BitVec 1 :=
  let arg0 : BitVec 32 := BitVec.ofNat 32 (i 0).val
  let c1_i32_115 : BitVec 32 := 1#32
  let v165 : BitVec 1 := Scalar.cmpi .sge arg0 c1_i32_115
  let v166 : BitVec 32 := Scalar.extui v165
  let c0_i32_116 : BitVec 32 := 0#32
  let v167 : BitVec 1 := Scalar.cmpi .ne v166 c0_i32_116
  v167

def k0_off11 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v30 : BitVec 32 := Scalar.addi v29 c1_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi v30 v18
  let c512_i32_129 : BitVec 32 := 512#32
  let v176 : BitVec 32 := Scalar.muli v31 c512_i32_129
  let v177 : BitVec 32 := Scalar.addi v63 v176
  let c0_i32_132 : BitVec 32 := 0#32
  ![v177.toNat, 0]
def k0_off12 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v30 : BitVec 32 := Scalar.addi v29 c1_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi v30 v18
  let c512_i32_135 : BitVec 32 := 512#32
  let v183 : BitVec 32 := Scalar.muli v31 c512_i32_135
  let v184 : BitVec 32 := Scalar.addi v63 v183
  let c0_i32_144 : BitVec 32 := 0#32
  ![v184.toNat, 0]
def k0_off13 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c512_i32_145 : BitVec 32 := 512#32
  let v191 : BitVec 32 := Scalar.muli v28 c512_i32_145
  let v192 : BitVec 32 := Scalar.addi v63 v191
  let c0_i32_148 : BitVec 32 := 0#32
  ![v192.toNat, 0]
def k0_off14 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c512_i32_151 : BitVec 32 := 512#32
  let v198 : BitVec 32 := Scalar.muli v28 c512_i32_151
  let v199 : BitVec 32 := Scalar.addi v63 v198
  let c256_i32 : BitVec 32 := 256#32
  let v200 : BitVec 32 := Scalar.addi v199 c256_i32
  let c0_i32_160 : BitVec 32 := 0#32
  ![v200.toNat, 0]
def k0_cond14 (i : grid0.Coords) : BitVec 1 :=
  let arg0 : BitVec 32 := BitVec.ofNat 32 (i 0).val
  let c1_i32_117 : BitVec 32 := 1#32
  let v168 : BitVec 1 := Scalar.cmpi .sge arg0 c1_i32_117
  let c6_i32_118 : BitVec 32 := 6#32
  let v169 : BitVec 1 := Scalar.cmpi .sle arg0 c6_i32_118
  let v170 : BitVec 1 := Scalar.andi v168 v169
  let v171 : BitVec 32 := Scalar.extui v170
  let c0_i32_119 : BitVec 32 := 0#32
  let v172 : BitVec 1 := Scalar.cmpi .ne v171 c0_i32_119
  v172

def k0_dev12 (d0 : Dev nD) : Nat :=
  let c0_i32_131 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_130 : BitVec 32 := 8#32
  let v176 : BitVec 32 := Scalar.muli v2 c8_i32_130
  let v177 : BitVec 32 := Scalar.addi c0_i32_131 v176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_132 : BitVec 32 := 4#32
  let v178 : BitVec 32 := Scalar.muli v5 c4_i32_132
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v8 v21
  let c1_i32_10 : BitVec 32 := 1#32
  let v23 : BitVec 32 := Scalar.addi v22 c1_i32_10
  let c1_i32_133 : BitVec 32 := 1#32
  let v180 : BitVec 32 := Scalar.muli v23 c1_i32_133
  let v181 : BitVec 32 := Scalar.addi v179 v180
  v181.toNat
def k0_dev13 (d0 : Dev nD) : Nat :=
  let c0_i32_136 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_135 : BitVec 32 := 8#32
  let v182 : BitVec 32 := Scalar.muli v2 c8_i32_135
  let v183 : BitVec 32 := Scalar.addi c0_i32_136 v182
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_137 : BitVec 32 := 4#32
  let v184 : BitVec 32 := Scalar.muli v20 c4_i32_137
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v186 : BitVec 32 := Scalar.muli v8 c1_i32_138
  let v187 : BitVec 32 := Scalar.addi v185 v186
  v187.toNat
def k0_cond15 (i : grid0.Coords) : BitVec 1 :=
  let arg0 : BitVec 32 := BitVec.ofNat 32 (i 0).val
  let c7_i32 : BitVec 32 := 7#32
  let v173 : BitVec 1 := Scalar.cmpi .eq arg0 c7_i32
  let v174 : BitVec 32 := Scalar.extui v173
  let c0_i32_128 : BitVec 32 := 0#32
  let v175 : BitVec 1 := Scalar.cmpi .ne v174 c0_i32_128
  v175

def k0_off15 (i : grid0.Coords) (d0 : Dev nD) : Fin 2 → Nat :=
  let arg0 : BitVec 32 := BitVec.ofNat 32 (i 0).val
  let c2048_i32 : BitVec 32 := 2048#32
  let v32 : BitVec 32 := Scalar.muli arg0 c2048_i32
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v30 : BitVec 32 := Scalar.addi v29 c1_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi v30 v18
  let c512_i32_141 : BitVec 32 := 512#32
  let v188 : BitVec 32 := Scalar.muli v31 c512_i32_141
  let v189 : BitVec 32 := Scalar.addi v32 v188
  let c0_i32_149 : BitVec 32 := 0#32
  ![v189.toNat, 0]
def k0_dev14 (d0 : Dev nD) : Nat :=
  let c0_i32_146 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_145 : BitVec 32 := 8#32
  let v190 : BitVec 32 := Scalar.muli v2 c8_i32_145
  let v191 : BitVec 32 := Scalar.addi c0_i32_146 v190
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_147 : BitVec 32 := 4#32
  let v192 : BitVec 32 := Scalar.muli v20 c4_i32_147
  let v193 : BitVec 32 := Scalar.addi v191 v192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v194 : BitVec 32 := Scalar.muli v8 c1_i32_148
  let v195 : BitVec 32 := Scalar.addi v193 v194
  v195.toNat
def k0_off16 (i : grid0.Coords) (d0 : Dev nD) : Fin 2 → Nat :=
  let arg0 : BitVec 32 := BitVec.ofNat 32 (i 0).val
  let c2048_i32 : BitVec 32 := 2048#32
  let v32 : BitVec 32 := Scalar.muli arg0 c2048_i32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c512_i32_166 : BitVec 32 := 512#32
  let v216 : BitVec 32 := Scalar.muli v28 c512_i32_166
  let v217 : BitVec 32 := Scalar.addi v32 v216
  let c256_i32 : BitVec 32 := 256#32
  let v218 : BitVec 32 := Scalar.addi v217 c256_i32
  let c0_i32_174 : BitVec 32 := 0#32
  ![v218.toNat, 0]
def k0_dev15 (d0 : Dev nD) : Nat :=
  let c0_i32_171 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_170 : BitVec 32 := 8#32
  let v219 : BitVec 32 := Scalar.muli v2 c8_i32_170
  let v220 : BitVec 32 := Scalar.addi c0_i32_171 v219
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_172 : BitVec 32 := 4#32
  let v221 : BitVec 32 := Scalar.muli v5 c4_i32_172
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v8 v21
  let c1_i32_10 : BitVec 32 := 1#32
  let v23 : BitVec 32 := Scalar.addi v22 c1_i32_10
  let c1_i32_173 : BitVec 32 := 1#32
  let v223 : BitVec 32 := Scalar.muli v23 c1_i32_173
  let v224 : BitVec 32 := Scalar.addi v222 v223
  v224.toNat
def k0_off17 (i : grid0.Coords) (d0 : Dev nD) : Fin 2 → Nat :=
  let arg0 : BitVec 32 := BitVec.ofNat 32 (i 0).val
  let c2048_i32 : BitVec 32 := 2048#32
  let v32 : BitVec 32 := Scalar.muli arg0 c2048_i32
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v30 : BitVec 32 := Scalar.addi v29 c1_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi v30 v18
  let c512_i32_179 : BitVec 32 := 512#32
  let v233 : BitVec 32 := Scalar.muli v31 c512_i32_179
  let v234 : BitVec 32 := Scalar.addi v32 v233
  let c0_i32_182 : BitVec 32 := 0#32
  ![v234.toNat, 0]
def k0_off18 (i : grid0.Coords) (d0 : Dev nD) : Fin 2 → Nat :=
  let arg0 : BitVec 32 := BitVec.ofNat 32 (i 0).val
  let c2048_i32 : BitVec 32 := 2048#32
  let v32 : BitVec 32 := Scalar.muli arg0 c2048_i32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c512_i32_185 : BitVec 32 := 512#32
  let v240 : BitVec 32 := Scalar.muli v28 c512_i32_185
  let v241 : BitVec 32 := Scalar.addi v32 v240
  let c0_i32_188 : BitVec 32 := 0#32
  ![v241.toNat, 0]
def k0_off19 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v30 : BitVec 32 := Scalar.addi v29 c1_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi v30 v18
  let c512_i32_191 : BitVec 32 := 512#32
  let v247 : BitVec 32 := Scalar.muli v31 c512_i32_191
  let v248 : BitVec 32 := Scalar.addi v63 v247
  let c0_i32_199 : BitVec 32 := 0#32
  ![v248.toNat, 0]
def k0_off20 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c512_i32_204 : BitVec 32 := 512#32
  let v261 : BitVec 32 := Scalar.muli v28 c512_i32_204
  let v262 : BitVec 32 := Scalar.addi v63 v261
  let c256_i32_205 : BitVec 32 := 256#32
  let v263 : BitVec 32 := Scalar.addi v262 c256_i32_205
  let c0_i32_213 : BitVec 32 := 0#32
  ![v263.toNat, 0]
def k0_off21 (i : grid0.Coords) (d0 : Dev nD) : Fin 2 → Nat :=
  let arg0 : BitVec 32 := BitVec.ofNat 32 (i 0).val
  let c2048_i32 : BitVec 32 := 2048#32
  let v32 : BitVec 32 := Scalar.muli arg0 c2048_i32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c512_i32_282 : BitVec 32 := 512#32
  let v338 : BitVec 32 := Scalar.muli v25 c512_i32_282
  let v339 : BitVec 32 := Scalar.addi v32 v338
  let c0_i32_285 : BitVec 32 := 0#32
  ![v339.toNat, 0]
def k0_off22 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c512_i32_306 : BitVec 32 := 512#32
  let v357 : BitVec 32 := Scalar.muli v25 c512_i32_306
  let v358 : BitVec 32 := Scalar.addi v63 v357
  let c0_i32_309 : BitVec 32 := 0#32
  ![v358.toNat, 0]
def k0_cond16 (i : grid0.Coords) : BitVec 1 :=
  let arg0 : BitVec 32 := BitVec.ofNat 32 (i 0).val
  let c2_i32_26 : BitVec 32 := 2#32
  let c0_i32_27 : BitVec 32 := 0#32
  let v49 : BitVec 1 := Scalar.cmpi .eq c2_i32_26 c0_i32_27
  let c1_i32_28 : BitVec 32 := 1#32
  let v50 : BitVec 32 := Scalar.select v49 c1_i32_28 c2_i32_26
  let v51 : BitVec 32 := Scalar.remsi arg0 v50
  let c0_i32_30 : BitVec 32 := 0#32
  let v53 : BitVec 1 := Scalar.cmpi .slt v51 c0_i32_30
  let c0_i32_31 : BitVec 32 := 0#32
  let v54 : BitVec 1 := Scalar.cmpi .slt v50 c0_i32_31
  let v55 : BitVec 1 := Scalar.xori v53 v54
  let c0_i32_29 : BitVec 32 := 0#32
  let v52 : BitVec 1 := Scalar.cmpi .ne v51 c0_i32_29
  let v56 : BitVec 1 := Scalar.andi v55 v52
  let v57 : BitVec 32 := Scalar.addi v51 v50
  let v58 : BitVec 32 := Scalar.select v56 v57 v51
  let c1_i32_32 : BitVec 32 := 1#32
  let v59 : BitVec 1 := Scalar.cmpi .eq v58 c1_i32_32
  let v60 : BitVec 32 := Scalar.extui v59
  let c0_i32_33 : BitVec 32 := 0#32
  let v61 : BitVec 1 := Scalar.cmpi .ne v60 c0_i32_33
  v61

def k0_off23 (d0 : Dev nD) : Fin 2 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c512_i32 : BitVec 32 := 512#32
  let v67 : BitVec 32 := Scalar.muli v25 c512_i32
  let c0_i32_47 : BitVec 32 := 0#32
  ![v67.toNat, 0]
def k0_dev16 (d0 : Dev nD) : Nat :=
  let c0_i32_42 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_41 : BitVec 32 := 8#32
  let v68 : BitVec 32 := Scalar.muli v19 c8_i32_41
  let v69 : BitVec 32 := Scalar.addi c0_i32_42 v68
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_43 : BitVec 32 := 4#32
  let v70 : BitVec 32 := Scalar.muli v5 c4_i32_43
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v72 : BitVec 32 := Scalar.muli v8 c1_i32_44
  let v73 : BitVec 32 := Scalar.addi v71 v72
  v73.toNat
def k0_cond18 (i : grid0.Coords) : BitVec 1 :=
  let arg0 : BitVec 32 := BitVec.ofNat 32 (i 0).val
  let c2_i32_48 : BitVec 32 := 2#32
  let v81 : BitVec 1 := Scalar.cmpi .sge arg0 c2_i32_48
  let v82 : BitVec 32 := Scalar.extui v81
  let c0_i32_49 : BitVec 32 := 0#32
  let v83 : BitVec 1 := Scalar.cmpi .ne v82 c0_i32_49
  v83

def k0_off24 (i : grid0.Coords) (d0 : Dev nD) : Fin 2 → Nat :=
  let arg0 : BitVec 32 := BitVec.ofNat 32 (i 0).val
  let c2_i32_128 : BitVec 32 := 2#32
  let v176 : BitVec 32 := Scalar.subi arg0 c2_i32_128
  let c2048_i32_129 : BitVec 32 := 2048#32
  let v177 : BitVec 32 := Scalar.muli v176 c2048_i32_129
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v30 : BitVec 32 := Scalar.addi v29 c1_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi v30 v18
  let c512_i32_130 : BitVec 32 := 512#32
  let v178 : BitVec 32 := Scalar.muli v31 c512_i32_130
  let v179 : BitVec 32 := Scalar.addi v177 v178
  let c0_i32_138 : BitVec 32 := 0#32
  ![v179.toNat, 0]
def k0_off25 (i : grid0.Coords) (d0 : Dev nD) : Fin 2 → Nat :=
  let arg0 : BitVec 32 := BitVec.ofNat 32 (i 0).val
  let c2_i32_143 : BitVec 32 := 2#32
  let v192 : BitVec 32 := Scalar.subi arg0 c2_i32_143
  let c2048_i32_144 : BitVec 32 := 2048#32
  let v193 : BitVec 32 := Scalar.muli v192 c2048_i32_144
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c512_i32_145 : BitVec 32 := 512#32
  let v194 : BitVec 32 := Scalar.muli v28 c512_i32_145
  let v195 : BitVec 32 := Scalar.addi v193 v194
  let c256_i32 : BitVec 32 := 256#32
  let v196 : BitVec 32 := Scalar.addi v195 c256_i32
  let c0_i32_153 : BitVec 32 := 0#32
  ![v196.toNat, 0]
def k0_cond19 (i : grid0.Coords) : BitVec 1 :=
  let arg0 : BitVec 32 := BitVec.ofNat 32 (i 0).val
  let c2_i32_50 : BitVec 32 := 2#32
  let v84 : BitVec 1 := Scalar.cmpi .sge arg0 c2_i32_50
  let c6_i32 : BitVec 32 := 6#32
  let v85 : BitVec 1 := Scalar.cmpi .sle arg0 c6_i32
  let v86 : BitVec 1 := Scalar.andi v84 v85
  let v87 : BitVec 32 := Scalar.extui v86
  let c0_i32_51 : BitVec 32 := 0#32
  let v88 : BitVec 1 := Scalar.cmpi .ne v87 c0_i32_51
  v88

def k0_dev17 (d0 : Dev nD) : Nat :=
  let c0_i32_130 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_129 : BitVec 32 := 8#32
  let v176 : BitVec 32 := Scalar.muli v2 c8_i32_129
  let v177 : BitVec 32 := Scalar.addi c0_i32_130 v176
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_131 : BitVec 32 := 4#32
  let v178 : BitVec 32 := Scalar.muli v20 c4_i32_131
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v180 : BitVec 32 := Scalar.muli v8 c1_i32_132
  let v181 : BitVec 32 := Scalar.addi v179 v180
  v181.toNat
def k0_dev18 (d0 : Dev nD) : Nat :=
  let c0_i32_135 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_134 : BitVec 32 := 8#32
  let v182 : BitVec 32 := Scalar.muli v2 c8_i32_134
  let v183 : BitVec 32 := Scalar.addi c0_i32_135 v182
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_136 : BitVec 32 := 4#32
  let v184 : BitVec 32 := Scalar.muli v5 c4_i32_136
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v8 v21
  let c1_i32_10 : BitVec 32 := 1#32
  let v23 : BitVec 32 := Scalar.addi v22 c1_i32_10
  let c1_i32_137 : BitVec 32 := 1#32
  let v186 : BitVec 32 := Scalar.muli v23 c1_i32_137
  let v187 : BitVec 32 := Scalar.addi v185 v186
  v187.toNat
def k0_cond20 (i : grid0.Coords) : BitVec 1 :=
  let arg0 : BitVec 32 := BitVec.ofNat 32 (i 0).val
  let c1_i32_52 : BitVec 32 := 1#32
  let v89 : BitVec 1 := Scalar.cmpi .sge arg0 c1_i32_52
  let v90 : BitVec 32 := Scalar.extui v89
  let c0_i32_53 : BitVec 32 := 0#32
  let v91 : BitVec 1 := Scalar.cmpi .ne v90 c0_i32_53
  v91

def k0_off26 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v30 : BitVec 32 := Scalar.addi v29 c1_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi v30 v18
  let c512_i32_141 : BitVec 32 := 512#32
  let v191 : BitVec 32 := Scalar.muli v31 c512_i32_141
  let v192 : BitVec 32 := Scalar.addi v63 v191
  let c0_i32_149 : BitVec 32 := 0#32
  ![v192.toNat, 0]
def k0_dev19 (d0 : Dev nD) : Nat :=
  let c0_i32_146 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_145 : BitVec 32 := 8#32
  let v193 : BitVec 32 := Scalar.muli v2 c8_i32_145
  let v194 : BitVec 32 := Scalar.addi c0_i32_146 v193
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_147 : BitVec 32 := 4#32
  let v195 : BitVec 32 := Scalar.muli v20 c4_i32_147
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v197 : BitVec 32 := Scalar.muli v8 c1_i32_148
  let v198 : BitVec 32 := Scalar.addi v196 v197
  v198.toNat
def k0_off27 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c512_i32_168 : BitVec 32 := 512#32
  let v222 : BitVec 32 := Scalar.muli v28 c512_i32_168
  let v223 : BitVec 32 := Scalar.addi v63 v222
  let c256_i32 : BitVec 32 := 256#32
  let v224 : BitVec 32 := Scalar.addi v223 c256_i32
  let c0_i32_176 : BitVec 32 := 0#32
  ![v224.toNat, 0]
def k0_dev20 (d0 : Dev nD) : Nat :=
  let c0_i32_173 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_172 : BitVec 32 := 8#32
  let v225 : BitVec 32 := Scalar.muli v2 c8_i32_172
  let v226 : BitVec 32 := Scalar.addi c0_i32_173 v225
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_174 : BitVec 32 := 4#32
  let v227 : BitVec 32 := Scalar.muli v5 c4_i32_174
  let v228 : BitVec 32 := Scalar.addi v226 v227
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v8 v21
  let c1_i32_10 : BitVec 32 := 1#32
  let v23 : BitVec 32 := Scalar.addi v22 c1_i32_10
  let c1_i32_175 : BitVec 32 := 1#32
  let v229 : BitVec 32 := Scalar.muli v23 c1_i32_175
  let v230 : BitVec 32 := Scalar.addi v228 v229
  v230.toNat
def k0_off28 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v30 : BitVec 32 := Scalar.addi v29 c1_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi v30 v18
  let c512_i32_181 : BitVec 32 := 512#32
  let v239 : BitVec 32 := Scalar.muli v31 c512_i32_181
  let v240 : BitVec 32 := Scalar.addi v63 v239
  let c0_i32_184 : BitVec 32 := 0#32
  ![v240.toNat, 0]
def k0_off29 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c512_i32_187 : BitVec 32 := 512#32
  let v246 : BitVec 32 := Scalar.muli v28 c512_i32_187
  let v247 : BitVec 32 := Scalar.addi v63 v246
  let c0_i32_190 : BitVec 32 := 0#32
  ![v247.toNat, 0]
def k0_cond23 (i : grid0.Coords) : BitVec 1 :=
  let arg0 : BitVec 32 := BitVec.ofNat 32 (i 0).val
  let c2_i32_64 : BitVec 32 := 2#32
  let v103 : BitVec 1 := Scalar.cmpi .sge arg0 c2_i32_64
  let v104 : BitVec 32 := Scalar.extui v103
  let c0_i32_65 : BitVec 32 := 0#32
  let v105 : BitVec 1 := Scalar.cmpi .ne v104 c0_i32_65
  v105

def k0_off30 (i : grid0.Coords) (d0 : Dev nD) : Fin 2 → Nat :=
  let arg0 : BitVec 32 := BitVec.ofNat 32 (i 0).val
  let c2048_i32 : BitVec 32 := 2048#32
  let v32 : BitVec 32 := Scalar.muli arg0 c2048_i32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c512_i32_146 : BitVec 32 := 512#32
  let v188 : BitVec 32 := Scalar.muli v25 c512_i32_146
  let v189 : BitVec 32 := Scalar.addi v32 v188
  let c0_i32_149 : BitVec 32 := 0#32
  ![v189.toNat, 0]
def k0_off31 (d0 : Dev nD) : Fin 2 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c512_i32_66 : BitVec 32 := 512#32
  let v106 : BitVec 32 := Scalar.muli v25 c512_i32_66
  let v107 : Index := Scalar.indexCast v106
  let c0 : Index := 0#32
  ![v107.toNat, 0]
def k0_cond24 (i : grid0.Coords) : BitVec 1 :=
  let arg0 : BitVec 32 := BitVec.ofNat 32 (i 0).val
  let c5_i32 : BitVec 32 := 5#32
  let v116 : BitVec 1 := Scalar.cmpi .sle arg0 c5_i32
  let v117 : BitVec 32 := Scalar.extui v116
  let c0_i32_72 : BitVec 32 := 0#32
  let v118 : BitVec 1 := Scalar.cmpi .ne v117 c0_i32_72
  v118

def k0_dev21 (d0 : Dev nD) : Nat :=
  let c0_i32_130 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_129 : BitVec 32 := 8#32
  let v176 : BitVec 32 := Scalar.muli v19 c8_i32_129
  let v177 : BitVec 32 := Scalar.addi c0_i32_130 v176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_131 : BitVec 32 := 4#32
  let v178 : BitVec 32 := Scalar.muli v5 c4_i32_131
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v180 : BitVec 32 := Scalar.muli v8 c1_i32_132
  let v181 : BitVec 32 := Scalar.addi v179 v180
  v181.toNat
def k0_dev22 (d0 : Dev nD) : Nat :=
  let c0_i32_87 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_86 : BitVec 32 := 8#32
  let v127 : BitVec 32 := Scalar.muli v2 c8_i32_86
  let v128 : BitVec 32 := Scalar.addi c0_i32_87 v127
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_88 : BitVec 32 := 4#32
  let v129 : BitVec 32 := Scalar.muli v20 c4_i32_88
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v131 : BitVec 32 := Scalar.muli v8 c1_i32_89
  let v132 : BitVec 32 := Scalar.addi v130 v131
  v132.toNat
def k0_dev23 (d0 : Dev nD) : Nat :=
  let c0_i32_101 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_100 : BitVec 32 := 8#32
  let v144 : BitVec 32 := Scalar.muli v2 c8_i32_100
  let v145 : BitVec 32 := Scalar.addi c0_i32_101 v144
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_102 : BitVec 32 := 4#32
  let v146 : BitVec 32 := Scalar.muli v5 c4_i32_102
  let v147 : BitVec 32 := Scalar.addi v145 v146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v8 v21
  let c1_i32_10 : BitVec 32 := 1#32
  let v23 : BitVec 32 := Scalar.addi v22 c1_i32_10
  let c1_i32_103 : BitVec 32 := 1#32
  let v148 : BitVec 32 := Scalar.muli v23 c1_i32_103
  let v149 : BitVec 32 := Scalar.addi v147 v148
  v149.toNat
def k0_off32 (i : grid0.Coords) (d0 : Dev nD) : Fin 2 → Nat :=
  let arg0 : BitVec 32 := BitVec.ofNat 32 (i 0).val
  let c2048_i32 : BitVec 32 := 2048#32
  let v32 : BitVec 32 := Scalar.muli arg0 c2048_i32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c512_i32_108 : BitVec 32 := 512#32
  let v158 : BitVec 32 := Scalar.muli v25 c512_i32_108
  let v159 : BitVec 32 := Scalar.addi v32 v158
  let c0_i32_111 : BitVec 32 := 0#32
  ![v159.toNat, 0]
def k0_cond27 (i : grid0.Coords) : BitVec 1 :=
  let arg0 : BitVec 32 := BitVec.ofNat 32 (i 0).val
  let c1_i32_114 : BitVec 32 := 1#32
  let v165 : BitVec 1 := Scalar.cmpi .sge arg0 c1_i32_114
  let v166 : BitVec 32 := Scalar.extui v165
  let c0_i32_115 : BitVec 32 := 0#32
  let v167 : BitVec 1 := Scalar.cmpi .ne v166 c0_i32_115
  v167

def k0_off33 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v30 : BitVec 32 := Scalar.addi v29 c1_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi v30 v18
  let c512_i32_128 : BitVec 32 := 512#32
  let v176 : BitVec 32 := Scalar.muli v31 c512_i32_128
  let v177 : BitVec 32 := Scalar.addi v63 v176
  let c0_i32_131 : BitVec 32 := 0#32
  ![v177.toNat, 0]
def k0_off34 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v30 : BitVec 32 := Scalar.addi v29 c1_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi v30 v18
  let c512_i32_134 : BitVec 32 := 512#32
  let v183 : BitVec 32 := Scalar.muli v31 c512_i32_134
  let v184 : BitVec 32 := Scalar.addi v63 v183
  let c0_i32_143 : BitVec 32 := 0#32
  ![v184.toNat, 0]
def k0_off35 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c512_i32_144 : BitVec 32 := 512#32
  let v191 : BitVec 32 := Scalar.muli v28 c512_i32_144
  let v192 : BitVec 32 := Scalar.addi v63 v191
  let c0_i32_147 : BitVec 32 := 0#32
  ![v192.toNat, 0]
def k0_off36 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c512_i32_150 : BitVec 32 := 512#32
  let v198 : BitVec 32 := Scalar.muli v28 c512_i32_150
  let v199 : BitVec 32 := Scalar.addi v63 v198
  let c256_i32 : BitVec 32 := 256#32
  let v200 : BitVec 32 := Scalar.addi v199 c256_i32
  let c0_i32_159 : BitVec 32 := 0#32
  ![v200.toNat, 0]
def k0_cond28 (i : grid0.Coords) : BitVec 1 :=
  let arg0 : BitVec 32 := BitVec.ofNat 32 (i 0).val
  let c1_i32_116 : BitVec 32 := 1#32
  let v168 : BitVec 1 := Scalar.cmpi .sge arg0 c1_i32_116
  let c6_i32_117 : BitVec 32 := 6#32
  let v169 : BitVec 1 := Scalar.cmpi .sle arg0 c6_i32_117
  let v170 : BitVec 1 := Scalar.andi v168 v169
  let v171 : BitVec 32 := Scalar.extui v170
  let c0_i32_118 : BitVec 32 := 0#32
  let v172 : BitVec 1 := Scalar.cmpi .ne v171 c0_i32_118
  v172

def k0_dev24 (d0 : Dev nD) : Nat :=
  let c0_i32_130 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_129 : BitVec 32 := 8#32
  let v176 : BitVec 32 := Scalar.muli v2 c8_i32_129
  let v177 : BitVec 32 := Scalar.addi c0_i32_130 v176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_131 : BitVec 32 := 4#32
  let v178 : BitVec 32 := Scalar.muli v5 c4_i32_131
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v8 v21
  let c1_i32_10 : BitVec 32 := 1#32
  let v23 : BitVec 32 := Scalar.addi v22 c1_i32_10
  let c1_i32_132 : BitVec 32 := 1#32
  let v180 : BitVec 32 := Scalar.muli v23 c1_i32_132
  let v181 : BitVec 32 := Scalar.addi v179 v180
  v181.toNat
def k0_dev25 (d0 : Dev nD) : Nat :=
  let c0_i32_135 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_134 : BitVec 32 := 8#32
  let v182 : BitVec 32 := Scalar.muli v2 c8_i32_134
  let v183 : BitVec 32 := Scalar.addi c0_i32_135 v182
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_136 : BitVec 32 := 4#32
  let v184 : BitVec 32 := Scalar.muli v20 c4_i32_136
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v186 : BitVec 32 := Scalar.muli v8 c1_i32_137
  let v187 : BitVec 32 := Scalar.addi v185 v186
  v187.toNat
def k0_cond29 (i : grid0.Coords) : BitVec 1 :=
  let arg0 : BitVec 32 := BitVec.ofNat 32 (i 0).val
  let c7_i32 : BitVec 32 := 7#32
  let v173 : BitVec 1 := Scalar.cmpi .eq arg0 c7_i32
  let v174 : BitVec 32 := Scalar.extui v173
  let c0_i32_127 : BitVec 32 := 0#32
  let v175 : BitVec 1 := Scalar.cmpi .ne v174 c0_i32_127
  v175

def k0_off37 (i : grid0.Coords) (d0 : Dev nD) : Fin 2 → Nat :=
  let arg0 : BitVec 32 := BitVec.ofNat 32 (i 0).val
  let c2048_i32 : BitVec 32 := 2048#32
  let v32 : BitVec 32 := Scalar.muli arg0 c2048_i32
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v30 : BitVec 32 := Scalar.addi v29 c1_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi v30 v18
  let c512_i32_140 : BitVec 32 := 512#32
  let v188 : BitVec 32 := Scalar.muli v31 c512_i32_140
  let v189 : BitVec 32 := Scalar.addi v32 v188
  let c0_i32_148 : BitVec 32 := 0#32
  ![v189.toNat, 0]
def k0_dev26 (d0 : Dev nD) : Nat :=
  let c0_i32_145 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_144 : BitVec 32 := 8#32
  let v190 : BitVec 32 := Scalar.muli v2 c8_i32_144
  let v191 : BitVec 32 := Scalar.addi c0_i32_145 v190
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_146 : BitVec 32 := 4#32
  let v192 : BitVec 32 := Scalar.muli v20 c4_i32_146
  let v193 : BitVec 32 := Scalar.addi v191 v192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v194 : BitVec 32 := Scalar.muli v8 c1_i32_147
  let v195 : BitVec 32 := Scalar.addi v193 v194
  v195.toNat
def k0_off38 (i : grid0.Coords) (d0 : Dev nD) : Fin 2 → Nat :=
  let arg0 : BitVec 32 := BitVec.ofNat 32 (i 0).val
  let c2048_i32 : BitVec 32 := 2048#32
  let v32 : BitVec 32 := Scalar.muli arg0 c2048_i32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c512_i32_165 : BitVec 32 := 512#32
  let v216 : BitVec 32 := Scalar.muli v28 c512_i32_165
  let v217 : BitVec 32 := Scalar.addi v32 v216
  let c256_i32 : BitVec 32 := 256#32
  let v218 : BitVec 32 := Scalar.addi v217 c256_i32
  let c0_i32_173 : BitVec 32 := 0#32
  ![v218.toNat, 0]
def k0_dev27 (d0 : Dev nD) : Nat :=
  let c0_i32_170 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_169 : BitVec 32 := 8#32
  let v219 : BitVec 32 := Scalar.muli v2 c8_i32_169
  let v220 : BitVec 32 := Scalar.addi c0_i32_170 v219
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_171 : BitVec 32 := 4#32
  let v221 : BitVec 32 := Scalar.muli v5 c4_i32_171
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v8 v21
  let c1_i32_10 : BitVec 32 := 1#32
  let v23 : BitVec 32 := Scalar.addi v22 c1_i32_10
  let c1_i32_172 : BitVec 32 := 1#32
  let v223 : BitVec 32 := Scalar.muli v23 c1_i32_172
  let v224 : BitVec 32 := Scalar.addi v222 v223
  v224.toNat
def k0_off39 (i : grid0.Coords) (d0 : Dev nD) : Fin 2 → Nat :=
  let arg0 : BitVec 32 := BitVec.ofNat 32 (i 0).val
  let c2048_i32 : BitVec 32 := 2048#32
  let v32 : BitVec 32 := Scalar.muli arg0 c2048_i32
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v30 : BitVec 32 := Scalar.addi v29 c1_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi v30 v18
  let c512_i32_178 : BitVec 32 := 512#32
  let v233 : BitVec 32 := Scalar.muli v31 c512_i32_178
  let v234 : BitVec 32 := Scalar.addi v32 v233
  let c0_i32_181 : BitVec 32 := 0#32
  ![v234.toNat, 0]
def k0_off40 (i : grid0.Coords) (d0 : Dev nD) : Fin 2 → Nat :=
  let arg0 : BitVec 32 := BitVec.ofNat 32 (i 0).val
  let c2048_i32 : BitVec 32 := 2048#32
  let v32 : BitVec 32 := Scalar.muli arg0 c2048_i32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c512_i32_184 : BitVec 32 := 512#32
  let v240 : BitVec 32 := Scalar.muli v28 c512_i32_184
  let v241 : BitVec 32 := Scalar.addi v32 v240
  let c0_i32_187 : BitVec 32 := 0#32
  ![v241.toNat, 0]
def k0_off41 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v30 : BitVec 32 := Scalar.addi v29 c1_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi v30 v18
  let c512_i32_190 : BitVec 32 := 512#32
  let v247 : BitVec 32 := Scalar.muli v31 c512_i32_190
  let v248 : BitVec 32 := Scalar.addi v63 v247
  let c0_i32_198 : BitVec 32 := 0#32
  ![v248.toNat, 0]
def k0_off42 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c512_i32_203 : BitVec 32 := 512#32
  let v261 : BitVec 32 := Scalar.muli v28 c512_i32_203
  let v262 : BitVec 32 := Scalar.addi v63 v261
  let c256_i32_204 : BitVec 32 := 256#32
  let v263 : BitVec 32 := Scalar.addi v262 c256_i32_204
  let c0_i32_212 : BitVec 32 := 0#32
  ![v263.toNat, 0]
def k0_off43 (i : grid0.Coords) (d0 : Dev nD) : Fin 2 → Nat :=
  let arg0 : BitVec 32 := BitVec.ofNat 32 (i 0).val
  let c2048_i32 : BitVec 32 := 2048#32
  let v32 : BitVec 32 := Scalar.muli arg0 c2048_i32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c512_i32_281 : BitVec 32 := 512#32
  let v338 : BitVec 32 := Scalar.muli v25 c512_i32_281
  let v339 : BitVec 32 := Scalar.addi v32 v338
  let c0_i32_284 : BitVec 32 := 0#32
  ![v339.toNat, 0]
def k0_off44 (i : grid0.Coords) (d0 : Dev nD) : Fin 2 → Nat :=
  let arg0 : BitVec 32 := BitVec.ofNat 32 (i 0).val
  let c1_i32_34 : BitVec 32 := 1#32
  let v62 : BitVec 32 := Scalar.subi arg0 c1_i32_34
  let c2048_i32_35 : BitVec 32 := 2048#32
  let v63 : BitVec 32 := Scalar.muli v62 c2048_i32_35
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c512_i32_305 : BitVec 32 := 512#32
  let v357 : BitVec 32 := Scalar.muli v25 c512_i32_305
  let v358 : BitVec 32 := Scalar.addi v63 v357
  let c0_i32_308 : BitVec 32 := 0#32
  ![v358.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S32768x1024 : Shape := ⟨2, ![32768, 1024]⟩
abbrev S2x16384x1024 : Shape := ⟨3, ![2, 16384, 1024]⟩
abbrev S_ : Shape := ⟨0, ![]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x16384x1024, .f32⟩
  | .hbm, ⟨2, _⟩ => ⟨S_, .f32⟩
  | .hbm, ⟨3, _⟩ => ⟨S16384x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Geo.lean ====
/-
  The buffers, the devices and the contents of the two-stage exchange: which rows of the result each device sends and
  receives, what they hold, and how a buffer held whole is the conjunction of its slots, halves and quarters.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Release
public import Idealize.ShloMosaic.Lib.Rounds
public import Idealize.ShloMosaic.Lib.Pipeline.TalkSites
public import Idealize.ShloMosaic.Lib.Transfers
public import Idealize.ShloMosaic.Lib.Tactic

@[expose] public section

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Devices: `d = 8x + 4y + z`, a partner along each axis -/

set_option backward.proofsInPublic true in
def xp (d : Dev nD) : Dev nD := ⟨(d.val + 8) % 16, Nat.mod_lt _ (by decide)⟩
set_option backward.proofsInPublic true in
/-- The partner along `y` (`false`) or along the pair of `z` (`true`). -/
def pa (a : Bool) (d : Dev nD) : Dev nD :=
  ⟨if a then 2 * (d.val / 2) + (1 - d.val % 2) else 8 * (d.val / 8) + (d.val % 8 + 4) % 8, by
    have h : d.val < 16 := d.isLt
    show _ < 16
    split <;> omega⟩
/-- The quarter of each block a device reduces. -/
def tau (d : Dev nD) : ℕ := 2 * (d.val / 4 % 2) + d.val % 2
/-- The device across both axes. -/
def dg (d : Dev nD) : Dev nD := pa false (pa true d)
set_option backward.proofsInPublic true in
/-- The device beside `d` (same `x`, same pair of `z`) that reduces quarter `q`. -/
def own (d : Dev nD) (q : ℕ) : Dev nD :=
  ⟨8 * (d.val / 8) + 4 * (q / 2 % 2) + 2 * (d.val % 4 / 2) + q % 2, by
    have h : d.val < 16 := d.isLt
    show _ < 16
    omega⟩

theorem xp_xp (d : Dev nD) : xp (xp d) = d := by revert d; decide
theorem pa_pa (a : Bool) (d : Dev nD) : pa a (pa a d) = d := by revert a d; decide
theorem pa_comm (a : Bool) (d : Dev nD) : pa a (pa (!a) d) = dg d := by revert a d; decide
theorem dg_pa (a : Bool) (d : Dev nD) : dg (pa a d) = pa (!a) d := by revert a d; decide
theorem tau_xp (d : Dev nD) : tau (xp d) = tau d := by revert d; decide
theorem tau_lt (d : Dev nD) : tau d < 4 := by revert d; decide
theorem own_tau (d : Dev nD) : own d (tau d) = d := by revert d; decide
theorem own_tau_pa (a : Bool) (d : Dev nD) : own d (tau (pa a d)) = pa a d := by revert a d; decide
theorem own_tau_dg (d : Dev nD) : own d (tau (dg d)) = dg d := by revert d; decide

/-! ## Memrefs: a slot of a two-slot buffer, a half of a slot, rows of the result -/

abbrev V3 := Memref sig .tc .vmem S2x512x1024 .f32
abbrev V2 := Memref sig .tc .vmem S512x1024 .f32
/-- A quarter of a block, and half of that. -/
abbrev T2 (F : FTy → Type) := S512x1024.Idx → Elt F .f32
abbrev T1 (F : FTy → Type) := S256x1024.Idx → Elt F .f32

theorem sl_inb {s : Fin 2} : ∀ a, (![s.val, 0, 0] : Fin 3 → ℕ) a + S1x512x1024.size a ≤ S2x512x1024.size a := by
  revert s; decide +kernel
/-- The rectangle of slot `s`. -/
abbrev slr (s : Fin 2) : Rect S2x512x1024 := Rect.unit (s := S2x512x1024) ![s.val, 0, 0] S1x512x1024.size sl_inb
/-- Slot `s`. -/
abbrev sl (M : V3) (s : Fin 2) : V2 := (M.slice (slr s) (fun _ => rfl)).squeeze S512x1024 squeezes_S1x512x1024_S512x1024

theorem hr_inb {h : Bool} : ∀ a, (![256 * h.toNat, 0] : Fin 2 → ℕ) a + S256x1024.size a ≤ S512x1024.size a := by
  revert h; decide +kernel
/-- The rectangle of the first (`false`) or last (`true`) 256 rows of 512. -/
abbrev hr (h : Bool) : Rect S512x1024 := Rect.unit (s := S512x1024) ![256 * h.toNat, 0] S256x1024.size hr_inb
abbrev hf (M : V2) (h : Bool) : Memref sig .tc .vmem S256x1024 .f32 := M.slice (hr h) (fun _ => rfl)

/-- The half of a quarter's contents. -/
def hv (h : Bool) (w : T2 F) : T1 F := fun x => w ((hr h).emb x)

/-- The scratch buffers: the partner's quarter along `x`, the sum, the neighbours' sums along `y` and `z`. -/
abbrev xcM : V3 := Memref.whole cc0_scratch0
abbrev smM : V3 := Memref.whole cc0_scratch1
abbrev inM (a : Bool) : V3 := match a with | false => Memref.whole cc0_scratch2 | true => Memref.whole cc0_scratch3
abbrev outM : Memref sig .tc .hbm S16384x1024 .f32 := Memref.whole main_v1
/-- The window's staging buffer, by slot. -/
abbrev stM (s : Fin 2) : Memref sig .tc .vmem S2048x1024 .f32 := match s with | 0 => Memref.whole cc0_stg0_0 | 1 => Memref.whole cc0_stg0_1

theorem xinb {c : Dev nD} : ∀ a, (![tau c * 512, 0] : Fin 2 → ℕ) a + S512x1024.size a ≤ S2048x1024.size a := by
  revert c; decide +kernel
/-- The device's own quarter of the block its window stages. -/
abbrev xrM (c : Dev nD) (s : Fin 2) : V2 := (stM s).slice (Rect.unit (s := S2048x1024) ![tau c * 512, 0] S512x1024.size xinb) (fun _ => rfl)

/-! ## Contents -/

variable (m : (ℓ : Loc nD τ sig) → Buf (Elt F) ℓ)

/-- Device `d`'s quarter of block `k` of its input. -/
def X (d : Dev nD) (k : ℕ) : T2 F := fun x =>
  (m ((d : Thread nD τ).loc main_arg0) : S16384x1024.Idx → Elt F .f32)
    (fun | 0 => ⟨(2048 * k + 512 * tau d + (x 0).val) % 16384, Nat.mod_lt _ (by decide)⟩ | 1 => x 1)
/-- That plus its partner's along `x`. -/
def Sm (d : Dev nD) (k : ℕ) : T2 F := addf (X m d k) (X m (xp d) k)

/-- The result on device `c`: each quarter of each block the sum its reducer beside `c` formed. -/
def G (c : Dev nD) : S16384x1024.Idx → Elt F .f32 := fun i =>
  Sm m (own c ((i 0).val / 512 % 4)) ((i 0).val / 2048)
    (fun | 0 => ⟨(i 0).val % 512, Nat.mod_lt _ (by decide)⟩ | 1 => i 1)

/-! ## Regions of the result -/

/-- Rows `lo ≤ r < lo + n` of the result. -/
def rows (lo n : ℕ) : Finset S16384x1024.Idx := Finset.univ.filter fun i => lo ≤ (i 0).val ∧ (i 0).val < lo + n

theorem set_rows {o : Fin 2 → ℕ} {sz : Fin 2 → ℕ} (inb : ∀ a, o a + sz a ≤ S16384x1024.size a) (h0 : o 1 = 0) (h1 : sz 1 = 1024) :
    (outM.slice (Rect.unit (s := S16384x1024) o sz inb) (fun _ => rfl)).view.set = rows (o 0) (sz 0) := by
  show (View.slice (View.whole main_v1) (Rect.unit (s := S16384x1024) o sz inb)).set = _
  rw [View.set_slice_whole]
  ext i
  rw [Rect.mem_set_unit, rows, Finset.mem_filter]
  constructor
  · intro h; exact ⟨Finset.mem_univ _, h 0⟩
  · rintro ⟨-, h⟩ a
    match a with
    | 0 => exact h
    | 1 => rw [h0, h1]; exact ⟨Nat.zero_le _, by have h1024 : (i 1).val < 1024 := (i 1).isLt; omega⟩

omit [FloatOps F] in
theorem rows_disjoint {lo n lo' n' : ℕ} (h : lo + n ≤ lo') : Disjoint (rows lo n) (rows lo' n') := by
  rw [Finset.disjoint_left]; intro i hi hj
  simp only [rows, Finset.mem_filter] at hi hj; omega
theorem rows_append (lo n n' : ℕ) : rows lo (n + n') = rows lo n ∪ rows (lo + n) n' := by
  ext i; simp only [rows, Finset.mem_filter, Finset.mem_union, Finset.mem_univ, true_and]; omega
theorem rows_all : rows 0 16384 = Finset.univ := by
  ext i; simp only [rows, Finset.mem_filter, Finset.mem_univ, true_and, iff_true]
  exact ⟨Nat.zero_le _, by have : (i 0).val < 16384 := (i 0).isLt; omega⟩

/-! ## What the result reads as -/

/-- A quarter of the result. -/
theorem read_quarter (c : Dev nD) (k q : ℕ) (hk : k < 8) (hq : q < 4) {o : Fin 2 → ℕ} (inb : ∀ a, o a + S512x1024.size a ≤ S16384x1024.size a)
    (h0 : o 0 = 2048 * k + 512 * q) (h1 : o 1 = 0) :
    (outM.slice (Rect.unit (s := S16384x1024) o S512x1024.size inb) (fun _ => rfl)).view.read (Elt F) (G m c) = Sm m (own c q) k := by
  funext x
  show G m c ((Rect.unit (s := S16384x1024) o S512x1024.size inb).emb x) = _
  have hx : (x 0).val < 512 := (x 0).isLt
  have e0 : (((Rect.unit (s := S16384x1024) o S512x1024.size inb).emb x) 0).val = o 0 + 1 * (x 0).val := rfl
  have e1 : (((Rect.unit (s := S16384x1024) o S512x1024.size inb).emb x) 1).val = o 1 + 1 * (x 1).val := rfl
  unfold G
  rw [show (((Rect.unit (s := S16384x1024) o S512x1024.size inb).emb x) 0).val / 512 % 4 = q by rw [e0]; omega,
    show (((Rect.unit (s := S16384x1024) o S512x1024.size inb).emb x) 0).val / 2048 = k by rw [e0]; omega]
  congr 1
  funext a
  match a with
  | 0 => exact Fin.ext (by show _ % 512 = _; rw [e0]; omega)
  | 1 => exact Fin.ext (by rw [e1, h1]; omega)

/-- Half a quarter of the result. -/
theorem read_half (c : Dev nD) (k q : ℕ) (h : Bool) (hk : k < 8) (hq : q < 4) {o : Fin 2 → ℕ} (inb : ∀ a, o a + S256x1024.size a ≤ S16384x1024.size a)
    (h0 : o 0 = 2048 * k + 512 * q + 256 * h.toNat) (h1 : o 1 = 0) :
    (outM.slice (Rect.unit (s := S16384x1024) o S256x1024.size inb) (fun _ => rfl)).view.read (Elt F) (G m c) = hv h (Sm m (own c q) k) := by
  funext x
  show G m c ((Rect.unit (s := S16384x1024) o S256x1024.size inb).emb x) = _
  have hx : (x 0).val < 256 := (x 0).isLt
  have e0 : (((Rect.unit (s := S16384x1024) o S256x1024.size inb).emb x) 0).val = o 0 + 1 * (x 0).val := rfl
  have e1 : (((Rect.unit (s := S16384x1024) o S256x1024.size inb).emb x) 1).val = o 1 + 1 * (x 1).val := rfl
  have hh : h.toNat ≤ 1 := by cases h <;> decide
  unfold G
  rw [show (((Rect.unit (s := S16384x1024) o S256x1024.size inb).emb x) 0).val / 512 % 4 = q by rw [e0]; omega,
    show (((Rect.unit (s := S16384x1024) o S256x1024.size inb).emb x) 0).val / 2048 = k by rw [e0]; omega]
  cases h
  · show _ = Sm m (own c q) k ((hr false).emb x)
    congr 1; funext a
    match a with
    | 0 => refine Fin.ext ?_; show _ % 512 = 0 + 1 * (x 0).val; rw [e0, h0]; simp only [Bool.toNat_false]; omega
    | 1 => refine Fin.ext ?_; show _ = 0 + 1 * (x 1).val; rw [e1, h1]
  · show _ = Sm m (own c q) k ((hr true).emb x)
    congr 1; funext a
    match a with
    | 0 => refine Fin.ext ?_; show _ % 512 = 256 + 1 * (x 0).val; rw [e0, h0]; simp only [Bool.toNat_true]; omega
    | 1 => refine Fin.ext ?_; show _ = 0 + 1 * (x 1).val; rw [e1, h1]

theorem read_hf (M : V2) (h : Bool) (f : M.view.ty.Contents (Elt F)) : (hf M h).view.read (Elt F) f = hv h (M.view.read (Elt F) f) := rfl

/-- The staged block: rows `2048 k ..` of the input. -/
def blk (d : Dev nD) (k : ℕ) : S2048x1024.Idx → Elt F .f32 := fun x =>
  (m ((d : Thread nD τ).loc main_arg0) : S16384x1024.Idx → Elt F .f32)
    (fun | 0 => ⟨(2048 * k + (x 0).val) % 16384, Nat.mod_lt _ (by decide)⟩ | 1 => x 1)

theorem read_stage (c : Dev nD) (k : ℕ) (s : Fin 2) (f : (stM s).view.ty.Contents (Elt F)) :
    (xrM c s).view.read (Elt F) ((stM s).view.write (Elt F) f (blk m c k) Finset.univ) = X m c k := by
  have h : (xrM c s).view.read (Elt F) ((stM s).view.write (Elt F) f (blk m c k) Finset.univ)
      = fun x => (stM s).view.read (Elt F) ((stM s).view.write (Elt F) f (blk m c k) Finset.univ)
          ((Rect.unit (s := S2048x1024) ![tau c * 512, 0] S512x1024.size xinb).emb x) := rfl
  rw [h, View.read_write_univ]
  funext x
  unfold blk X
  congr 1
  funext a
  match a with
  | 0 => refine Fin.ext ?_; show (2048 * k + (tau c * 512 + 1 * (x 0).val)) % 16384 = (2048 * k + 512 * tau c + (x 0).val) % 16384; congr 1; omega
  | 1 => refine Fin.ext ?_; show 0 + 1 * (x 1).val = (x 1).val; omega

end Cert.AR

end
-- ==== Proof.Sched.lean ====
/-
  The protocol as rounds: every payment a device makes (a signal, a landing, a source given back) is a duty
  named by its block and its kind; which semaphore it is paid at, by whom, in which round, and what it hands over.
  What each device pays and waits for in each step, in program order.
-/
module

public import proofs.«01_k».proof.Proof.Geo

@[expose] public section

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot)
open Idealize.ShloMosaic.SiteBlocks (L lv mem_L' mem_L mayWait_of)
open Idealize.ShloMosaic.TalkSites (Pay tallyL tallyL_pos tallyL_append)

variable {F : FTy → Type} [FloatOps F]

/-! ## Duties -/

/-- The kinds of payment. Axis `false` is `y`, `true` the pair along `z`; `S` marks the sender's side of a transfer.
    `bx b`: the entry barrier. `x`: the quarter sent across `x`. `f a`: the sum sent along `a`. `stm`: the sum copied into
    the own result. `g a`: half of what came along the other axis, forwarded along `a`. `st a`: what came along `a`, copied
    into the own result. `xrd`, `rd a`, `frd a`: a landing slot is free again. -/
inductive Op
  | bx | b (a : Bool) | x | xS | f (a : Bool) | fS (a : Bool) | stm | g (a : Bool) | gS (a : Bool) | st (a : Bool)
  | xrd | rd (a : Bool) | frd (a : Bool)
  deriving DecidableEq

/-- A duty: the block, the kind. -/
abbrev D := ℕ × Op

/-- Whom a device pays; the same device pays it. -/
def peer : Op → Dev nD → Dev nD
  | .bx, c | .x, c | .xrd, c => xp c
  | .b a, c | .f a, c | .g a, c | .rd a, c | .frd a, c => pa a c
  | _, c => c

/-- The number of the semaphore. -/
def code : ℕ → Op → ℕ
  | k, .xS => k % 2
  | k, .x => 2 + k % 2
  | k, .fS a => 4 + 4 * a.toNat + k % 2
  | k, .f a => 6 + 4 * a.toNat + k % 2
  | k, .gS a => 12 + 4 * a.toNat + (k + 1) % 2
  | k, .g a => 14 + 4 * a.toNat + (k + 1) % 2
  | k, .stm => 20 + k % 2
  | k, .st a => 22 + 2 * a.toNat + k % 2
  | _, .xrd => 26
  | _, .rd a => 27 + a.toNat
  | _, .frd a => 29 + a.toNat
  | _, .bx | _, .b _ => 31

/-- The semaphore of a number below 32. -/
def smc (n : ℕ) : SemLoc sig :=
  if h : n < 26 then .dma ⟨2 + n, by show 2 + n < 28; omega⟩ else .reg ⟨(n - 26) % 6, Nat.mod_lt _ (by decide)⟩
/-- and back. -/
def cd : SemLoc sig → ℕ
  | .dma i => if i.val < 2 then 100 else i.val - 2
  | .reg i => 26 + i.val

/-- The round of the semaphore in which a duty is paid. -/
def rnd : ℕ → Op → ℕ
  | k, .g _ => if k = 7 then 2 else k / 2
  | _, .xrd | _, .rd _ | _, .frd _ | _, .bx | _, .b _ => 0
  | k, _ => k / 2

/-- A place in program order above every wait that may precede the payment. -/
def pos : ℕ → Op → ℕ
  | _, .bx | _, .b _ => 1
  | k, .x => 64 * k + 4
  | k, .frd a => 64 * (k + 2) + 5 + a.toNat
  | k, .g a => 64 * (k + 1) + 7 + a.toNat
  | k, .xrd => 64 * k + 10
  | k, .f a => 64 * k + 11 + a.toNat
  | k, .rd a => 64 * (k + 1) + 14 - a.toNat
  | _, _ => 0

/-- The units of a quarter's and of half a quarter's transfer. -/
def NQ : ℕ := (sl xcM 0).view.dmaCredit
def NH : ℕ := (hf (sl xcM 0) false).view.dmaCredit
theorem NQ_pos : 0 < NQ := View.dmaCredit_pos _ (by decide +kernel)
theorem NH_pos : 0 < NH := View.dmaCredit_pos _ (by decide +kernel)

def amt : Op → ℕ
  | .x | .xS | .f _ | .fS _ | .stm | .st _ => NQ
  | .g _ | .gS _ => NH
  | _ => 1
theorem amt_pos (o : Op) : 0 < amt o := by
  have h1 := NQ_pos
  have h2 := NH_pos
  generalize hq : NQ = q at h1
  generalize hh : NH = h at h2
  cases o <;> simp only [amt, hq, hh] <;> first | exact h1 | exact h2 | exact Nat.one_pos

/-- The list when the condition holds. -/
def gl {α : Type} (p : Prop) [Decidable p] (l : List α) : List α := if p then l else []

/-- The kinds of payment of a block. -/
def opsAt (k : ℕ) : List Op :=
  gl (k = 0) [.bx, .b false, .b true]
    ++ [.x, .xS, .f false, .f true, .fS false, .fS true, .stm, .g false, .g true, .gS false, .gS true, .st false, .st true]
    ++ gl (k ≤ 5) [.xrd, .rd false, .rd true] ++ gl (k ≤ 4) [.frd false, .frd true]
def allL : List D := (List.range 8).flatMap fun k => (opsAt k).map fun o => (k, o)
def dutyL (n r : ℕ) : List D := allL.filter fun d => Nat.beq (code d.1 d.2) n && Nat.beq (rnd d.1 d.2) r

theorem cd_smc {n : ℕ} (h : n < 32) : cd (smc n) = n := by
  have : ∀ n < 32, cd (smc n) = n := by decide +kernel
  exact this n h
theorem smc_cd {n n' : ℕ} (h : n < 32) (h' : n' < 32) (e : smc n = smc n') : n = n' := by
  rw [← cd_smc h, e, cd_smc h']
theorem code_lt (k : ℕ) (o : Op) : code k o < 32 := by
  cases o <;> (try rename_i a; cases a) <;> simp only [code, Bool.toNat_false, Bool.toNat_true] <;> omega

/-! ## Resources -/

abbrev Key := Dev nD × Option Bool × Fin 2
abbrev UX : Type := URounds (GSem nD τ sig) D × USlots Key
abbrev UU : Type := UR sig nD τ × UX

local notation "𝕄" => MT nD τ sig ℕ (Elt F) ℕ UU ℕ

abbrev EP : Emb (UR sig nD τ) (MT nD τ sig ℕ (Elt F) ℕ UU ℕ) := embL
abbrev EX : Emb UX (MT nD τ sig ℕ (Elt F) ℕ UU ℕ) := embR
abbrev ER : Emb (URounds (GSem nD τ sig) D) (MT nD τ sig ℕ (Elt F) ℕ UU ℕ) := (Emb.inl : Emb _ UX).trans EX
abbrev ES : Emb (USlots Key) (MT nD τ sig ℕ (Elt F) ℕ UU ℕ) := (Emb.inr : Emb _ UX).trans EX

variable (m : (ℓ : Loc nD τ sig) → Buf (Elt F) ℓ)

abbrev kcell (e : Dev nD) (n : ℕ) : GSem nD τ sig := ((e : Thread nD τ), smc n)
/-- The cell at which device `e` is paid. -/
abbrev cell (e : Dev nD) (k : ℕ) (o : Op) : GSem nD τ sig := kcell e (code k o)
/-- The slot of a block. -/
def sp (k : ℕ) : Fin 2 := ⟨k % 2, Nat.mod_lt _ (by decide)⟩

/-- A whole buffer's contents reading `w` through `M`. -/
def cont (c : Dev nD) {s : Space} {t : Shape} (M : Memref sig .tc s t .f32) (w : t.Idx → Elt F .f32) : Buf (Elt F) (M.view.loc (c : Thread nD τ)) :=
  M.view.write (Elt F) (m (M.view.loc (c : Thread nD τ))) w Finset.univ
theorem read_cont (c : Dev nD) {s : Space} {t : Shape} (M : Memref sig .tc s t .f32) (w : t.Idx → Elt F .f32) :
    M.view.read (Elt F) (cont m c M w) = w := View.read_write_univ _ _

/-- Region `I` of the buffer, its contents those reading `w` through `M`. -/
def holdI (c : Dev nD) {s : Space} {t : Shape} (M : Memref sig .tc s t .f32) (I : Finset (Idx (M.view.loc (c : Thread nD τ)))) (q : PosShare TreeShare) (w : t.Idx → Elt F .f32) : sProp 𝕄 :=
  (M.view.loc (c : Thread nD τ) ↦[I]{q} cont m c M w)
/-- What `M` covers, holding `w`. -/
def hold (c : Dev nD) {s : Space} {t : Shape} (M : Memref sig .tc s t .f32) (q : PosShare TreeShare) (w : t.Idx → Elt F .f32) : sProp 𝕄 :=
  holdI m c M M.view.set q w

/-- The shares: half, half; the second half halved. -/
abbrev qL : PosShare TreeShare := fullShare.left
abbrev qR : PosShare TreeShare := fullShare.right
abbrev qRL : PosShare TreeShare := fullShare.right.left
abbrev qRR : PosShare TreeShare := fullShare.right.right
/-- The share of the sum's slot that the transfer along `a` reads. -/
def qf (a : Bool) : PosShare TreeShare := match a with | false => qL | true => qRL

/-- Rows of the result, holding it. -/
def outP (e : Dev nD) (lo n : ℕ) : sProp 𝕄 := (((e : Thread nD τ).loc main_v1) ↦[rows lo n]{fullShare} G m e)
/-- Rows of the result, holding anything. -/
def outB (e : Dev nD) (lo n : ℕ) : sProp 𝕄 := iprop(∃ f, ((e : Thread nD τ).loc main_v1) ↦[rows lo n]{fullShare} f)

/-- The landing buffers: `none` across `x`, `some a` along `a`. -/
abbrev bufM : Option Bool → V3 | none => xcM | some a => inM a
/-- What lands there. -/
abbrev recvOp : Option Bool → Op | none => .x | some a => .f a
/-- A slot of a landing buffer, holding anything. -/
def slotAny (k : Key) : sProp 𝕄 := slot ((sl (bufM k.2.1) k.2.2).view.loc (k.1 : Thread nD τ)) (sl (bufM k.2.1) k.2.2).view.set

def reachedC (e : Dev nD) (k : ℕ) (o : Op) : sProp 𝕄 := reached ER (cell e k o) (rnd k o)
/-- Device `e` is ready for block `k` in its landing buffer: its cell is at that round and the slot was given up often enough. -/
def rdy (b : Option Bool) (e : Dev nD) (k : ℕ) : sProp 𝕄 :=
  iprop(reachedC e k (recvOp b) ∗ released ES (e, b, sp k) (k / 2 + 1))

/-- The rows of block `k` that device `e` gets along `a` from its neighbour: half of the quarter reduced across both axes. -/
abbrev loG (e : Dev nD) (k : ℕ) (a : Bool) : ℕ := 2048 * k + 512 * tau (dg e) + 256 * a.toNat
abbrev loQ (k q : ℕ) : ℕ := 2048 * k + 512 * q
abbrev hset (M : V2) (h : Bool) : Finset M.view.ty.Idx := (M.view.slice (hr h)).set

/-- What a duty hands to the device `e` it is paid to. -/
def pay (e : Dev nD) : ℕ → Op → sProp 𝕄
  | _, .bx => iprop(rdy none (xp e) 0 ∗ rdy none (xp e) 1)
  | _, .b a => iprop((rdy (some a) (pa a e) 0 ∗ rdy (some a) (pa a e) 1)
      ∗ bigSep (Finset.range 8) fun k => outB (pa a e) (loG (pa a e) k a) 256)
  | k, .x => hold m e (sl xcM (sp k)) fullShare (X m (xp e) k)
  | k, .xS => holdI m e (stM (sp k)) (xrM e (sp k)).view.set qR (blk m e k)
  | k, .f a => hold m e (sl (inM a) (sp k)) fullShare (Sm m (pa a e) k)
  | k, .fS a => hold m e (sl smM (sp k)) (qf a) (Sm m e k)
  | k, .stm => iprop(outP m e (loQ k (tau e)) 512 ∗ hold m e (sl smM (sp k)) qRR (Sm m e k))
  | k, .g a => outP m e (loG e k a) 256
  | k, .gS a => holdI m e (sl (inM (!a)) (sp k)) (hset (sl (inM (!a)) (sp k)) a) qL (Sm m (pa (!a) e) k)
  | k, .st a => iprop(outP m e (loQ k (tau (pa a e))) 512 ∗ hold m e (sl (inM a) (sp k)) qR (Sm m (pa a e) k))
  | k, .xrd => bigSep (Finset.range (k + 1)) fun i => rdy none (xp e) (i + 2)
  | k, .rd a => bigSep (Finset.range (k + 1)) fun i => rdy (some a) (pa a e) (i + 2)
  | k, .frd a => bigSep (Finset.range (k + 1)) fun i => reachedC (pa a e) (i + 2) (.g a)

instance reachedC_persistent (e : Dev nD) (k : ℕ) (o : Op) : BI.Persistent (reachedC (F := F) e k o) := by unfold reachedC; infer_instance
instance reachedC_storable (e : Dev nD) (k : ℕ) (o : Op) : BI.Storable (upEmb : UEmb _ 𝕄) (reachedC (F := F) e k o) := by unfold reachedC; infer_instance
instance rdy_persistent (b : Option Bool) (e : Dev nD) (k : ℕ) : BI.Persistent (rdy (F := F) b e k) := by unfold rdy; infer_instance
instance rdy_storable (b : Option Bool) (e : Dev nD) (k : ℕ) : BI.Storable (upEmb : UEmb _ 𝕄) (rdy (F := F) b e k) := by unfold rdy; infer_instance
instance outP_storable (e : Dev nD) (lo n : ℕ) : BI.Storable (upEmb : UEmb _ 𝕄) (outP m e lo n) := by unfold outP; infer_instance
instance outB_storable (e : Dev nD) (lo n : ℕ) : BI.Storable (upEmb : UEmb _ 𝕄) (outB (F := F) e lo n) := by unfold outB; infer_instance
instance slotAny_storable (k : Key) : BI.Storable (upEmb : UEmb _ 𝕄) (slotAny (F := F) k) := by unfold slotAny; infer_instance
instance pay_storable (e : Dev nD) (k : ℕ) (o : Op) : BI.Storable (upEmb : UEmb _ 𝕄) (pay m e k o) := by
  cases o <;> unfold pay <;> (try unfold hold) <;> (try unfold holdI) <;> infer_instance

/-- The protocol. -/
def Rd : Schedule (GSem nD τ sig) D (MT nD τ sig ℕ (Elt F) ℕ UU ℕ) where
  duties g r := (dutyL (cd g.2) r).toFinset
  amount _ _ d := amt d.2
  payload g _ d := pay m g.1.1 d.1 d.2
  amount_pos _ _ d _ := amt_pos d.2

instance Rd_storable (g : GSem nD τ sig) (r : ℕ) (d : D) : BI.Storable (upEmb : UEmb _ 𝕄) ((Rd m).payload g r d) := pay_storable m g.1.1 d.1 d.2

theorem duties_kcell (e : Dev nD) {n : ℕ} (h : n < 32) (r : ℕ) : (Rd m).duties (kcell e n) r = (dutyL n r).toFinset := by
  show (dutyL (cd (smc n)) r).toFinset = _
  rw [cd_smc h]
theorem amount_eq (g : GSem nD τ sig) (r : ℕ) (d : D) : (Rd m).amount g r d = amt d.2 := rfl
theorem payload_cell (e : Dev nD) (n r : ℕ) (d : D) : (Rd m).payload (kcell e n) r d = pay m e d.1 d.2 := rfl

theorem mem_dutyL {d : D} (h : d ∈ allL) : d ∈ dutyL (code d.1 d.2) (rnd d.1 d.2) := by
  unfold dutyL; rw [List.mem_filter]; exact ⟨h, by simp⟩
theorem mem_duties (e : Dev nD) {k : ℕ} {o : Op} (h : (k, o) ∈ allL) : (k, o) ∈ (Rd m).duties (cell e k o) (rnd k o) := by
  rw [duties_kcell m e (code_lt k o)]; exact List.mem_toFinset.mpr (mem_dutyL h)

/-- The payments alone in their round. -/
def solo : D → Bool
  | (_, .x) | (_, .xS) | (_, .f _) | (_, .fS _) | (_, .stm) | (_, .gS _) | (_, .st _) => true
  | (k, .g _) => k ≠ 5 ∧ k ≠ 7
  | _ => false

theorem dutyL_solo : ∀ d ∈ allL, solo d = true → dutyL (code d.1 d.2) (rnd d.1 d.2) = [d] := by decide +kernel
theorem duties_solo (e : Dev nD) {k : ℕ} {o : Op} (h : (k, o) ∈ allL) (hs : solo (k, o) = true) :
    (Rd m).duties (cell e k o) (rnd k o) = {(k, o)} := by
  rw [duties_kcell m e (code_lt k o), dutyL_solo (k, o) h hs]; rfl
theorem expect_solo (e : Dev nD) {k : ℕ} {o : Op} (h : (k, o) ∈ allL) (hs : solo (k, o) = true) :
    (Rd m).expect (cell e k o) (rnd k o) = amt o := by
  unfold Schedule.expect Schedule.amountOf; rw [duties_solo m e h hs, Finset.sum_singleton]; rfl

/-- The number of rounds of a semaphore. -/
def rend (n : ℕ) : ℕ := if 26 ≤ n then 1 else if n = 14 ∨ n = 18 then 3 else 4
theorem rnd_lt_rend : ∀ d ∈ allL, rnd d.1 d.2 < rend (code d.1 d.2) := by decide +kernel
theorem duties_later (e : Dev nD) {n : ℕ} (h : n < 32) (r : ℕ) (hr : rend n ≤ r) : (Rd m).duties (kcell e n) r = ∅ := by
  rw [duties_kcell m e h, show dutyL n r = [] from ?_]; · rfl
  unfold dutyL
  rw [List.filter_eq_nil_iff]
  intro d hd hh
  rw [Bool.and_eq_true] at hh
  have h1 := Nat.eq_of_beq_eq_true hh.1
  have h2 := Nat.eq_of_beq_eq_true hh.2
  have := rnd_lt_rend d hd
  rw [h1, h2] at this; omega

/-! ## What a device pays and waits for, in program order -/

/-- What it pays others in step `j`. -/
def payL (j : ℕ) : List D :=
  gl (j = 0) [(0, .bx), (0, .b false), (0, .b true)] ++ ((j, .x) ::
    (gl (2 ≤ j ∧ j ≤ 6) [(j - 2, .frd false), (j - 2, .frd true)] ++ (gl (1 ≤ j) [(j - 1, .g false), (j - 1, .g true)]
      ++ (gl (j ≤ 5) [(j, .xrd)] ++ ((j, .f false) :: (j, .f true) ::
        (gl (1 ≤ j ∧ j ≤ 6) [(j - 1, .rd true), (j - 1, .rd false)] ++ gl (j = 7) [(7, .g false), (7, .g true)]))))))
/-- What it pays itself. -/
def selfL (j : ℕ) : List D :=
  (j, .xS) :: (gl (1 ≤ j) [(j - 1, .gS false), (j - 1, .gS true), (j - 1, .st true), (j - 1, .st false)]
    ++ ((j, .fS false) :: (j, .fS true) :: (j, .stm) :: gl (j = 7) [(7, .gS false), (7, .gS true), (7, .st true), (7, .st false)]))
/-- Which of the others' payments it waits for. -/
def waitL (j : ℕ) : List D :=
  gl (j = 0) [(0, .bx), (0, .b false), (0, .b true)] ++ (gl (2 ≤ j) [(j - 2, .xrd)] ++ (gl (2 ≤ j) [(j - 2, .g false), (j - 2, .g true)]
    ++ (gl (1 ≤ j) [(j - 1, .f true), (j - 1, .f false)] ++ (gl (3 ≤ j) [(j - 3, .frd false), (j - 3, .frd true)]
      ++ ((j, .x) :: (gl (2 ≤ j) [(j - 2, .rd false), (j - 2, .rd true)]
        ++ gl (j = 7) [(7, .f true), (7, .f false), (6, .g false), (6, .g true), (7, .g false), (7, .g true)]))))))

/-- From step `j` on. -/
def later (j : ℕ) : List D := (List.range' j (8 - j)).flatMap payL
theorem later_step {j : ℕ} (h : j < 8) : later j = payL j ++ later (j + 1) := by
  unfold later
  rw [show 8 - j = (8 - (j + 1)) + 1 by omega, List.range'_succ, List.flatMap_cons]
theorem later_end : later 8 = [] := rfl

/-- Every payment of the list comes after place `i`. -/
def Abv (i : ℕ) (l : List D) : Prop := ∀ d ∈ l, i < pos d.1 d.2 ∧ pos d.1 d.2 < 1024
theorem Abv_nil (i : ℕ) : Abv i [] ↔ True := by simp [Abv]
theorem Abv_cons (i : ℕ) (d : D) (l : List D) : Abv i (d :: l) ↔ (i < pos d.1 d.2 ∧ pos d.1 d.2 < 1024) ∧ Abv i l := by simp [Abv]
theorem Abv_append (i : ℕ) (l l' : List D) : Abv i (l ++ l') ↔ Abv i l ∧ Abv i l' := by
  simp only [Abv, List.mem_append]
  exact ⟨fun h => ⟨fun d hd => h d (Or.inl hd), fun d hd => h d (Or.inr hd)⟩, fun h d hd => hd.elim (h.1 d) (h.2 d)⟩
theorem Abv_gl (i : ℕ) (p : Prop) [Decidable p] (l : List D) : Abv i (gl p l) ↔ (p → Abv i l) := by
  unfold gl; by_cases h : p
  · simp [h]
  · simp [h, Abv]
theorem Abv_later {i j : ℕ} (hj : j < 8) (hi : i < 64 * (j + 1) + 4) : Abv i (later (j + 1)) := by
  have : ∀ j < 8, ∀ d ∈ later (j + 1), 64 * (j + 1) + 4 ≤ pos d.1 d.2 ∧ pos d.1 d.2 < 1024 := by decide +kernel
  intro d hd
  have := this j hj d hd
  omega

/-- The number of places, and every cell's place. -/
def nPos : ℕ := 1024
def levs : sProp 𝕄 := levAts (L nPos) lv
instance levs_persistent : BI.Persistent (levs : sProp 𝕄) := by unfold levs; infer_instance

/-- What device `c` owes with these payments. -/
def payt (c : Dev nD) (d : D) : Pay nD τ sig := (cell (peer d.2 c) d.1 d.2, pos d.1 d.2, amt d.2)
def owe (c : Dev nD) (l : List D) : CellTallies nD τ sig ℕ := tallyL (l.map (payt c))
def owesE (c : Dev nD) (l : List D) : sProp 𝕄 := iprop(∃ W, owes (c : Thread nD τ) (owe c l) W)
/-- The right to make a payment. -/
def tok (c : Dev nD) (d : D) : sProp 𝕄 := dutyTok ER (cell (peer d.2 c) d.1 d.2) (rnd d.1 d.2) d
/-- The right to wait for one. -/
def crd (c : Dev nD) (d : D) : sProp 𝕄 := cred (tallyAt (cell c d.1 d.2) (pos d.1 d.2) (amt d.2))
/-- Where the device stands at a cell: the round of block `k`, reached, nothing of it taken. -/
def posA (c : Dev nD) (k : ℕ) (o : Op) : sProp 𝕄 := iprop(atPos ER (cell c k o) (rnd k o) ∅ 0 ∗ reachedC c k o)
/-- For this block and the next (the other slot). -/
def posP (c : Dev nD) (k : ℕ) (o : Op) : sProp 𝕄 := iprop(posA c k o ∗ posA c (k + 1) o)
/-- Of a cell of permissions, `n` were taken; the facts they brought. -/
def credAt (c : Dev nD) (o : Op) (n : ℕ) : sProp 𝕄 :=
  iprop(∃ T : Finset D, ⌜T ⊆ (Rd m).duties (cell c 0 o) 0 ∧ n ≤ T.card⌝ ∗ atPos ER (cell c 0 o) 0 T n ∗ bigSep T fun d => pay m c d.1 d.2)

theorem owe_cons (c : Dev nD) (d : D) (l : List D) : owe c (d :: l) = owe c l + tallyAt (cell (peer d.2 c) d.1 d.2) (pos d.1 d.2) (amt d.2) := by
  unfold owe; rw [List.map_cons, tallyL, add_comm]; rfl
theorem owe_nil (c : Dev nD) : owe c [] = 0 := rfl
theorem mayWait_owe (c : Dev nD) (s : SemLoc sig) {i : ℕ} {l : List D} (hi : i < 1024) (h : Abv i l) :
    (levs : sProp 𝕄) ⊢ MayWait (c : Thread nD τ) s i (owe c l) :=
  mayWait_of (N := nPos) hi c s _ fun g k hk => by
    obtain ⟨y, hy, rfl, rfl⟩ := tallyL_pos hk
    obtain ⟨d, hd, rfl⟩ := List.mem_map.mp hy
    exact ⟨mem_L' rfl (h d hd).2, (h d hd).1⟩

/-! ## What everybody knows -/

/-- The cells' and the slots' invariants, every cell's first round reached, the levels. -/
def recs (K : Dev nD × Fin 32 → ℕ) (ιs : Key → ℕ) : sProp 𝕄 :=
  iprop((bigSep Finset.univ fun ck : Dev nD × Fin 32 => cellInv ER (Rd m) (K ck) (kcell ck.1 ck.2.val))
    ∗ (bigSep Finset.univ fun ck : Dev nD × Fin 32 => reached ER (kcell ck.1 ck.2.val) 0)
    ∗ (bigSep Finset.univ fun k : Key => slotInv ES (ιs k) k (slotAny (F := F) k))
    ∗ levs)

instance recs_persistent (K : Dev nD × Fin 32 → ℕ) (ιs : Key → ℕ) : BI.Persistent (recs m K ιs) := by unfold recs; infer_instance

variable (K : Dev nD × Fin 32 → ℕ) (ιs : Key → ℕ)

omit [FloatOps F] in
theorem sepL {P Q : sProp 𝕄} : iprop(P ∗ Q) ⊢ P := BIBase.Entails.trans Laws.sep_and and_elimL
omit [FloatOps F] in
theorem sepR {P Q : sProp 𝕄} : iprop(P ∗ Q) ⊢ Q := BIBase.Entails.trans Laws.sep_and and_elimR

theorem recs_inv' (e : Dev nD) (n : Fin 32) : recs m K ιs ⊢ cellInv ER (Rd m) (K (e, n)) (kcell e n.val) := by
  unfold recs
  exact sepL.trans (bigSep_elim (Φ := fun ck : Dev nD × Fin 32 => cellInv ER (Rd m) (K ck) (kcell ck.1 ck.2.val)) (Finset.mem_univ (e, n)))
theorem recs_inv (e : Dev nD) (k : ℕ) (o : Op) : recs m K ιs ⊢ cellInv ER (Rd m) (K (e, ⟨code k o, code_lt k o⟩)) (cell e k o) :=
  recs_inv' m K ιs e ⟨code k o, code_lt k o⟩
theorem recs_reached' (e : Dev nD) (n : Fin 32) : recs m K ιs ⊢ reached ER (kcell e n.val) 0 := by
  unfold recs
  exact sepR.trans (sepL.trans (bigSep_elim (Φ := fun ck : Dev nD × Fin 32 => (reached ER (kcell ck.1 ck.2.val) 0 : sProp 𝕄)) (Finset.mem_univ (e, n))))
theorem recs_reached (e : Dev nD) (k : ℕ) (o : Op) (h : rnd k o = 0) : recs m K ιs ⊢ reachedC e k o := by
  unfold reachedC; rw [h]
  exact recs_reached' m K ιs e ⟨code k o, code_lt k o⟩
theorem recs_slot (k : Key) : recs m K ιs ⊢ slotInv ES (ιs k) k (slotAny (F := F) k) := by
  unfold recs
  exact sepR.trans (sepR.trans (sepL.trans (bigSep_elim (Φ := fun k : Key => slotInv ES (ιs k) k (slotAny (F := F) k)) (Finset.mem_univ k))))
theorem recs_lev : recs m K ιs ⊢ levs := by
  unfold recs
  iintro ⟨-, -, -, H⟩
  iexact H

end Cert.AR

end
-- ==== Proof.Ops.lean ====
/-
  One operation of the kernel at a time: a signal, a transfer to a neighbour, a copy of the device's own, a wait for a
  landing, a wait for a permission.
-/
module

public import proofs.«01_k».proof.Proof.Sched

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot)
open Idealize.ShloMosaic.SiteBlocks (L lv mem_L' mem_L mayWait_of)

variable {F : FTy → Type} [FloatOps F]

local notation "𝕄" => MT nD τ sig ℕ (Elt F) ℕ UU ℕ

abbrev 𝒱₀ : Variants := Variants.none
abbrev PG (F : FTy → Type) [FloatOps F] (α : Type) := Prog (TpuEff nD τ sig (Elt F) Λ₀ .tc) α
/-- Device `c` runs `p`. -/
abbrev run (c : Dev nD) {α : Type} (p : PG F α) (Q : α → sProp 𝕄) : sProp 𝕄 :=
  wp frame (wpE (defs₀ (F := F)) 𝒱₀ (c : Thread nD τ) none) Set.univ p Q

variable (m : (ℓ : Loc nD τ sig) → Buf (Elt F) ℓ)
variable (K : Dev nD × Fin 32 → ℕ) (ιs : Key → ℕ) (c : Dev nD)

theorem pos_lt : ∀ d ∈ allL, pos d.1 d.2 < 1024 := by decide +kernel

omit [FloatOps F] in
theorem cell_eq {e : Dev nD} {k : ℕ} {o : Op} {s : SemLoc sig} (h : smc (code k o) = s) : cell e k o = ((e : Thread nD τ), s) := by
  show ((e : Thread nD τ), smc (code k o)) = _
  rw [h]

theorem adv {k : ℕ} {o : Op} (h : solo (k, o) = true) : code (k + 2) o = code k o ∧ rnd (k + 2) o = rnd k o + 1 := by
  cases o <;> simp only [solo, Bool.false_eq_true, reduceCtorEq, decide_eq_true_eq] at h <;> simp only [code, rnd]<;>
    (constructor <;> (repeat' split) <;> omega)

/-- A signal: a unit paid to a neighbour, with what goes with it. -/
theorem op_sig {e : Dev nD} {q : Sem sig} (k : ℕ) (o : Op) (he : e = peer o c) (hq : smc (code k o) = .reg q) (hd : (k, o) ∈ allL) (ha : amt o = 1)
    {rest : List D} {α : Type} {kk : PUnit → PG F α} {Q : α → sProp 𝕄} :
    iprop(recs m K ιs ∗ owesE c ((k, o) :: rest) ∗ tok c (k, o) ∗ pay m e k o ∗ reachedC e k o)
      ⊢ iprop((owesE c rest -∗ run c (kk ⟨⟩) Q) -∗ run c (.op (.semSignal ((e : Dev nD) : Thread nD τ) q 1) kk) Q) := by
  subst he
  unfold owesE
  iintro ⟨#HR, ⟨%W, HO⟩, Ht, Hp, Hr⟩ Hk
  ihave #HI := (recs_inv m K ιs (peer o c) k o) $$ HR
  unfold tok reachedC
  rw [owe_cons]
  dsimp only
  have hc := cell_eq (e := peer o c) hq
  have hd' := mem_duties m (peer o c) hd
  rw [hc] at hd'
  rw [hc, ha]
  iapply (Rounds.wp_signal 𝒱₀ ER (Rd m) (c : Thread nD τ) none (dst := (peer o c : Thread nD τ)) (κ := K (peer o c, ⟨code k o, code_lt k o⟩))
      (d := (k, o)) (k' := 1) hd' ha (pos k o) (owe c rest) rfl) $$ [HO Ht Hp Hr]
  · isplitr; · iexact HI
    isplitl [HO]; · iexact HO
    isplitl [Ht]; · iexact Ht
    isplitl [Hp]; · ihave Hp' := (Entails.of_eq (show pay m (peer o c) k o = (Rd m).payload ((peer o c : Thread nD τ), .reg q) (rnd k o) (k, o) from rfl)) $$ Hp; iexact Hp'
    iexact Hr
  iintro HO
  iapply Hk
  iexists W
  iexact HO

/-- A wait for a payment that is alone in its round. -/
theorem op_wait {q : DmaSem sig} {s s' : Shape} {sp sp' : Space} {el el' : EltTy} {src : Memref sig .tc sp' s' el'} {dst : Memref sig .tc sp s el}
    {h1 : src.view.WordExact} {h2 : dst.view.WordExact}
    (k : ℕ) (o : Op) (hm : (k, o) ∈ allL) (hs : solo (k, o) = true) (hq : smc (code k o) = .dma q) (hN : dst.view.dmaCredit = amt o)
    {l : List D} (hl : Abv (pos k o) l) {α : Type} {kk : PUnit → PG F α} {Q : α → sProp 𝕄} :
    iprop(recs m K ιs ∗ owesE c l ∗ crd c (k, o) ∗ posA c k o)
      ⊢ iprop(((owesE c l ∗ posA c (k + 2) o ∗ pay m c k o) -∗ run c (kk ⟨⟩) Q) -∗ run c (.op (.waitDma2 q src dst h1 h2) kk) Q) := by
  unfold owesE posA
  iintro ⟨#HR, ⟨%W, HO⟩, Hc, ⟨Hat, Hre⟩⟩ Hk
  ihave #HI := (recs_inv m K ιs c k o) $$ HR
  ihave #HL := (recs_lev m K ιs) $$ HR
  have hc : kcell c (code k o) = ((c : Thread nD τ), SemLoc.dma q) := cell_eq (e := c) hq
  have hds := duties_solo m c hm hs
  have hex := expect_solo m c hm hs
  unfold crd reachedC cell
  rw [(adv hs).1, (adv hs).2]
  dsimp only
  rw [cell_eq (e := c) hq] at hds hex
  rw [hc, ← hN]
  iapply (Rounds.wp_wait_rest_token 𝒱₀ ER (Rd m) (c : Thread nD τ) none (κ := K (c, ⟨code k o, code_lt k o⟩))
      (wpE_waitDma2_eq 𝒱₀ (c : Thread nD τ) none Set.univ) (Set.mem_univ _) (pos k o) (O := owe c l) (W := W) (R := rnd k o) (m := 0) (T := ∅)
      (by rw [hex, hN, Nat.zero_add])) $$ [Hc HO Hat]
  · isplitr; · iexact HI
    isplitl [Hc]; · iexact Hc
    isplitl [HO]; · iexact HO
    isplitr; · iapply (mayWait_owe c (.dma q) (pos_lt _ hm) hl); iexact HL
    iexact Hat
  rw [Finset.sdiff_empty, hds, bigSep_singleton]
  iintro ⟨HO, Hat, Hre', Hp⟩
  iapply Hk
  isplitl [HO]; · iexists _; iexact HO
  isplitl [Hat Hre']
  · isplitl [Hat]; · iexact Hat
    iexact Hre'
  ihave Hp' := (Entails.of_eq (show (Rd m).payload ((c : Thread nD τ), .dma q) (rnd k o) (k, o) = pay m c k o from rfl)) $$ Hp
  iexact Hp'

/-- A copy within the device. -/
theorem op_copy {s : Shape} {sp sp' : Space} {src : Memref sig .tc sp s .f32} {dst : Memref sig .tc sp' s .f32} {sem : SemLoc sig}
    {h1 : src.view.WordExact} {h2 : dst.view.WordExact} {h3 : DmaTarget.Typed sp sem (.here dst : DmaTarget nD τ sig .tc sp' s .f32)}
    (k : ℕ) (o : Op) (hm : (k, o) ∈ allL) (hp : peer o c = c) (hq : smc (code k o) = sem) (hN : dst.view.amount sem = amt o)
    {q : PosShare TreeShare} {fs : Buf (Elt F) (src.view.loc (c : Thread nD τ))} {fd : Buf (Elt F) (dst.view.loc (c : Thread nD τ))}
    (hpay : iprop((dst.view.loc (c : Thread nD τ) ↦[dst.view.set]{fullShare} (dst.view.write (Elt F) fd (src.view.read (Elt F) fs) Finset.univ))
      ∗ (src.view.loc (c : Thread nD τ) ↦[src.view.set]{q} fs)) ⊢ pay m c k o)
    {α : Type} {kk : PUnit → PG F α} {Q : α → sProp 𝕄} :
    iprop(recs m K ιs ∗ (src.view.loc (c : Thread nD τ) ↦[src.view.set]{q} fs) ∗ (dst.view.loc (c : Thread nD τ) ↦[dst.view.set]{fullShare} fd)
        ∗ tok c (k, o) ∗ reachedC c k o)
      ⊢ iprop((crd c (k, o) -∗ run c (kk ⟨⟩) Q) -∗ run c (.op (.enqueueDma src (.here dst) sem h1 h2 h3) kk) Q) := by
  iintro ⟨#HR, Hs, Hd, Ht, Hr⟩ Hk
  ihave #HI := (recs_inv m K ιs c k o) $$ HR
  have hc := cell_eq (e := c) hq
  have hd := mem_duties m c hm
  unfold tok crd reachedC
  dsimp only
  rw [hp]
  rw [hc] at hd
  rw [hc]
  iapply (Rounds.wp_copy_pointsTo 𝒱₀ ER (Rd m) (c : Thread nD τ) none (κ := K (c, ⟨code k o, code_lt k o⟩)) (d := (k, o)) (r := rnd k o) (q := q) (fs := fs) (fd := fd)
      hd (pos k o) (amt o) hN rfl hpay) $$ [Hs Hd Ht Hr]
  · isplitr; · iexact HI
    isplitl [Hs]; · iexact Hs
    isplitl [Hd]; · iexact Hd
    isplitl [Ht]; · iexact Ht
    iexact Hr
  iexact Hk

/-- A transfer to a neighbour. -/
theorem op_send {n : Dev nD} {s : Shape} {sp sp' : Space} {src : Memref sig .tc sp s .f32} {dst : Memref sig .tc sp' s .f32} {sS sR : SemLoc sig}
    {hsc : (dst : Memref sig (Dev.tc n : Thread nD τ).2.kind sp' s .f32).view.ref.isScScratch = false}
    {h1 : src.view.WordExact} {h2 : dst.view.WordExact}
    {h3 : DmaTarget.Typed sp sR (.remote (Dev.tc n : Thread nD τ) dst sS hsc : DmaTarget nD τ sig .tc sp' s .f32)}
    (k : ℕ) (oS oR : Op) (hn : n = peer oR c) (hS : smc (code k oS) = sS) (hR : smc (code k oR) = sR) (hm : (k, oS) ∈ allL) (hm' : (k, oR) ∈ allL) (hp : peer oS c = c)
    (ha : amt oS = amt oR) (hN : dst.view.amount sR = amt oR)
    {q : PosShare TreeShare} {fs : Buf (Elt F) (src.view.loc (c : Thread nD τ))} {fd : Buf (Elt F) (dst.view.loc (n : Thread nD τ))}
    (hpS : (src.view.loc (c : Thread nD τ) ↦[src.view.set]{q} fs) ⊢ pay m c k oS)
    (hpR : (dst.view.loc (n : Thread nD τ) ↦[dst.view.set]{fullShare} (dst.view.write (Elt F) fd (src.view.read (Elt F) fs) Finset.univ)) ⊢ pay m n k oR)
    {rest : List D} {α : Type} {kk : PUnit → PG F α} {Q : α → sProp 𝕄} :
    iprop(recs m K ιs ∗ owesE c ((k, oR) :: rest) ∗ (src.view.loc (c : Thread nD τ) ↦[src.view.set]{q} fs) ∗ (dst.view.loc (n : Thread nD τ) ↦[dst.view.set]{fullShare} fd)
        ∗ tok c (k, oS) ∗ reachedC c k oS ∗ tok c (k, oR) ∗ reachedC n k oR)
      ⊢ iprop(((owesE c rest ∗ crd c (k, oS)) -∗ run c (kk ⟨⟩) Q)
          -∗ run c (.op (.enqueueDma src (.remote (Dev.tc n : Thread nD τ) dst sS hsc) sR h1 h2 h3) kk) Q) := by
  subst hn
  unfold owesE
  iintro ⟨#HR, ⟨%W, HO⟩, Hs, Hd, HtS, HrS, HtR, HrR⟩ Hk
  ihave #HI := (recs_inv m K ιs c k oS) $$ HR
  ihave #HI' := (recs_inv m K ιs (peer oR c) k oR) $$ HR
  have hc := cell_eq (e := c) hS
  have hc' := cell_eq (e := peer oR c) hR
  have hd := mem_duties m c hm
  have hd' := mem_duties m (peer oR c) hm'
  unfold tok crd reachedC
  rw [owe_cons]
  dsimp only
  rw [hp]
  rw [hc] at hd
  rw [hc'] at hd'
  rw [hc, hc', ha]
  iapply (Rounds.wp_send_pointsTo 𝒱₀ ER (Rd m) (c : Thread nD τ) none (κ₁ := K (c, ⟨code k oS, code_lt k oS⟩)) (κ₂ := K (peer oR c, ⟨code k oR, code_lt k oR⟩))
      (r₁ := rnd k oS) (r₂ := rnd k oR) (d₁ := (k, oS)) (d₂ := (k, oR)) (q := q) (fs := fs) (fd := fd)
      hd hd' (pos k oR) (pos k oS) (amt oR) hN ha rfl (owe c rest) rfl (W := W) hpS hpR) $$ [Hs Hd HO HtS HrS HtR HrR]
  · isplitr; · iexact HI
    isplitr; · iexact HI'
    isplitl [Hs]; · iexact Hs
    isplitl [Hd]; · iexact Hd
    isplitl [HO]; · iexact HO
    isplitl [HtS]; · iexact HtS
    isplitl [HrS]; · iexact HrS
    isplitl [HtR]; · iexact HtR
    iexact HrR
  iintro ⟨Hc, HO⟩
  iapply Hk
  isplitl [HO]; · iexists W; iexact HO
  iexact Hc

/-! ## Permissions -/

def isPerm : Op → Bool
  | .xrd | .rd _ | .frd _ => true
  | _ => false

theorem perm_duty {o : Op} (h : isPerm o = true) : ∀ d ∈ dutyL (code 0 o) 0, d.2 = o := by
  cases o <;> simp only [isPerm, Bool.false_eq_true] at h
  · decide +kernel
  · rename_i a; cases a <;> decide +kernel
  · rename_i a; cases a <;> decide +kernel
theorem perm_cell {o : Op} (h : isPerm o = true) (e : Dev nD) (k : ℕ) : cell e k o = cell e 0 o := by
  cases o <;> simp only [isPerm, Bool.false_eq_true] at h <;> rfl
theorem perm_amt {o : Op} (h : isPerm o = true) : amt o = 1 := by
  cases o <;> simp only [isPerm, Bool.false_eq_true] at h <;> rfl
theorem perm_expect {o : Op} (h : isPerm o = true) (e : Dev nD) : (Rd m).expect (cell e 0 o) 0 = ((Rd m).duties (cell e 0 o) 0).card := by
  unfold Schedule.expect Schedule.amountOf
  rw [Finset.card_eq_sum_ones]
  refine Finset.sum_congr rfl fun d hd => ?_
  rw [duties_kcell m e (code_lt 0 o), List.mem_toFinset] at hd
  show amt d.2 = 1
  rw [perm_duty h d hd, perm_amt h]

/-- A wait for one more of a kind of permission. -/
theorem op_perm {q : Sem sig} (n : ℕ) (o : Op) (ho : isPerm o = true) (hq : smc (code 0 o) = .reg q) (hm : (n, o) ∈ allL)
    {l : List D} (hl : Abv (pos n o) l) {α : Type} {kk : PUnit → PG F α} {Q : α → sProp 𝕄} :
    iprop(recs m K ιs ∗ owesE c l ∗ crd c (n, o) ∗ credAt m c o n)
      ⊢ iprop(((owesE c l ∗ credAt m c o (n + 1)) -∗ run c (kk ⟨⟩) Q) -∗ run c (.op (.semWait q 1) kk) Q) := by
  have hex := perm_expect m ho c
  unfold owesE credAt crd
  iintro ⟨#HR, ⟨%W, HO⟩, Hc, ⟨%T, %hT, Hat, HT⟩⟩ Hk
  ihave #HI := (recs_inv m K ιs c 0 o) $$ HR
  ihave #HL := (recs_lev m K ιs) $$ HR
  have hc := cell_eq (e := c) hq
  dsimp only
  rw [perm_cell ho c n, perm_amt ho]
  rw [hc] at hex hT
  rw [hc]
  iapply (Rounds.wp_wait 𝒱₀ ER (Rd m) (c : Thread nD τ) none (κ := K (c, ⟨code 0 o, code_lt 0 o⟩)) (k' := 1)
      (wpE_semWait_eq 𝒱₀ (c : Thread nD τ) none Set.univ) (Set.mem_univ _) (cr := Finsupp.single (pos n o) 1) (O := owe c l) (W := W)
      {(SemLoc.reg q, pos n o)} (R := 0) (m := n) (T := T)
      (Util.total_single _ _) (image_single_subset _ _ _)) $$ [Hc HO Hat]
  · isplitr; · iexact HI
    isplitl [Hc]; · iexact Hc
    isplitl [HO]; · iexact HO
    isplitr; · iapply (mayWait_owe c (.reg q) (pos_lt _ hm) hl); iexact HL
    iexact Hat
  iintro %S ⟨%hS, HO, Hat, Hp⟩
  iapply Hk
  isplitl [HO]; · iexists _; iexact HO
  iexists S
  isplitr
  · ipureintro
    refine ⟨hS.2.1, ?_⟩
    have h1 := hS.2.2
    rw [hex, Finset.card_sdiff_of_subset hS.2.1] at h1
    have h2 := Finset.card_le_card hS.2.1
    omega
  isplitl [Hat]; · iexact Hat
  have hu : S = T ∪ (S \ T) := (Finset.union_sdiff_of_subset hS.1).symm
  have he : (bigSep S fun d => pay m c d.1 d.2) = iprop((bigSep T fun d => pay m c d.1 d.2) ∗ bigSep (S \ T) fun d => pay m c d.1 d.2) := by
    conv_lhs => rw [hu]
    exact bigSep_union Finset.disjoint_sdiff
  iapply (Entails.of_eq he.symm)
  isplitl [HT]; · iexact HT
  iexact Hp

/-- `n + 1` permissions of a kind are the facts up to the `n`-th. -/
theorem credAt_fact {o : Op} (ho : isPerm o = true) (n : ℕ) (Φ : ℕ → sProp 𝕄) [∀ i, BI.Persistent (Φ i)] (hΦ : ∀ k, pay m c k o = bigSep (Finset.range (k + 1)) Φ) :
    credAt m c o (n + 1) ⊢ iprop(credAt m c o (n + 1) ∗ bigSep (Finset.range (n + 1)) Φ) := by
  unfold credAt
  iintro ⟨%T, %hT, Hat, HT⟩
  have hd2 : ∀ d ∈ T, d.2 = o := fun d hd => perm_duty ho d (by
    have := hT.1 hd
    rwa [duties_kcell m c (code_lt 0 o), List.mem_toFinset] at this)
  have hd : ∃ d ∈ T, n ≤ d.1 := by
    by_contra hno
    have : T ⊆ (Finset.range n).map ⟨fun k => (k, o), fun a b h => (Prod.mk.inj h).1⟩ := fun d hd => by
      rw [Finset.mem_map]
      exact ⟨d.1, Finset.mem_range.mpr (Nat.lt_of_not_le fun h => hno ⟨d, hd, h⟩), Prod.ext rfl (hd2 d hd).symm⟩
    have h1 := Finset.card_le_card this
    rw [Finset.card_map, Finset.card_range] at h1
    omega
  obtain ⟨d, hd, hn⟩ := hd
  have he : (bigSep T fun d => pay m c d.1 d.2) = bigSep T fun d => bigSep (Finset.range (d.1 + 1)) Φ :=
    bigSep_congr fun d hd => by rw [hd2 d hd]; exact hΦ d.1
  have hone : (bigSep T fun d => bigSep (Finset.range (d.1 + 1)) Φ) ⊢ bigSep (Finset.range (n + 1)) Φ :=
    (bigSep_elim (Φ := fun d : D => bigSep (Finset.range (d.1 + 1)) Φ) hd).trans
      (bigSep_subset (by intro i hi; rw [Finset.mem_range] at *; omega))
  ihave #HT' := (Entails.of_eq he) $$ HT
  isplitl [Hat]
  · iexists T
    isplitr; · ipureintro; exact hT
    isplitl [Hat]; · iexact Hat
    iapply (Entails.of_eq he.symm)
    iexact HT'
  iapply hone
  iexact HT'

end Cert.AR

end
-- ==== Proof.Prims.lean ====
/-
  The kernel's operations as programs of their own, with what each needs and gives; sequencing, guards, families of
  resources indexed by the block.
-/
module

public import proofs.«01_k».proof.Proof.Ops

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

/-! ## Sequencing -/

theorem cps {p : PG F PUnit} {P P' : sProp 𝕄} (h : P ⊢ run c p fun _ => P') {β : Type} {kk : PUnit → PG F β} {Q : β → sProp 𝕄} :
    P ⊢ iprop((P' -∗ run c (kk ⟨⟩) Q) -∗ run c (p >>= kk) Q) := by
  unfold run
  rw [wp_bind]
  iintro HP Hk
  ihave Hp := h $$ HP
  iapply (wp_wand _ _ _) $$ Hp
  iintro %a HP'
  iapply Hk
  iexact HP'

theorem run_ret {α : Type} {P : sProp 𝕄} {Q : α → sProp 𝕄} {x : α} (h : P ⊢ Q x) : P ⊢ run c (.ret x) Q := by
  unfold run
  rw [wp_ret]
  iintro HP
  imodintro
  iapply h
  iexact HP

theorem guard {p : Prop} [Decidable p] {b : p → PG F PUnit} {P P' : sProp 𝕄} (h : ∀ hp : p, P ⊢ run c (b hp) fun _ => P') (h' : ¬ p → P ⊢ P') :
    P ⊢ run c (if hp : p then b hp else .ret ⟨⟩) fun _ => P' := by
  by_cases hp : p
  · rw [dif_pos hp]; exact h hp
  · rw [dif_neg hp]; exact run_ret c (h' hp)

omit [FloatOps F] in
theorem Ico_take {Φ : ℕ → sProp 𝕄} {n N : ℕ} (h : n < N) : bigSep (Finset.Ico n N) Φ = iprop(Φ n ∗ bigSep (Finset.Ico (n + 1) N) Φ) := by
  rw [show Finset.Ico n N = insert n (Finset.Ico (n + 1) N) by ext i; simp only [Finset.mem_Ico, Finset.mem_insert]; omega, bigSep_insert (by simp)]
  rfl
omit [FloatOps F] in
theorem Ico_put {Φ : ℕ → sProp 𝕄} {lo n : ℕ} (h : lo ≤ n) : bigSep (Finset.Ico lo (n + 1)) Φ = iprop(Φ n ∗ bigSep (Finset.Ico lo n) Φ) := by
  rw [show Finset.Ico lo (n + 1) = insert n (Finset.Ico lo n) by ext i; simp only [Finset.mem_Ico, Finset.mem_insert]; omega, bigSep_insert (by simp)]
  rfl

/-! ## What a transfer leaves -/

omit [FloatOps F] in
/-- Written through a view, the covered elements are those of any contents that read the same. -/
theorem pts_write {c : Dev nD} {s : Shape} {sp : Space} {M : Memref sig .tc sp s .f32} {q : PosShare TreeShare}
    (fd g : Buf (Elt F) (M.view.loc (c : Thread nD τ))) {w : s.Idx → Elt F .f32} (hw : M.view.read (Elt F) g = w) :
    ((M.view.loc (c : Thread nD τ) ↦[M.view.set]{q} M.view.write (Elt F) fd w Finset.univ) : sProp 𝕄) = (M.view.loc (c : Thread nD τ) ↦[M.view.set]{q} g) := by
  refine pointsTo_congr fun i hi => ?_
  rw [← hw, View.write_read_eq_piecewise]
  exact Finset.piecewise_eq_of_mem _ _ _ (by rw [View.setOn_univ]; exact hi)

theorem hold_write {c : Dev nD} {s : Shape} {sp : Space} {M : Memref sig .tc sp s .f32} {q : PosShare TreeShare}
    (fd : Buf (Elt F) (M.view.loc (c : Thread nD τ))) (w : s.Idx → Elt F .f32) :
    ((M.view.loc (c : Thread nD τ) ↦[M.view.set]{q} M.view.write (Elt F) fd w Finset.univ) : sProp 𝕄) = hold m c M q w :=
  pts_write fd _ (read_cont m c M w)

/-! ## The operations -/

/-- The DMA semaphore and the regular one of a kind of payment. -/
def dm (k : ℕ) (o : Op) : DmaSem sig := ⟨2 + code k o % 26, by show _ < 28; omega⟩
def rg (o : Op) : Sem sig := ⟨(code 0 o - 26) % 6, Nat.mod_lt _ (by decide)⟩

theorem smc_dm {k : ℕ} {o : Op} (h : code k o < 26) : smc (code k o) = .dma (dm k o) := by
  unfold smc dm
  rw [dif_pos h]
  congr 2
  omega
theorem smc_rg {o : Op} (h : 26 ≤ code 0 o) : smc (code 0 o) = .reg (rg o) := by
  unfold smc rg
  rw [dif_neg (by omega)]

theorem code_solo {k : ℕ} {o : Op} (h : amt o ≠ 1 ∨ solo (k, o) = true) (hb : isPerm o = false) (hx : code 0 o ≠ 31) : code k o < 26 := by
  cases o <;> (try rename_i a; cases a) <;> simp only [isPerm, code, Bool.toNat_true, Bool.toNat_false, Bool.true_eq_false, ne_eq, not_true_eq_false] at * <;> omega

theorem wxQ (M : V3) (s : Fin 2) : (sl M s).view.WordExact := (View.wordExact_bits rfl).reshape _ _
theorem wxH (M : V2) (h : Bool) : (hf M h).view.WordExact := View.wordExact_bits rfl

/-- Waits for a landing of a quarter, of half a quarter. -/
def wt (k : ℕ) (o : Op) : PG F PUnit :=
  if amt o = NQ then .op (.waitDma2 (dm k o) (sl xcM 0) (sl xcM 0) (wxQ _ _) (wxQ _ _)) .ret
  else .op (.waitDma2 (dm k o) (hf (sl xcM 0) false) (hf (sl xcM 0) false) (wxH _ _) (wxH _ _)) .ret
/-- Waits for a permission. -/
def pw (o : Op) : PG F PUnit := .op (.semWait (rg o) 1) .ret
/-- Signals. -/
def sg (o : Op) : PG F PUnit := .op (.semSignal ((peer o c : Dev nD) : Thread nD τ) (rg o) 1) .ret

theorem wt_run (k : ℕ) (o : Op) (hm : (k, o) ∈ allL) (hs : solo (k, o) = true) {l : List D} (hl : Abv (pos k o) l) :
    iprop(recs m K ιs ∗ owesE c l ∗ crd c (k, o) ∗ posA c k o) ⊢ run c (wt k o) fun _ => iprop(owesE c l ∗ posA c (k + 2) o ∗ pay m c k o) := by
  have hq : smc (code k o) = .dma (dm k o) := smc_dm (by
    cases o <;> (try rename_i a; cases a) <;> simp only [solo, Bool.false_eq_true, reduceCtorEq] at hs <;> simp only [code, Bool.toNat_true, Bool.toNat_false] <;> omega)
  have ho : amt o = NQ ∨ amt o = NH := by
    cases o <;> simp only [solo, Bool.false_eq_true, reduceCtorEq] at hs <;> first | exact Or.inl rfl | exact Or.inr rfl
  unfold wt
  by_cases h : amt o = NQ
  · rw [if_pos h]
    iintro H
    iapply (op_wait m K ιs c k o hm hs hq h.symm hl) $$ H
    iintro H
    iapply (run_ret c .rfl)
    iexact H
  · rw [if_neg h]
    iintro H
    iapply (op_wait m K ιs c k o hm hs hq (ho.resolve_left h).symm hl) $$ H
    iintro H
    iapply (run_ret c .rfl)
    iexact H

theorem pw_run (n : ℕ) (o : Op) (ho : isPerm o = true) (hm : (n, o) ∈ allL) {l : List D} (hl : Abv (pos n o) l) :
    iprop(recs m K ιs ∗ owesE c l ∗ crd c (n, o) ∗ credAt m c o n) ⊢ run c (pw o) fun _ => iprop(owesE c l ∗ credAt m c o (n + 1)) := by
  unfold pw
  iintro H
  iapply (op_perm m K ιs c n o ho (smc_rg (by cases o <;> simp only [isPerm, Bool.false_eq_true] at ho <;> simp only [code] <;> omega)) hm hl) $$ H
  iintro H
  iapply (run_ret c .rfl)
  iexact H

theorem sg_run (k : ℕ) (o : Op) (ha : isPerm o = true ∨ code 0 o = 31) (hd : (k, o) ∈ allL) (hr : rnd k o = 0) {rest : List D} :
    iprop(recs m K ιs ∗ owesE c ((k, o) :: rest) ∗ tok c (k, o) ∗ pay m (peer o c) k o) ⊢ run c (sg c o) fun _ => owesE c rest := by
  have hc : code k o = code 0 o ∧ 26 ≤ code 0 o ∧ amt o = 1 := by
    cases o <;> (try rename_i a; cases a) <;> simp [isPerm, code] at ha <;> simp [code, amt]
  unfold sg
  iintro ⟨#HR, HO, Ht, Hp⟩
  ihave #Hr := (recs_reached m K ιs (peer o c) k o hr) $$ HR
  iapply (op_sig m K ιs c k o rfl (by rw [hc.1]; exact smc_rg hc.2.1) hd hc.2.2) $$ [HO Ht Hp]
  · isplitr; · iexact HR
    isplitl [HO]; · iexact HO
    isplitl [Ht]; · iexact Ht
    isplitl [Hp]; · iexact Hp
    iexact Hr
  iintro H
  iapply (run_ret c .rfl)
  iexact H

end Cert.AR

end
-- ==== Proof.Fam.lean ====
/-
  The device's resources by the block they serve, and each operation on them.
-/
module

public import proofs.«01_k».proof.Proof.Prims

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

theorem memL {k : ℕ} {o : Op} (hk : k < 8) (h : isPerm o = false) (h' : code 0 o ≠ 31) : (k, o) ∈ allL := by
  unfold allL
  rw [List.mem_flatMap]
  refine ⟨k, List.mem_range.mpr hk, List.mem_map.mpr ⟨o, ?_, rfl⟩⟩
  unfold opsAt
  cases o <;> (try rename_i a; cases a) <;> simp [isPerm, code] at h h' ⊢
theorem memP {k : ℕ} (hk : k < 6) : (k, .xrd) ∈ allL ∧ ∀ a, (k, .rd a) ∈ allL := by
  have : ∀ k < 6, (k, Op.xrd) ∈ allL ∧ ∀ a, (k, Op.rd a) ∈ allL := by decide +kernel
  exact this k hk
theorem memF {k : ℕ} (hk : k < 5) : ∀ a, (k, .frd a) ∈ allL := by
  have : ∀ k < 5, ∀ a, (k, Op.frd a) ∈ allL := by decide +kernel
  exact this k hk

omit [FloatOps F] in
theorem range_elim {Φ : ℕ → sProp 𝕄} {n i : ℕ} (h : i < n) : bigSep (Finset.range n) Φ ⊢ Φ i := by
  exact bigSep_elim (Finset.mem_range.mpr h)

/-- A wait, with the position of both slots. -/
theorem wtP (k : ℕ) (o : Op) (hm : (k, o) ∈ allL) (hs : solo (k, o) = true) {l : List D} (hl : Abv (pos k o) l) :
    iprop(recs m K ιs ∗ owesE c l ∗ crd c (k, o) ∗ posP c k o) ⊢ run c (wt k o) fun _ => iprop(owesE c l ∗ posP c (k + 1) o ∗ pay m c k o) := by
  unfold posP
  iintro ⟨#HR, HO, Hc, Ha, Hb⟩
  iapply (wp_wand _ _ _) $$ [HO Hc Ha]
  · iapply (wt_run m K ιs c k o hm hs hl)
    isplitr; · iexact HR
    isplitl [HO]; · iexact HO
    isplitl [Hc]; · iexact Hc
    iexact Ha
  iintro %_ ⟨HO, Ha, Hp⟩
  isplitl [HO]; · iexact HO
  isplitl [Ha Hb]
  · isplitl [Hb]; · iexact Hb
    iexact Ha
  iexact Hp

/-- Payments to come of a kind from block `n` on, all of them awaited. -/
def Wt (o : Op) (n : ℕ) : sProp 𝕄 := iprop(posP c n o ∗ bigSep (Finset.Ico n 8) fun k => crd c (k, o))
theorem wtW (k : ℕ) (o : Op) (hk : k < 8) (hm : (k, o) ∈ allL) (hs : solo (k, o) = true) {l : List D} (hl : Abv (pos k o) l) :
    iprop(recs m K ιs ∗ owesE c l ∗ Wt c o k) ⊢ run c (wt k o) fun _ => iprop(owesE c l ∗ Wt c o (k + 1) ∗ pay m c k o) := by
  unfold Wt
  rw [Ico_take hk]
  iintro ⟨#HR, HO, Hp, Hc, Hcs⟩
  iapply (wp_wand _ _ _) $$ [HO Hc Hp]
  · iapply (wtP m K ιs c k o hm hs hl)
    isplitr; · iexact HR
    isplitl [HO]; · iexact HO
    isplitl [Hc]; · iexact Hc
    iexact Hp
  iintro %_ ⟨HO, Ha, Hp⟩
  isplitl [HO]; · iexact HO
  isplitl [Ha Hcs]
  · isplitl [Ha]; · iexact Ha
    iexact Hcs
  iexact Hp

omit [FloatOps F] in
/-- The round of this block or the next is reached. -/
theorem posP_reached {k n : ℕ} (o : Op) (h : n = k ∨ n = k + 1) : (posP c k o : sProp 𝕄) ⊢ iprop(posP c k o ∗ reachedC c n o) := by
  unfold posP posA
  iintro ⟨⟨Ha, #Hr⟩, Hb, #Hr'⟩
  isplitl [Ha Hb]
  · isplitl [Ha]
    · isplitl [Ha]; · iexact Ha
      iexact Hr
    · isplitl [Hb]; · iexact Hb
      iexact Hr'
  rcases h with rfl | rfl
  · iexact Hr
  · iexact Hr'

/-- Rights to pay, from block `n` on. -/
def TP (o : Op) (lim n : ℕ) : sProp 𝕄 := bigSep (Finset.Ico n lim) fun k => tok c (k, o)

/-! ## Permissions -/

def permOp : Option Bool → Op | none => .xrd | some a => .rd a
def pe : Option Bool → Dev nD | none => xp c | some a => pa a c
def sendOp : Option Bool → Op | none => .xS | some a => .fS a

/-- Of the permissions to use the partner's slots, `n` were taken; the slots' blocks below `n + 2` are free. -/
def PK (b : Option Bool) (n : ℕ) : sProp 𝕄 :=
  iprop(credAt m c (permOp b) n ∗ (bigSep (Finset.Ico n 6) fun k => crd c (k, permOp b)) ∗ bigSep (Finset.range (n + 2)) fun i => rdy b (pe c b) i)

theorem pk_step (b : Option Bool) (n : ℕ) (hn : n < 6) {l : List D} (hl : Abv (pos n (permOp b)) l) :
    iprop(recs m K ιs ∗ owesE c l ∗ PK m c b n) ⊢ run c (pw (permOp b)) fun _ => iprop(owesE c l ∗ PK m c b (n + 1)) := by
  have hperm : isPerm (permOp b) = true := by cases b <;> rfl
  unfold PK
  rw [Ico_take hn]
  iintro ⟨#HR, HO, Hat, ⟨Hc, Hcs⟩, #Hf⟩
  iapply (wp_wand _ _ _) $$ [HO Hc Hat]
  · iapply (pw_run m K ιs c n (permOp b) hperm (by cases b; exact (memP hn).1; exact (memP hn).2 _) hl)
    isplitr; · iexact HR
    isplitl [HO]; · iexact HO
    isplitl [Hc]; · iexact Hc
    iexact Hat
  iintro %_ ⟨HO, Hat⟩
  isplitl [HO]; · iexact HO
  ihave ⟨Hat, #Hf'⟩ := (credAt_fact m c hperm n (fun i => rdy b (pe c b) (i + 2)) (fun k => by cases b <;> rfl)) $$ Hat
  isplitl [Hat]; · iexact Hat
  isplitl [Hcs]; · iexact Hcs
  iapply (Entails.of_eq (bigSep_range_succ (n + 2) (fun i => rdy (F := F) b (pe c b) i)).symm)
  isplitr
  · iapply (range_elim (Φ := fun i => rdy (F := F) b (pe c b) (i + 2)) (Nat.lt_succ_self n))
    iexact Hf'
  iexact Hf

/-- The same for the permissions to write the neighbour's result. -/
def PF (a : Bool) (n : ℕ) : sProp 𝕄 :=
  iprop(credAt m c (.frd a) n ∗ (bigSep (Finset.Ico n 5) fun k => crd c (k, .frd a)) ∗ bigSep (Finset.range n) fun i => reachedC (pa a c) (i + 2) (.g a))

theorem pf_step (a : Bool) (n : ℕ) (hn : n < 5) {l : List D} (hl : Abv (pos n (.frd a)) l) :
    iprop(recs m K ιs ∗ owesE c l ∗ PF m c a n) ⊢ run c (pw (.frd a)) fun _ => iprop(owesE c l ∗ PF m c a (n + 1)) := by
  unfold PF
  rw [Ico_take hn]
  iintro ⟨#HR, HO, Hat, ⟨Hc, Hcs⟩, #Hf⟩
  iapply (wp_wand _ _ _) $$ [HO Hc Hat]
  · iapply (pw_run m K ιs c n (.frd a) rfl (memF hn a) hl)
    isplitr; · iexact HR
    isplitl [HO]; · iexact HO
    isplitl [Hc]; · iexact Hc
    iexact Hat
  iintro %_ ⟨HO, Hat⟩
  isplitl [HO]; · iexact HO
  ihave ⟨Hat, #Hf'⟩ := (credAt_fact m c (o := .frd a) rfl n (fun i => reachedC (pa a c) (i + 2) (.g a)) (fun k => rfl)) $$ Hat
  isplitl [Hat]; · iexact Hat
  isplitl [Hcs]; · iexact Hcs
  iexact Hf'

theorem pf_reached (a : Bool) {n k : ℕ} (h : k < n + 2 ∨ (k = 7 ∧ 3 < n)) : iprop(recs m K ιs ∗ PF m c a n) ⊢ iprop(PF m c a n ∗ reachedC (pa a c) k (.g a)) := by
  unfold PF
  iintro ⟨#HR, Hat, Hc, #Hf⟩
  isplitl [Hat Hc]
  · isplitl [Hat]; · iexact Hat
    isplitl [Hc]; · iexact Hc
    iexact Hf
  by_cases h2 : k < 2
  · iapply (recs_reached m K ιs (pa a c) k (.g a) (by show (if k = 7 then 2 else k / 2) = 0; rw [if_neg (by omega)]; omega))
    iexact HR
  rcases h with h | ⟨rfl, h⟩
  · obtain ⟨i, rfl⟩ : ∃ i, k = i + 2 := ⟨k - 2, by omega⟩
    iapply (range_elim (Φ := fun i => reachedC (F := F) (pa a c) (i + 2) (.g a)) (show i < n by omega))
    iexact Hf
  · ihave H := (range_elim (Φ := fun i => reachedC (F := F) (pa a c) (i + 2) (.g a)) h) $$ Hf
    ihave H' := (Entails.of_eq (show reachedC (F := F) (pa a c) (3 + 2) (.g a) = reachedC (pa a c) 7 (.g a) from rfl)) $$ H
    iexact H'

/-! ## Transfers into a neighbour's slots -/

/-- What sending from block `n` on takes: the rights to pay at both ends, the turns to write the neighbour's slot. -/
def TX (b : Option Bool) (n : ℕ) : sProp 𝕄 :=
  bigSep (Finset.Ico n 8) fun k => iprop(tok c (k, recvOp b) ∗ tok c (k, sendOp b) ∗ writeTok ES (pe c b, b, sp k) (k / 2 + 1))

theorem sl_sc (b : Option Bool) (s : Fin 2) (n : Dev nD) :
    ((sl (bufM b) s : V2) : Memref sig (Dev.tc n : Thread nD τ).2.kind .vmem S512x1024 .f32).view.ref.isScScratch = false := by
  rcases b with _ | _ | _ <;> rfl
theorem sl_credit (b : Option Bool) (s : Fin 2) : (sl (bufM b) s).view.dmaCredit = NQ := by
  rcases b with _ | _ | _ <;> rfl

/-- Sends a quarter into the slot of block `k`. -/
def snd (b : Option Bool) (k : ℕ) (src : V2) (h : src.view.WordExact) : PG F PUnit :=
  .op (.enqueueDma src (.remote (Dev.tc (pe c b) : Thread nD τ) (sl (bufM b) (sp k)) (.dma (dm k (sendOp b))) (sl_sc b (sp k) (pe c b))) (.dma (dm k (recvOp b)))
    h (wxQ _ _) ⟨⟨rfl, Or.inl rfl⟩, trivial⟩) .ret

theorem snd_run (b : Option Bool) (k n : ℕ) (hk : k < 8) (hkn : k < n + 2) {src : V2} {h : src.view.WordExact} {q : PosShare TreeShare}
    {fs : Buf (Elt F) (src.view.loc (c : Thread nD τ))}
    (hpS : (src.view.loc (c : Thread nD τ) ↦[src.view.set]{q} fs) ⊢ pay m c k (sendOp b))
    (hpR : pay m (pe c b) k (recvOp b) = hold m (pe c b) (sl (bufM b) (sp k)) fullShare (src.view.read (Elt F) fs)) {rest : List D} :
    iprop(recs m K ιs ∗ owesE c ((k, recvOp b) :: rest) ∗ (src.view.loc (c : Thread nD τ) ↦[src.view.set]{q} fs) ∗ TX c b k ∗ PK m c b n ∗ reachedC c k (sendOp b))
      ⊢ run c (snd c b k src h) fun _ => iprop(owesE c rest ∗ TX c b (k + 1) ∗ PK m c b n ∗ crd c (k, sendOp b)) := by
  have hm1 : (k, sendOp b) ∈ allL := memL hk (by rcases b with _ | _ | _ <;> rfl) (by rcases b with _ | _ | _ <;> decide)
  have hm2 : (k, recvOp b) ∈ allL := memL hk (by rcases b with _ | _ | _ <;> rfl) (by rcases b with _ | _ | _ <;> decide)
  have hc1 : code k (sendOp b) < 26 := by rcases b with _ | _ | _ <;> simp only [sendOp, code, Bool.toNat_true, Bool.toNat_false] <;> omega
  have hc2 : code k (recvOp b) < 26 := by rcases b with _ | _ | _ <;> simp only [recvOp, code, Bool.toNat_true, Bool.toNat_false] <;> omega
  unfold TX PK snd
  rw [Ico_take hk]
  iintro ⟨#HR, HO, Hs, ⟨⟨HtR, HtS, Hw⟩, HX⟩, ⟨Hat, Hc, #Hf⟩, #HrS⟩
  ihave Hf' := (range_elim (Φ := fun i => rdy (F := F) b (pe c b) i) hkn) $$ Hf
  unfold rdy
  icases Hf' with ⟨#HrR, #Hrel⟩
  ihave #HS := (recs_slot m K ιs (pe c b, b, sp k)) $$ HR
  imod (slot_take (E := ES) (ι := ιs (pe c b, b, sp k)) (k := (pe c b, b, sp k)) (S := slotAny (F := F) (pe c b, b, sp k)) (Set.mem_univ _) (k / 2 + 1)) $$ [Hw] with Hd
  · isplitr; · iexact HS
    isplitr; · iexact Hrel
    iexact Hw
  unfold slotAny slot
  icases Hd with ⟨%fd, Hd⟩
  iapply (op_send m K ιs c (n := pe c b) k (sendOp b) (recvOp b) (fd := fd) (by rcases b with _ | _ | _ <;> rfl) (smc_dm hc1) (smc_dm hc2) hm1 hm2
    (by rcases b with _ | _ | _ <;> rfl) (by rcases b with _ | _ | _ <;> rfl)
    (by have := sl_credit b (sp k); rcases b with _ | _ | _ <;> exact this) hpS
    (by rw [hpR]; exact Entails.of_eq (hold_write m fd _))) $$ [HO Hs Hd HtR HtS]
  · isplitr; · iexact HR
    isplitl [HO]; · iexact HO
    isplitl [Hs]; · iexact Hs
    isplitl [Hd]; · iexact Hd
    isplitl [HtS]; · iexact HtS
    isplitr; · iexact HrS
    isplitl [HtR]; · iexact HtR
    iexact HrR
  iintro ⟨HO, Hcr⟩
  iapply (run_ret c .rfl)
  isplitl [HO]; · iexact HO
  isplitl [HX]; · iexact HX
  isplitl [Hat Hc]
  · isplitl [Hat]; · iexact Hat
    isplitl [Hc]; · iexact Hc
    iexact Hf
  iexact Hcr

/-! ## Giving a slot up -/

def rdr (b : Option Bool) (n : ℕ) : sProp 𝕄 := readerAt ES (c, b, sp n) (n / 2 + 1)
/-- Blocks below `n` were read: the slots of blocks below 6 given up again, the last two kept. -/
def Rr (b : Option Bool) (n : ℕ) : sProp 𝕄 :=
  iprop((if n ≤ 6 then iprop(rdr c b n ∗ rdr c b (n + 1)) else emp) ∗ (bigSep (Finset.Ico 6 n) fun k => slotAny (c, b, sp k))
    ∗ bigSep (Finset.range (min n 6)) fun i => rdy b c (i + 2))

theorem rr_step (b : Option Bool) (n : ℕ) (hn : n < 8) :
    iprop(recs m K ιs ∗ Rr c b n ∗ slotAny (c, b, sp n) ∗ reachedC c (n + 2) (recvOp b)) ⊢ |={Set.univ}=> (Rr c b (n + 1) : sProp 𝕄) := by
  unfold Rr
  by_cases h : n < 6
  · rw [if_pos (by omega), if_pos (by omega), show min n 6 = n by omega, show min (n + 1) 6 = n + 1 by omega]
    unfold rdr
    iintro ⟨#HR, ⟨⟨Hr1, Hr2⟩, Hk, #Hf⟩, Hs, #Hre⟩
    ihave #HS := (recs_slot m K ιs (c, b, sp n)) $$ HR
    imod (slot_release (E := ES) (ι := ιs (c, b, sp n)) (k := (c, b, sp n)) (S := slotAny (F := F) (c, b, sp n)) (Set.mem_univ _)
      (slot_slot_false (ℓ := (sl (bufM b) (sp n)).view.loc (c : Thread nD τ)) (View.set_nonempty (v := (sl (bufM b) (sp n)).view) (show 0 < S512x1024.numel by decide +kernel))) (n / 2 + 1)) $$ [Hr1 Hs] with ⟨Hr1, #Hrel⟩
    · isplitr; · iexact HS
      isplitl [Hr1]; · iexact Hr1
      iexact Hs
    imodintro
    have e1 : sp (n + 2) = sp n := Fin.ext (by show (n + 2) % 2 = n % 2; omega)
    isplitl [Hr1 Hr2]
    · isplitl [Hr2]; · iexact Hr2
      rw [show n + 1 + 1 = n + 2 from rfl, e1, show (n + 2) / 2 + 1 = n / 2 + 1 + 1 by omega]
      iexact Hr1
    isplitl [Hk]
    · rw [Finset.Ico_eq_empty (by omega), Finset.Ico_eq_empty (by omega)]; iexact Hk
    rw [bigSep_range_succ]
    isplitr
    · unfold rdy
      isplitr; · iexact Hre
      rw [e1, show (n + 2) / 2 + 1 = n / 2 + 1 + 1 by omega]
      iexact Hrel
    iexact Hf
  · rw [if_neg (show ¬ n + 1 ≤ 6 by omega), show min n 6 = 6 by omega, show min (n + 1) 6 = 6 by omega, Ico_put (show 6 ≤ n by omega)]
    iintro ⟨#HR, ⟨Hr, Hk, #Hf⟩, Hs, #Hre⟩
    imodintro
    isplitr; · iempintro
    isplitl [Hk Hs]
    · isplitl [Hs]; · iexact Hs
      iexact Hk
    iexact Hf

/-! ## A quarter that came along an axis: shared out, put together -/

/-- The share the copy into the own result reads, the half to be forwarded or kept. -/
def HQ (a : Bool) (k : ℕ) : sProp 𝕄 := hold m c (sl (inM a) (sp k)) qR (Sm m (pa a c) k)
def HA (a h : Bool) (k : ℕ) : sProp 𝕄 := holdI m c (sl (inM a) (sp k)) (hset (sl (inM a) (sp k)) h) qL (Sm m (pa a c) k)

theorem hset_union (M : V2) : M.view.set = hset M false ∪ hset M true := by
  show _ = (M.view.slice (hr false)).set ∪ (M.view.slice (hr true)).set
  rw [View.set_slice, View.set_slice, ← Finset.map_union, show (hr false).set ∪ (hr true).set = Finset.univ from ?_]; · rfl
  ext i
  have h0 : (i 0).val < 512 := (i 0).isLt
  have h1 : (i 1).val < 1024 := (i 1).isLt
  rw [Finset.mem_union, Rect.mem_set_unit, Rect.mem_set_unit]
  refine ⟨fun _ => Finset.mem_univ _, fun _ => ?_⟩
  rcases Nat.lt_or_ge (i 0).val 256 with h | h
  · left; intro a
    match a with
    | 0 => exact ⟨Nat.zero_le _, h⟩
    | 1 => exact ⟨Nat.zero_le _, h1⟩
  · right; intro a
    match a with
    | 0 => exact ⟨h, h0⟩
    | 1 => exact ⟨Nat.zero_le _, h1⟩
theorem hset_disjoint (M : V2) : Disjoint (hset M false) (hset M true) := by
  show Disjoint (M.view.slice (hr false)).set (M.view.slice (hr true)).set
  rw [View.set_slice, View.set_slice, Finset.disjoint_map, Finset.disjoint_left]
  intro i hi hj
  rw [Rect.mem_set_unit] at hi hj
  have h1 := (hi 0).2
  have h2 := (hj 0).1
  change (i 0).val < 0 + 256 at h1
  change 256 ≤ (i 0).val at h2
  omega

theorem in_split (a : Bool) (k : ℕ) :
    hold m c (sl (inM a) (sp k)) fullShare (Sm m (pa a c) k) ⊣⊢ iprop((HA m c a false k ∗ HA m c a true k) ∗ HQ m c a k) := by
  unfold HQ HA hold holdI
  have e1 : _ ⊣⊢ (_ : sProp 𝕄) := pointsTo_share (ℓ := (sl (inM a) (sp k)).view.loc (c : Thread nD τ)) (I := (sl (inM a) (sp k)).view.set)
    (f := cont m c (sl (inM a) (sp k)) (Sm m (pa a c) k)) (PosShare.mem_left_op_right fullShare)
  have e2 : _ ⊣⊢ (_ : sProp 𝕄) := pointsTo_union (ℓ := (sl (inM a) (sp k)).view.loc (c : Thread nD τ)) (q := qL)
    (f := cont m c (sl (inM a) (sp k)) (Sm m (pa a c) k)) (hset_disjoint (sl (inM a) (sp k)))
  rw [← hset_union] at e2
  constructor
  · iintro H
    ihave ⟨H1, H2⟩ := e1.1 $$ H
    ihave H1 := e2.1 $$ H1
    isplitl [H1]; · iexact H1
    iexact H2
  · iintro ⟨H1, H2⟩
    iapply e1.2
    isplitl [H1]
    · iapply e2.2; iexact H1
    iexact H2

end Cert.AR

end
-- ==== Proof.Outs.lean ====
/-
  The transfers into the result, the shared rounds of two forwarded halves, the sum, the staged block.
-/
module

public import proofs.«01_k».proof.Proof.Fam

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

/-! ## Rows of the result -/

theorem outR_inb {lo : ℕ} (h : lo + 512 ≤ 16384) : ∀ a, (![lo, 0] : Fin 2 → ℕ) a + S512x1024.size a ≤ S16384x1024.size a := fun a =>
  match a with | 0 => h | 1 => (show 0 + 1024 ≤ 1024 from le_refl _)
theorem outH_inb {lo : ℕ} (h : lo + 256 ≤ 16384) : ∀ a, (![lo, 0] : Fin 2 → ℕ) a + S256x1024.size a ≤ S16384x1024.size a := fun a =>
  match a with | 0 => h | 1 => (show 0 + 1024 ≤ 1024 from le_refl _)
abbrev outR (lo : ℕ) (h : lo + 512 ≤ 16384) : Memref sig .tc .hbm S512x1024 .f32 :=
  outM.slice (Rect.unit (s := S16384x1024) ![lo, 0] S512x1024.size (outR_inb h)) (fun _ => rfl)
abbrev outH (lo : ℕ) (h : lo + 256 ≤ 16384) : Memref sig .tc .hbm S256x1024 .f32 :=
  outM.slice (Rect.unit (s := S16384x1024) ![lo, 0] S256x1024.size (outH_inb h)) (fun _ => rfl)

theorem loQ_le {k q : ℕ} (hk : k < 8) (hq : q < 4) : loQ k q + 512 ≤ 16384 := by show 2048 * k + 512 * q + 512 ≤ _; omega
theorem loG_le (e : Dev nD) {k : ℕ} (a : Bool) (hk : k < 8) : loG e k a + 256 ≤ 16384 := by
  have := tau_lt (dg e)
  have : a.toNat ≤ 1 := by cases a <;> decide
  show 2048 * k + 512 * tau (dg e) + 256 * a.toNat + 256 ≤ _
  omega

theorem outR_write (e : Dev nD) {k q : ℕ} (hk : k < 8) (hq : q < 4) (fd : Buf (Elt F) ((outR (loQ k q) (loQ_le hk hq)).view.loc (e : Thread nD τ))) :
    (((outR (loQ k q) (loQ_le hk hq)).view.loc (e : Thread nD τ) ↦[(outR (loQ k q) (loQ_le hk hq)).view.set]{fullShare}
      (outR (loQ k q) (loQ_le hk hq)).view.write (Elt F) fd (Sm m (own e q) k) Finset.univ) : sProp 𝕄) = outP m e (loQ k q) 512 := by
  rw [pts_write fd (G m e) (read_quarter m e k q hk hq (outR_inb (loQ_le hk hq)) rfl rfl)]
  unfold outP
  rw [show (outR (loQ k q) (loQ_le hk hq)).view.set = rows (loQ k q) 512 from set_rows (outR_inb (loQ_le hk hq)) rfl rfl]
theorem outH_write (e : Dev nD) {k : ℕ} (a : Bool) (hk : k < 8) (fd : Buf (Elt F) ((outH (loG e k a) (loG_le e a hk)).view.loc (e : Thread nD τ))) :
    (((outH (loG e k a) (loG_le e a hk)).view.loc (e : Thread nD τ) ↦[(outH (loG e k a) (loG_le e a hk)).view.set]{fullShare}
      (outH (loG e k a) (loG_le e a hk)).view.write (Elt F) fd (hv a (Sm m (dg e) k)) Finset.univ) : sProp 𝕄) = outP m e (loG e k a) 256 := by
  have hr := read_half m e k (tau (dg e)) a hk (tau_lt _) (outH_inb (loG_le e a hk)) rfl rfl
  rw [own_tau_dg] at hr
  rw [pts_write fd (G m e) hr]
  unfold outP
  rw [show (outH (loG e k a) (loG_le e a hk)).view.set = rows (loG e k a) 256 from set_rows (outH_inb (loG_le e a hk)) rfl rfl]

/-! ## Copies into the own result -/

def cpy (k : ℕ) (o : Op) (src : V2) (h : src.view.WordExact) (lo : ℕ) (hlo : lo + 512 ≤ 16384) : PG F PUnit :=
  .op (.enqueueDma src (.here (outR lo hlo)) (.dma (dm k o)) h (View.wordExact_bits rfl) ⟨Or.inl rfl, trivial⟩) .ret

theorem cpy_run (k : ℕ) (o : Op) (hk : k < 8) (ho : o = .stm ∨ ∃ a, o = .st a) {q : ℕ} (hq : q < 4) {src : V2} {h : src.view.WordExact} {qs : PosShare TreeShare}
    (hpay : pay m c k o = iprop(outP m c (loQ k q) 512 ∗ hold m c src qs (Sm m (own c q) k))) :
    iprop(recs m K ιs ∗ hold m c src qs (Sm m (own c q) k) ∗ outB c (loQ k q) 512 ∗ tok c (k, o) ∗ reachedC c k o)
      ⊢ run c (cpy k o src h (loQ k q) (loQ_le hk hq)) fun _ => crd c (k, o) := by
  have hset : (outR (loQ k q) (loQ_le hk hq)).view.set = rows (loQ k q) 512 := set_rows (outR_inb (loQ_le hk hq)) rfl rfl
  have hm : (k, o) ∈ allL := by rcases ho with rfl | ⟨a, rfl⟩ <;> exact memL hk rfl (by first | decide | (cases a <;> decide))
  have hcd : code k o < 26 := by
    rcases ho with rfl | ⟨a, rfl⟩
    · simp only [code]; omega
    · cases a <;> simp only [code, Bool.toNat_true, Bool.toNat_false] <;> omega
  unfold outB cpy
  rw [← hset]
  iintro ⟨#HR, Hs, ⟨%fd, Hd⟩, Ht, #Hr⟩
  iapply (op_copy m K ιs c k o (src := src) (dst := outR (loQ k q) (loQ_le hk hq)) (q := qs) (fs := cont m c src (Sm m (own c q) k)) (fd := fd) hm
    (by rcases ho with rfl | ⟨a, rfl⟩ <;> rfl) (smc_dm hcd) (by rcases ho with rfl | ⟨a, rfl⟩ <;> rfl)
    (by rw [read_cont, hpay]; exact sep_mono_left (Entails.of_eq (outR_write m c hk hq fd)))) $$ [Hs Hd Ht]
  · isplitr; · iexact HR
    isplitl [Hs]; · unfold hold holdI; iexact Hs
    isplitl [Hd]; · iexact Hd
    isplitl [Ht]; · iexact Ht
    iexact Hr
  iintro Hc
  iapply (run_ret c .rfl)
  iexact Hc

/-- The rights and rows for copying what comes along an axis, the own sums. -/
def TS (a : Bool) (n : ℕ) : sProp 𝕄 := bigSep (Finset.Ico n 8) fun k => iprop(tok c (k, .st a) ∗ outB c (loQ k (tau (pa a c))) 512)
def TM (n : ℕ) : sProp 𝕄 := bigSep (Finset.Ico n 8) fun k => iprop(tok c (k, .stm) ∗ outB c (loQ k (tau c)) 512)

def cpS (a : Bool) (k : ℕ) (hk : k < 8) : PG F PUnit := cpy k (.st a) (sl (inM a) (sp k)) (wxQ _ _) (loQ k (tau (pa a c))) (loQ_le hk (tau_lt _))
def cpM (k : ℕ) (hk : k < 8) : PG F PUnit := cpy k .stm (sl smM (sp k)) (wxQ _ _) (loQ k (tau c)) (loQ_le hk (tau_lt _))

theorem cpS_run (a : Bool) (k : ℕ) (hk : k < 8) :
    iprop(recs m K ιs ∗ HQ m c a k ∗ TS c a k ∗ posP c k (.st a)) ⊢ run c (cpS c a k hk) fun _ => iprop(TS c a (k + 1) ∗ posP c k (.st a) ∗ crd c (k, .st a)) := by
  have h := cpy_run m K ιs c k (.st a) hk (Or.inr ⟨a, rfl⟩) (tau_lt (pa a c)) (src := sl (inM a) (sp k)) (h := wxQ _ _) (qs := qR)
    (by rw [own_tau_pa]; rfl)
  rw [own_tau_pa] at h
  unfold TS HQ cpS
  rw [Ico_take hk]
  iintro ⟨#HR, Hs, ⟨⟨Ht, Hd⟩, HT⟩, Hp⟩
  ihave ⟨Hp, #Hr⟩ := (posP_reached c (n := k) (.st a) (Or.inl rfl)) $$ Hp
  iapply (wp_wand _ _ _) $$ [Hs Ht Hd]
  · iapply h
    isplitr; · iexact HR
    isplitl [Hs]; · iexact Hs
    isplitl [Hd]; · iexact Hd
    isplitl [Ht]; · iexact Ht
    iexact Hr
  iintro %_ Hc
  isplitl [HT]; · iexact HT
  isplitl [Hp]; · iexact Hp
  iexact Hc

theorem cpM_run (k n : ℕ) (hk : k < 8) (hn : k = n ∨ k = n + 1) :
    iprop(recs m K ιs ∗ hold m c (sl smM (sp k)) qRR (Sm m c k) ∗ TM c k ∗ posP c n .stm) ⊢ run c (cpM c k hk) fun _ => iprop(TM c (k + 1) ∗ posP c n .stm ∗ crd c (k, .stm)) := by
  have h := cpy_run m K ιs c k .stm hk (Or.inl rfl) (tau_lt c) (src := sl smM (sp k)) (h := wxQ _ _) (qs := qRR)
    (by rw [own_tau]; rfl)
  rw [own_tau] at h
  unfold TM cpM
  rw [Ico_take hk]
  iintro ⟨#HR, Hs, ⟨⟨Ht, Hd⟩, HT⟩, Hp⟩
  ihave ⟨Hp, #Hr⟩ := (posP_reached c (n := k) .stm hn) $$ Hp
  iapply (wp_wand _ _ _) $$ [Hs Ht Hd]
  · iapply h
    isplitr; · iexact HR
    isplitl [Hs]; · iexact Hs
    isplitl [Hd]; · iexact Hd
    isplitl [Ht]; · iexact Ht
    iexact Hr
  iintro %_ Hc
  isplitl [HT]; · iexact HT
  isplitl [Hp]; · iexact Hp
  iexact Hc

/-! ## Halves forwarded into a neighbour's result -/

def TG (a : Bool) (n : ℕ) : sProp 𝕄 :=
  bigSep (Finset.Ico n 8) fun k => iprop(tok c (k, .g a) ∗ tok c (k, .gS a) ∗ outB (pa a c) (loG (pa a c) k a) 256)

def fwd (a : Bool) (k : ℕ) (hk : k < 8) : PG F PUnit :=
  .op (.enqueueDma (hf (sl (inM (!a)) (sp k)) a) (.remote (Dev.tc (pa a c) : Thread nD τ) (outH (loG (pa a c) k a) (loG_le _ a hk)) (.dma (dm k (.gS a))) rfl) (.dma (dm k (.g a)))
    (wxH _ _) (View.wordExact_bits rfl) ⟨⟨rfl, Or.inl rfl⟩, trivial⟩) .ret

theorem fwd_run (a : Bool) (k n : ℕ) (hk : k < 8) (hn : k < n + 2 ∨ (k = 7 ∧ 3 < n)) {rest : List D} :
    iprop(recs m K ιs ∗ owesE c ((k, .g a) :: rest) ∗ HA m c (!a) a k ∗ TG c a k ∗ posP c k (.gS a) ∗ PF m c a n)
      ⊢ run c (fwd c a k hk) fun _ => iprop(owesE c rest ∗ TG c a (k + 1) ∗ posP c k (.gS a) ∗ PF m c a n ∗ crd c (k, .gS a)) := by
  have hset : (outH (loG (pa a c) k a) (loG_le _ a hk)).view.set = rows (loG (pa a c) k a) 256 := set_rows (outH_inb (loG_le _ a hk)) rfl rfl
  have hc1 : code k (.gS a) < 26 := by cases a <;> simp only [code, Bool.toNat_true, Bool.toNat_false] <;> omega
  have hc2 : code k (.g a) < 26 := by cases a <;> simp only [code, Bool.toNat_true, Bool.toNat_false] <;> omega
  have hread : (hf (sl (inM (!a)) (sp k)) a).view.read (Elt F) (cont m c (sl (inM (!a)) (sp k)) (Sm m (pa (!a) c) k)) = hv a (Sm m (dg (pa a c)) k) := by
    rw [read_hf, read_cont, dg_pa]
  unfold TG outB fwd HA holdI
  rw [Ico_take hk, ← hset]
  iintro ⟨#HR, HO, Hs, ⟨⟨HtR, HtS, ⟨%fd, Hd⟩⟩, HT⟩, Hp, HF⟩
  ihave ⟨Hp, #HrS⟩ := (posP_reached c (n := k) (.gS a) (Or.inl rfl)) $$ Hp
  ihave ⟨HF, #HrR⟩ := (pf_reached m K ιs c a hn) $$ [HF]
  · isplitr; · iexact HR
    iexact HF
  iapply (op_send m K ιs c (n := pa a c) k (.gS a) (.g a) (src := hf (sl (inM (!a)) (sp k)) a) (dst := outH (loG (pa a c) k a) (loG_le _ a hk)) (q := qL)
      (fs := cont m c (sl (inM (!a)) (sp k)) (Sm m (pa (!a) c) k)) (fd := fd) rfl (smc_dm hc1) (smc_dm hc2)
      (memL hk rfl (by cases a <;> decide)) (memL hk rfl (by cases a <;> decide)) rfl rfl rfl .rfl
      (by rw [hread]; exact Entails.of_eq (outH_write m (pa a c) a hk fd))) $$ [HO Hs Hd HtR HtS]
  · isplitr; · iexact HR
    isplitl [HO]; · iexact HO
    isplitl [Hs]; · iexact Hs
    isplitl [Hd]; · iexact Hd
    isplitl [HtS]; · iexact HtS
    isplitr; · iexact HrS
    isplitl [HtR]; · iexact HtR
    iexact HrR
  iintro ⟨HO, Hc⟩
  iapply (run_ret c .rfl)
  isplitl [HO]; · iexact HO
  isplitl [HT]; · iexact HT
  isplitl [Hp]; · iexact Hp
  isplitl [HF]; · iexact HF
  iexact Hc

/-! ## Halves that come in: blocks 5 and 7 share a round -/

theorem wt_as (k : ℕ) (o : Op) (ho : amt o = NQ ∨ amt o = NH) :
    ∃ (s : Shape) (M : Memref sig .tc .vmem s .f32) (h h' : M.view.WordExact), M.view.dmaCredit = amt o ∧ wt (F := F) k o = .op (.waitDma2 (dm k o) M M h h') .ret := by
  unfold wt
  by_cases h : amt o = NQ
  · exact ⟨_, _, _, _, h.symm, by rw [if_pos h]⟩
  · exact ⟨_, _, _, _, (ho.resolve_left h).symm, by rw [if_neg h]⟩

theorem g_round (a : Bool) : dutyL (code 5 (.g a)) 2 = [(5, .g a), (7, .g a)] := by cases a <;> decide +kernel
def gSet (a : Bool) : Finset D := {(5, .g a), (7, .g a)}
theorem g_duties (e : Dev nD) (a : Bool) : (Rd m).duties (cell e 5 (.g a)) 2 = gSet a := by
  rw [duties_kcell m e (code_lt 5 (.g a)), g_round]; cases a <;> rfl
theorem g_expect (e : Dev nD) (a : Bool) : (Rd m).expect (cell e 5 (.g a)) 2 = NH + NH := by
  unfold Schedule.expect Schedule.amountOf
  rw [g_duties, gSet, Finset.sum_pair (by simp)]; rfl

/-- One half of the two has come; whose landing it was is not known. -/
def gMid (a : Bool) : sProp 𝕄 :=
  iprop(∃ S : Finset D, ⌜S ⊆ gSet a⌝ ∗ atPos ER (cell c 5 (.g a)) 2 S NH ∗ bigSep S fun d => pay m c d.1 d.2)

theorem wt5_run (a : Bool) {l : List D} (hl : Abv (pos 5 (.g a)) l) :
    iprop(recs m K ιs ∗ owesE c l ∗ crd c (5, .g a) ∗ atPos ER (cell c 5 (.g a)) 2 ∅ 0) ⊢ run c (wt 5 (.g a)) fun _ => iprop(owesE c l ∗ gMid m c a) := by
  obtain ⟨s, M, h1, h2, hN, hw⟩ := wt_as (F := F) 5 (.g a) (Or.inr rfl)
  rw [hw]
  have hc : kcell c (code 5 (.g a)) = ((c : Thread nD τ), SemLoc.dma (dm 5 (.g a))) :=
    cell_eq (e := c) (smc_dm (by cases a <;> decide))
  have hds := g_duties m c a
  unfold owesE gMid crd
  have hI := recs_inv m K ιs c 5 (.g a)
  unfold cell at *
  rw [hc] at hI
  rw [hc] at hds
  dsimp only
  iintro ⟨#HR, ⟨%W, HO⟩, Hc, Hat⟩
  ihave #HI := hI $$ HR
  ihave #HL := (recs_lev m K ιs) $$ HR
  rw [hc, ← hN]
  iapply (Rounds.wp_wait 𝒱₀ ER (Rd m) (c : Thread nD τ) none (κ := K (c, ⟨code 5 (.g a), code_lt 5 (.g a)⟩)) (k' := M.view.dmaCredit)
      (wpE_waitDma2_eq 𝒱₀ (c : Thread nD τ) none Set.univ) (Set.mem_univ _) (cr := Finsupp.single (pos 5 (.g a)) M.view.dmaCredit) (O := owe c l) (W := W)
      {(SemLoc.dma (dm 5 (.g a)), pos 5 (.g a))} (R := 2) (m := 0) (T := ∅)
      (Util.total_single _ _) (image_single_subset _ _ _)) $$ [Hc HO Hat]
  · isplitr; · iexact HI
    isplitl [Hc]; · iexact Hc
    isplitl [HO]; · iexact HO
    isplitr; · iapply (mayWait_owe c (.dma (dm 5 (.g a))) (show pos 5 (.g a) < 1024 from pos_lt _ (memL (o := .g a) (by decide) rfl (by cases a <;> decide))) hl); iexact HL
    iexact Hat
  iintro %S ⟨%hS, HO, Hat, Hp⟩
  iapply (run_ret c .rfl)
  isplitl [HO]; · iexists _; iexact HO
  iexists S
  isplitr; · ipureintro; rw [← hds]; exact hS.2.1
  rw [Nat.zero_add, Finset.sdiff_empty, hN]
  isplitl [Hat]; · iexact Hat
  iexact Hp

theorem wt7_run (a : Bool) {l : List D} (hl : Abv (pos 7 (.g a)) l) :
    iprop(recs m K ιs ∗ owesE c l ∗ crd c (7, .g a) ∗ gMid m c a)
      ⊢ run c (wt 7 (.g a)) fun _ => iprop(owesE c l ∗ atPos ER (cell c 5 (.g a)) 3 ∅ 0 ∗ pay m c 5 (.g a) ∗ pay m c 7 (.g a)) := by
  obtain ⟨s, M, h1, h2, hN, hw⟩ := wt_as (F := F) 7 (.g a) (Or.inr rfl)
  rw [hw]
  have hc : kcell c (code 5 (.g a)) = ((c : Thread nD τ), SemLoc.dma (dm 7 (.g a))) :=
    cell_eq (e := c) (k := 7) (o := .g a) (smc_dm (by cases a <;> decide))
  have hds := g_duties m c a
  have hex := g_expect m c a
  unfold owesE gMid crd
  dsimp only
  rw [show cell c 7 (.g a) = cell c 5 (.g a) from rfl]
  have hI := recs_inv m K ιs c 5 (.g a)
  unfold cell at *
  rw [hc] at hI
  rw [hc] at hds hex
  iintro ⟨#HR, ⟨%W, HO⟩, Hc, ⟨%S, %hS, Hat, HS⟩⟩
  ihave #HI := hI $$ HR
  ihave #HL := (recs_lev m K ιs) $$ HR
  rw [hc, ← hN]
  iapply (Rounds.wp_wait_rest_token 𝒱₀ ER (Rd m) (c : Thread nD τ) none (κ := K (c, ⟨code 5 (.g a), code_lt 5 (.g a)⟩))
      (wpE_waitDma2_eq 𝒱₀ (c : Thread nD τ) none Set.univ) (Set.mem_univ _) (pos 7 (.g a)) (O := owe c l) (W := W) (R := 2) (m := NH) (T := S)
      (by rw [hex, hN]; rfl)) $$ [Hc HO Hat]
  · isplitr; · iexact HI
    isplitl [Hc]; · iexact Hc
    isplitl [HO]; · iexact HO
    isplitr; · iapply (mayWait_owe c (.dma (dm 7 (.g a))) (show pos 7 (.g a) < 1024 from pos_lt _ (memL (o := .g a) (by decide) rfl (by cases a <;> decide))) hl); iexact HL
    iexact Hat
  iintro ⟨HO, Hat, Hre, Hp⟩
  iapply (run_ret c .rfl)
  isplitl [HO]; · iexists _; iexact HO
  isplitl [Hat]; · iexact Hat
  rw [hds]
  have he : (bigSep (gSet a) fun d => pay m c d.1 d.2) = iprop((bigSep S fun d => pay m c d.1 d.2) ∗ bigSep (gSet a \ S) fun d => pay m c d.1 d.2) := by
    conv_lhs => rw [← Finset.union_sdiff_of_subset hS]
    exact bigSep_union Finset.disjoint_sdiff
  have he' : (bigSep (gSet a) fun d => pay m c d.1 d.2) = iprop(pay m c 5 (.g a) ∗ pay m c 7 (.g a)) := by
    unfold gSet
    rw [bigSep_insert (by simp), bigSep_singleton]; rfl
  iapply (Entails.of_eq (he.symm.trans he'))
  isplitl [HS]; · iexact HS
  iexact Hp

/-- The halves that came of blocks below `n`. -/
def DG (a : Bool) (n : ℕ) : sProp 𝕄 := bigSep (Finset.range n) fun k => outP m c (loG c k a) 256
/-- The waits for them from block `n` on; the rounds reached. -/
def GS (a : Bool) (n : ℕ) : sProp 𝕄 :=
  iprop((if n ≤ 5 then iprop(posP c n (.g a) ∗ DG m c a n) else iprop(posA c 6 (.g a) ∗ gMid m c a ∗ DG m c a 5))
    ∗ (bigSep (Finset.Ico n 8) fun k => crd c (k, .g a)) ∗ bigSep (Finset.range (min n 5)) fun i => reachedC c (i + 2) (.g a))

theorem gs_step (a : Bool) (n : ℕ) (hn : n < 6) {l : List D} (hl : Abv (pos n (.g a)) l) :
    iprop(recs m K ιs ∗ owesE c l ∗ GS m c a n) ⊢ run c (wt n (.g a)) fun _ => iprop(owesE c l ∗ GS m c a (n + 1)) := by
  unfold GS
  rw [if_pos (show n ≤ 5 by omega), Ico_take (show n < 8 by omega)]
  by_cases h : n < 5
  · rw [if_pos (show n + 1 ≤ 5 by omega), show min n 5 = n by omega, show min (n + 1) 5 = n + 1 by omega, bigSep_range_succ]
    unfold DG
    rw [bigSep_range_succ]
    iintro ⟨#HR, HO, ⟨Hp, HD⟩, ⟨Hc, Hcs⟩, #Hf⟩
    iapply (wp_wand _ _ _) $$ [HO Hc Hp]
    · iapply (wtP m K ιs c n (.g a) (memL (by omega) rfl (by cases a <;> decide)) (by simp only [solo, decide_eq_true_eq]; omega) hl)
      isplitr; · iexact HR
      isplitl [HO]; · iexact HO
      isplitl [Hc]; · iexact Hc
      iexact Hp
    iintro %_ ⟨HO, Hp, HP⟩
    ihave ⟨Hp, #Hr⟩ := (posP_reached c (k := n + 1) (n := n + 2) (.g a) (Or.inr rfl)) $$ Hp
    isplitl [HO]; · iexact HO
    isplitl [Hp HP HD]
    · isplitl [Hp]; · iexact Hp
      isplitl [HP]; · unfold pay; iexact HP
      iexact HD
    isplitl [Hcs]; · iexact Hcs
    isplitr; · iexact Hr
    iexact Hf
  · obtain rfl : n = 5 := by omega
    rw [if_neg (show ¬ 5 + 1 ≤ 5 by omega)]
    unfold posP posA
    iintro ⟨#HR, HO, ⟨⟨⟨Ha, -⟩, Hb⟩, HD⟩, ⟨Hc, Hcs⟩, #Hf⟩
    iapply (wp_wand _ _ _) $$ [HO Hc Ha]
    · iapply (wt5_run m K ιs c a hl)
      isplitr; · iexact HR
      isplitl [HO]; · iexact HO
      isplitl [Hc]; · iexact Hc
      ihave Ha' := (Entails.of_eq (show atPos ER (cell c 5 (.g a)) (rnd 5 (.g a)) ∅ 0 = (atPos ER (cell c 5 (.g a)) 2 ∅ 0 : sProp 𝕄) from rfl)) $$ Ha
      iexact Ha'
    iintro %_ ⟨HO, Hg⟩
    isplitl [HO]; · iexact HO
    isplitl [Hb Hg HD]
    · isplitl [Hb]; · iexact Hb
      isplitl [Hg]; · iexact Hg
      iexact HD
    isplitl [Hcs]; · iexact Hcs
    iexact Hf

/-- All came but block 7's; all came. -/
def GT (a : Bool) : sProp 𝕄 := iprop(posA c 8 (.g a) ∗ gMid m c a ∗ DG m c a 5 ∗ outP m c (loG c 6 a) 256 ∗ crd c (7, .g a))
def GE (a : Bool) : sProp 𝕄 := iprop(posA c 8 (.g a) ∗ atPos ER (cell c 5 (.g a)) 3 ∅ 0 ∗ DG m c a 8)

theorem gs_six (a : Bool) {l : List D} (hl : Abv (pos 6 (.g a)) l) :
    iprop(recs m K ιs ∗ owesE c l ∗ GS m c a 6) ⊢ run c (wt 6 (.g a)) fun _ => iprop(owesE c l ∗ GT m c a) := by
  unfold GS GT
  rw [if_neg (show ¬ 6 ≤ 5 by omega), Ico_take (show 6 < 8 by omega), Ico_take (show 6 + 1 < 8 by omega)]
  iintro ⟨#HR, HO, ⟨Ha, Hg, HD⟩, ⟨Hc, Hc7, -⟩, -⟩
  iapply (wp_wand _ _ _) $$ [HO Hc Ha]
  · iapply (wt_run m K ιs c 6 (.g a) (memL (by omega) rfl (by cases a <;> decide)) (by cases a <;> rfl) hl)
    isplitr; · iexact HR
    isplitl [HO]; · iexact HO
    isplitl [Hc]; · iexact Hc
    iexact Ha
  iintro %_ ⟨HO, Ha, HP⟩
  isplitl [HO]; · iexact HO
  isplitl [Ha]; · iexact Ha
  isplitl [Hg]; · iexact Hg
  isplitl [HD]; · iexact HD
  isplitl [HP]; · unfold pay; iexact HP
  iexact Hc7

theorem gs_seven (a : Bool) {l : List D} (hl : Abv (pos 7 (.g a)) l) :
    iprop(recs m K ιs ∗ owesE c l ∗ GT m c a) ⊢ run c (wt 7 (.g a)) fun _ => iprop(owesE c l ∗ GE m c a) := by
  unfold GT GE DG
  rw [bigSep_range_succ 7, bigSep_range_succ 6, bigSep_range_succ 5]
  iintro ⟨#HR, HO, Ha, Hg, HD, H6, Hc⟩
  iapply (wp_wand _ _ _) $$ [HO Hc Hg]
  · iapply (wt7_run m K ιs c a hl)
    isplitr; · iexact HR
    isplitl [HO]; · iexact HO
    isplitl [Hc]; · iexact Hc
    iexact Hg
  iintro %_ ⟨HO, Hb, H5, H7⟩
  unfold pay
  isplitl [HO]; · iexact HO
  isplitl [Ha]; · iexact Ha
  isplitl [Hb]; · iexact Hb
  isplitl [H7]; · iexact H7
  isplitl [H6]; · iexact H6
  isplitl [H5]; · iexact H5
  iexact HD

end Cert.AR

end
-- ==== Proof.Blocks.lean ====
/-
  The pieces of a step of the kernel, each a program of its own, each with what it needs and gives.
-/
module

public import proofs.«01_k».proof.Proof.Outs

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

/-! ## Permissions, when the step waits for one -/

def pwG (lo j : ℕ) (o : Op) : PG F PUnit := if h : lo ≤ j then pw o else .ret ⟨⟩

theorem pkG (b : Option Bool) {j : ℕ} (hj : j < 8) {l : List D} (hl : 2 ≤ j → Abv (pos (j - 2) (permOp b)) l) :
    iprop(recs m K ιs ∗ owesE c l ∗ PK m c b (j - 2)) ⊢ run c (pwG 2 j (permOp b)) fun _ => iprop(owesE c l ∗ PK m c b (j + 1 - 2)) :=
  guard c (fun h => by
    rw [show j + 1 - 2 = j - 2 + 1 by omega]
    exact pk_step m K ιs c b (j - 2) (by omega) (hl h))
    (fun h => by
      rw [show j + 1 - 2 = j - 2 by omega]
      iintro ⟨-, H⟩
      iexact H)

theorem pfG (a : Bool) {j : ℕ} (hj : j < 8) {l : List D} (hl : 3 ≤ j → Abv (pos (j - 3) (.frd a)) l) :
    iprop(recs m K ιs ∗ owesE c l ∗ PF m c a (j - 3)) ⊢ run c (pwG 3 j (.frd a)) fun _ => iprop(owesE c l ∗ PF m c a (j + 1 - 3)) :=
  guard c (fun h => by
    rw [show j + 1 - 3 = j - 3 + 1 by omega]
    exact pf_step m K ιs c a (j - 3) (by omega) (hl h))
    (fun h => by
      rw [show j + 1 - 3 = j - 3 by omega]
      iintro ⟨-, H⟩
      iexact H)

/-! ## Halves from the neighbours -/

def GG (n : ℕ) : sProp 𝕄 := iprop(GS m c false n ∗ GS m c true n)
def b3 (j : ℕ) : PG F PUnit := if h : 2 ≤ j then wt (j - 2) (.g false) >>= fun _ => wt (j - 2) (.g true) else .ret ⟨⟩

theorem b3_run {j : ℕ} (hj : j < 8) {l : List D} (hl : 2 ≤ j → ∀ a, Abv (pos (j - 2) (.g a)) l) :
    iprop(recs m K ιs ∗ owesE c l ∗ GG m c (j - 2)) ⊢ run c (b3 j) fun _ => iprop(owesE c l ∗ GG m c (j + 1 - 2)) :=
  guard c (fun h => by
    unfold GG
    rw [show j + 1 - 2 = j - 2 + 1 by omega]
    iintro ⟨#HR, HO, HF, HT⟩
    iapply (cps c (gs_step m K ιs c false (j - 2) (by omega) (hl h false))) $$ [HO HF]
    · isplitr; · iexact HR
      isplitl [HO]; · iexact HO
      iexact HF
    iintro ⟨HO, HF⟩
    iapply (wp_wand _ _ _) $$ [HO HT]
    · iapply (gs_step m K ιs c true (j - 2) (by omega) (hl h true))
      isplitr; · iexact HR
      isplitl [HO]; · iexact HO
      iexact HT
    iintro %_ ⟨HO, HT⟩
    isplitl [HO]; · iexact HO
    isplitl [HF]; · iexact HF
    iexact HT)
    (fun h => by
      rw [show j + 1 - 2 = j - 2 by omega]
      iintro ⟨-, H⟩
      iexact H)

def TF (n : ℕ) : sProp 𝕄 := iprop(TP c (.frd false) 5 n ∗ TP c (.frd true) 5 n)
def b4 (j : ℕ) : PG F PUnit := if h : 2 ≤ j ∧ j ≤ 6 then sg c (.frd false) >>= fun _ => sg c (.frd true) else .ret ⟨⟩

theorem gs_facts (a : Bool) (n : ℕ) : GS m c a n ⊢ iprop(GS m c a n ∗ bigSep (Finset.range (min n 5)) fun i => reachedC c (i + 2) (.g a)) := by
  unfold GS
  iintro ⟨H1, H2, #Hf⟩
  isplitl [H1 H2]
  · isplitl [H1]; · iexact H1
    isplitl [H2]; · iexact H2
    iexact Hf
  iexact Hf

theorem sg_frd (a : Bool) {n : ℕ} (hn : n < 5) {rest : List D} :
    iprop(recs m K ιs ∗ owesE c ((n, .frd a) :: rest) ∗ TP c (.frd a) 5 n ∗ GS m c a (n + 1))
      ⊢ run c (sg c (.frd a)) fun _ => iprop(owesE c rest ∗ TP c (.frd a) 5 (n + 1) ∗ GS m c a (n + 1)) := by
  unfold TP
  rw [Ico_take hn]
  iintro ⟨#HR, HO, ⟨Ht, HT⟩, HG⟩
  ihave ⟨HG, #Hf⟩ := (gs_facts m c a (n + 1)) $$ HG
  iapply (wp_wand _ _ _) $$ [HO Ht]
  · iapply (sg_run m K ιs c n (.frd a) (Or.inl rfl) (memF hn a) rfl (rest := rest))
    isplitr; · iexact HR
    isplitl [HO]; · iexact HO
    isplitl [Ht]; · iexact Ht
    have he : pay m (peer (.frd a) c) n (.frd a) = bigSep (Finset.range (min (n + 1) 5)) fun i => reachedC (F := F) c (i + 2) (.g a) := by
      rw [show min (n + 1) 5 = n + 1 by omega]
      show (bigSep (Finset.range (n + 1)) fun i => reachedC (pa a (pa a c)) (i + 2) (.g a)) = _
      rw [pa_pa]
    rw [he]
    iexact Hf
  iintro %_ HO
  isplitl [HO]; · iexact HO
  isplitl [HT]; · iexact HT
  iexact HG

theorem b4_run {j : ℕ} (hj : j < 8) {rest : List D} :
    iprop(recs m K ιs ∗ owesE c (gl (2 ≤ j ∧ j ≤ 6) [(j - 2, .frd false), (j - 2, .frd true)] ++ rest) ∗ TF c (j - 2) ∗ GG m c (j + 1 - 2))
      ⊢ run c (b4 c j) fun _ => iprop(owesE c rest ∗ TF c (j + 1 - 2) ∗ GG m c (j + 1 - 2)) :=
  guard c (fun h => by
    unfold TF GG gl
    rw [if_pos h, show j + 1 - 2 = j - 2 + 1 by omega]
    iintro ⟨#HR, HO, ⟨HtF, HtT⟩, HF, HT⟩
    iapply (cps c (sg_frd m K ιs c false (n := j - 2) (by omega) (rest := (j - 2, .frd true) :: rest))) $$ [HO HtF HF]
    · isplitr; · iexact HR
      isplitl [HO]; · iexact HO
      isplitl [HtF]; · iexact HtF
      iexact HF
    iintro ⟨HO, HtF, HF⟩
    iapply (wp_wand _ _ _) $$ [HO HtT HT]
    · iapply (sg_frd m K ιs c true (n := j - 2) (by omega) (rest := rest))
      isplitr; · iexact HR
      isplitl [HO]; · iexact HO
      isplitl [HtT]; · iexact HtT
      iexact HT
    iintro %_ ⟨HO, HtT, HT⟩
    isplitl [HO]; · iexact HO
    isplitl [HtF HtT]
    · isplitl [HtF]; · iexact HtF
      iexact HtT
    · isplitl [HF]; · iexact HF
      iexact HT)
    (fun h => by
      have hsub : TF (F := F) c (j - 2) ⊢ TF c (j + 1 - 2) := by
        unfold TF TP
        exact BI.sep_mono (bigSep_subset (Finset.Ico_subset_Ico (by omega) le_rfl)) (bigSep_subset (Finset.Ico_subset_Ico (by omega) le_rfl))
      unfold gl
      rw [if_neg h]
      iintro ⟨-, HO, HT, HG⟩
      isplitl [HO]; · iexact HO
      isplitl [HT]; · iapply hsub; iexact HT
      iexact HG)

/-! ## What came along an axis: forwarded, copied -/

def WF (n : ℕ) : sProp 𝕄 := iprop(Wt c (.f false) n ∗ Wt c (.f true) n)
def PA (n : ℕ) : sProp 𝕄 := iprop(PF m c false n ∗ PF m c true n)
def TT (n : ℕ) : sProp 𝕄 := iprop(TG c false n ∗ TG c true n ∗ TS c false n ∗ TS c true n)
def PS (n : ℕ) : sProp 𝕄 := iprop(posP c n (.gS false) ∗ posP c n (.gS true) ∗ posP c n (.st false) ∗ posP c n (.st true))
/-- The waits to come for block `k`'s forwards and copies, the halves kept. -/
def FW (k : ℕ) : sProp 𝕄 :=
  iprop((crd c (k, .gS false) ∗ crd c (k, .gS true) ∗ crd c (k, .st false) ∗ crd c (k, .st true)) ∗ HA m c false false k ∗ HA m c true true k)

def core (k : ℕ) (hk : k < 8) (g : Bool → PG F PUnit) : PG F PUnit :=
  wt k (.f true) >>= fun _ => g false >>= fun _ => fwd c false k hk >>= fun _ => wt k (.f false) >>= fun _ => g true >>= fun _ => fwd c true k hk >>= fun _ =>
    cpS c true k hk >>= fun _ => cpS c false k hk

theorem recvF (a : Bool) (k : ℕ) (hk : k < 8) {l : List D} (hl : Abv (pos k (.f a)) l) :
    iprop(recs m K ιs ∗ owesE c l ∗ Wt c (.f a) k)
      ⊢ run c (wt k (.f a)) fun _ => iprop(owesE c l ∗ Wt c (.f a) (k + 1) ∗ (HA m c a false k ∗ HA m c a true k) ∗ HQ m c a k) := by
  iintro H
  iapply (wp_wand _ _ _) $$ [H]
  · iapply (wtW m K ιs c k (.f a) hk (memL hk rfl (by cases a <;> decide)) rfl hl); iexact H
  iintro %_ ⟨HO, HW, HP⟩
  isplitl [HO]; · iexact HO
  isplitl [HW]; · iexact HW
  iapply (in_split m c a k).1
  unfold pay
  iexact HP

theorem core_run (k n n' : ℕ) (hk : k < 8) (hn : k < n' + 2 ∨ (k = 7 ∧ 3 < n')) (g : Bool → PG F PUnit) {rest : List D}
    (hg : ∀ a, iprop(recs m K ιs ∗ owesE c ((k, .g a) :: (gl (a = false) [(k, .g true)] ++ rest)) ∗ PF m c a n)
      ⊢ run c (g a) fun _ => iprop(owesE c ((k, .g a) :: (gl (a = false) [(k, .g true)] ++ rest)) ∗ PF m c a n'))
    (h1 : Abv (pos k (.f true)) ((k, .g false) :: (k, .g true) :: rest)) (h2 : Abv (pos k (.f false)) ((k, .g true) :: rest)) :
    iprop(recs m K ιs ∗ owesE c ((k, .g false) :: (k, .g true) :: rest) ∗ WF c k ∗ PA m c n ∗ TT c k ∗ PS c k)
      ⊢ run c (core c k hk g) fun _ => iprop(owesE c rest ∗ WF c (k + 1) ∗ PA m c n' ∗ TT c (k + 1) ∗ PS c k ∗ FW m c k) := by
  have hgF := hg false
  have hgT := hg true
  simp only [gl, if_pos, reduceIte, Bool.true_eq_false, List.nil_append, List.singleton_append] at hgF hgT
  unfold WF PA TT PS core FW
  iintro ⟨#HR, HO, ⟨HWF, HWT⟩, ⟨HPF, HPT⟩, ⟨HGF, HGT, HSF, HST⟩, ⟨HpF, HpT, HqF, HqT⟩⟩
  iapply (cps c (recvF m K ιs c true k hk h1)) $$ [HO HWT]
  · isplitr; · iexact HR
    isplitl [HO]; · iexact HO
    iexact HWT
  iintro ⟨HO, HWT, ⟨HTF, HTT⟩, HQT⟩
  iapply (cps c hgF) $$ [HO HPF]
  · isplitr; · iexact HR
    isplitl [HO]; · iexact HO
    iexact HPF
  iintro ⟨HO, HPF⟩
  iapply (cps c (fwd_run m K ιs c false k n' hk hn (rest := (k, .g true) :: rest))) $$ [HO HTF HGF HpF HPF]
  · isplitr; · iexact HR
    isplitl [HO]; · iexact HO
    isplitl [HTF]; · iexact HTF
    isplitl [HGF]; · iexact HGF
    isplitl [HpF]; · iexact HpF
    iexact HPF
  iintro ⟨HO, HGF, HpF, HPF, HcF⟩
  iapply (cps c (recvF m K ιs c false k hk h2)) $$ [HO HWF]
  · isplitr; · iexact HR
    isplitl [HO]; · iexact HO
    iexact HWF
  iintro ⟨HO, HWF, ⟨HFF, HFT⟩, HQF⟩
  iapply (cps c hgT) $$ [HO HPT]
  · isplitr; · iexact HR
    isplitl [HO]; · iexact HO
    iexact HPT
  iintro ⟨HO, HPT⟩
  iapply (cps c (fwd_run m K ιs c true k n' hk hn (rest := rest))) $$ [HO HFT HGT HpT HPT]
  · isplitr; · iexact HR
    isplitl [HO]; · iexact HO
    isplitl [HFT]; · iexact HFT
    isplitl [HGT]; · iexact HGT
    isplitl [HpT]; · iexact HpT
    iexact HPT
  iintro ⟨HO, HGT, HpT, HPT, HcT⟩
  iapply (cps c (cpS_run m K ιs c true k hk)) $$ [HQT HST HqT]
  · isplitr; · iexact HR
    isplitl [HQT]; · iexact HQT
    isplitl [HST]; · iexact HST
    iexact HqT
  iintro ⟨HST, HqT, HdT⟩
  iapply (wp_wand _ _ _) $$ [HQF HSF HqF]
  · iapply (cpS_run m K ιs c false k hk)
    isplitr; · iexact HR
    isplitl [HQF]; · iexact HQF
    isplitl [HSF]; · iexact HSF
    iexact HqF
  iintro %_ ⟨HSF, HqF, HdF⟩
  isplitl [HO]; · iexact HO
  isplitl [HWF HWT]
  · isplitl [HWF]; · iexact HWF
    iexact HWT
  isplitl [HPF HPT]
  · isplitl [HPF]; · iexact HPF
    iexact HPT
  isplitl [HGF HGT HSF HST]
  · isplitl [HGF]; · iexact HGF
    isplitl [HGT]; · iexact HGT
    isplitl [HSF]; · iexact HSF
    iexact HST
  isplitl [HpF HpT HqF HqT]
  · isplitl [HpF]; · iexact HpF
    isplitl [HpT]; · iexact HpT
    isplitl [HqF]; · iexact HqF
    iexact HqT
  isplitl [HcF HcT HdF HdT]
  · isplitl [HcF]; · iexact HcF
    isplitl [HcT]; · iexact HcT
    isplitl [HdF]; · iexact HdF
    iexact HdT
  isplitl [HFF]; · iexact HFF
  iexact HTT

def FWG (j : ℕ) : sProp 𝕄 := if 1 ≤ j then FW m c (j - 1) else iprop(emp)
def b5 (j : ℕ) (hj : j < 8) : PG F PUnit := if h : 1 ≤ j then core c (j - 1) (by omega) (fun a => pwG 3 j (.frd a)) else .ret ⟨⟩

theorem b5_run {j : ℕ} (hj : j < 8) {rest : List D} (hr : Abv (64 * j + 6) rest) :
    iprop(recs m K ιs ∗ owesE c (gl (1 ≤ j) [(j - 1, .g false), (j - 1, .g true)] ++ rest) ∗ WF c (j - 1) ∗ PA m c (j - 3) ∗ TT c (j - 1) ∗ PS c (j - 1))
      ⊢ run c (b5 c j hj) fun _ => iprop(owesE c rest ∗ WF c (j + 1 - 1) ∗ PA m c (j + 1 - 3) ∗ TT c (j + 1 - 1) ∗ PS c (j - 1) ∗ FWG m c j) :=
  guard c (fun h => by
    have hrr : ∀ i, i < 64 * j + 7 → Abv i rest := fun i hi d hd => by have := hr d hd; omega
    unfold FWG
    rw [gl, if_pos h, if_pos h, show j + 1 - 1 = j - 1 + 1 by omega]
    exact core_run m K ιs c (j - 1) (j - 3) (j + 1 - 3) (by omega) (by omega) _ (fun a => pfG m K ιs c a hj fun h3 => by
        have := hrr (pos (j - 3) (.frd a)) (by cases a <;> simp only [pos, Bool.toNat_true, Bool.toNat_false] <;> omega)
        cases a <;> simp only [Abv_cons, Abv_append, Abv_gl, Abv_nil, pos, Bool.toNat_true, Bool.toNat_false, implies_true, and_true] at this ⊢ <;>
          (refine ⟨by omega, ?_⟩) <;> first | exact this | exact ⟨by omega, this⟩ | skip)
      (by
        have := hrr (pos (j - 1) (.f true)) (by simp only [pos, Bool.toNat_true]; omega)
        simp only [Abv_cons, pos, Bool.toNat_true, Bool.toNat_false] at this ⊢
        exact ⟨by omega, by omega, this⟩)
      (by
        have := hrr (pos (j - 1) (.f false)) (by simp only [pos, Bool.toNat_false]; omega)
        simp only [Abv_cons, pos, Bool.toNat_true, Bool.toNat_false] at this ⊢
        exact ⟨by omega, this⟩))
    (fun h => by
      unfold FWG
      rw [gl, if_neg h, if_neg h, show j + 1 - 1 = j - 1 by omega, show j + 1 - 3 = j - 3 by omega]
      iintro ⟨-, HO, H1, H2, H3, H4⟩
      isplitl [HO]; · iexact HO
      isplitl [H1]; · iexact H1
      isplitl [H2]; · iexact H2
      isplitl [H3]; · iexact H3
      isplitl [H4]; · iexact H4
      iempintro)

end Cert.AR

end
-- ==== Proof.Sums.lean ====
/-
  The other pieces of a step: the sum, the slots given up, the last step's waits.
-/
module

public import proofs.«01_k».proof.Proof.Blocks

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

/-! ## The sum's slots -/

def slotSm (k : ℕ) : sProp 𝕄 := iprop(∃ f, (sl smM (sp k)).view.loc (c : Thread nD τ) ↦[(sl smM (sp k)).view.set]{fullShare} f)
/-- The copies of the own sums into the own result that have arrived. -/
def DM (n : ℕ) : sProp 𝕄 := bigSep (Finset.range n) fun k => outP m c (loQ k (tau c)) 512
def DS (a : Bool) (n : ℕ) : sProp 𝕄 := bigSep (Finset.range n) fun k => outP m c (loQ k (tau (pa a c))) 512
def PM (n : ℕ) : sProp 𝕄 := iprop(posP c n (.fS false) ∗ posP c n (.fS true) ∗ posP c n .stm)
def PD (i j : ℕ) : sProp 𝕄 := bigSep (Finset.Ico i j) fun k => iprop(crd c (k, .fS false) ∗ crd c (k, .fS true) ∗ crd c (k, .stm))
def FR (i j : ℕ) : sProp 𝕄 := bigSep (Finset.Ico i j) fun k => slotSm c k
/-- Sums of blocks `i ≤ k < j` are being sent; from block `lo` on a slot is free. -/
def SM (i j lo : ℕ) : sProp 𝕄 := iprop(PM c i ∗ PD c i j ∗ FR c lo (i + 2) ∗ DM m c i)

/-- The parts of a sum's slot sent along each axis and copied are the slot. -/
theorem sm_split (k : ℕ) (w : T2 F) :
    hold m c (sl smM (sp k)) fullShare w ⊣⊢ iprop(hold m c (sl smM (sp k)) qL w ∗ hold m c (sl smM (sp k)) qRL w ∗ hold m c (sl smM (sp k)) qRR w) := by
  unfold hold holdI
  have e1 : _ ⊣⊢ (_ : sProp 𝕄) := pointsTo_share (ℓ := (sl smM (sp k)).view.loc (c : Thread nD τ)) (I := (sl smM (sp k)).view.set)
    (f := cont m c (sl smM (sp k)) w) (PosShare.mem_left_op_right fullShare)
  have e2 : _ ⊣⊢ (_ : sProp 𝕄) := pointsTo_share (ℓ := (sl smM (sp k)).view.loc (c : Thread nD τ)) (I := (sl smM (sp k)).view.set)
    (f := cont m c (sl smM (sp k)) w) (PosShare.mem_left_op_right fullShare.right)
  constructor
  · iintro H
    ihave ⟨H1, H2⟩ := e1.1 $$ H
    ihave H2 := e2.1 $$ H2
    isplitl [H1]; · iexact H1
    iexact H2
  · iintro ⟨H1, H2⟩
    iapply e1.2
    isplitl [H1]; · iexact H1
    iapply e2.2
    iexact H2

/-- The three waits that free a slot of the sum. -/
def rel3 (n : ℕ) : PG F PUnit := wt n (.fS false) >>= fun _ => wt n (.fS true) >>= fun _ => wt n .stm

theorem rel3_at (n : ℕ) (hn : n < 8) {l : List D} (hl : Abv 0 l) :
    iprop(recs m K ιs ∗ owesE c l ∗ (posA c n (.fS false) ∗ posA c n (.fS true) ∗ posA c n .stm) ∗ (crd c (n, .fS false) ∗ crd c (n, .fS true) ∗ crd c (n, .stm)))
      ⊢ run c (rel3 n) fun _ => iprop(owesE c l ∗ (posA c (n + 2) (.fS false) ∗ posA c (n + 2) (.fS true) ∗ posA c (n + 2) .stm) ∗ slotSm c n ∗ outP m c (loQ n (tau c)) 512) := by
  unfold rel3
  iintro ⟨#HR, HO, ⟨HpF, HpT, HpM⟩, HcF, HcT, HcM⟩
  iapply (cps c (wt_run m K ιs c n (.fS false) (memL hn rfl (by decide)) rfl hl)) $$ [HO HcF HpF]
  · isplitr; · iexact HR
    isplitl [HO]; · iexact HO
    isplitl [HcF]; · iexact HcF
    iexact HpF
  iintro ⟨HO, HpF, HF⟩
  iapply (cps c (wt_run m K ιs c n (.fS true) (memL hn rfl (by decide)) rfl hl)) $$ [HO HcT HpT]
  · isplitr; · iexact HR
    isplitl [HO]; · iexact HO
    isplitl [HcT]; · iexact HcT
    iexact HpT
  iintro ⟨HO, HpT, HT⟩
  iapply (wp_wand _ _ _) $$ [HO HcM HpM]
  · iapply (wt_run m K ιs c n .stm (memL hn rfl (by decide)) rfl hl)
    isplitr; · iexact HR
    isplitl [HO]; · iexact HO
    isplitl [HcM]; · iexact HcM
    iexact HpM
  iintro %_ ⟨HO, HpM, HM⟩
  unfold pay
  icases HM with ⟨Ho, HM⟩
  isplitl [HO]; · iexact HO
  isplitl [HpF HpT HpM]
  · isplitl [HpF]; · iexact HpF
    isplitl [HpT]; · iexact HpT
    iexact HpM
  isplitl [HF HT HM]
  · ihave H := (sm_split m c n (Sm m c n)).2 $$ [HF HT HM]
    · isplitl [HF]; · unfold qf; iexact HF
      isplitl [HT]; · unfold qf; iexact HT
      iexact HM
    unfold slotSm hold holdI
    iexists _
    iexact H
  iexact Ho

theorem rel3_run (n : ℕ) (hn : n < 8) {l : List D} (hl : Abv 0 l) :
    iprop(recs m K ιs ∗ owesE c l ∗ PM c n ∗ (crd c (n, .fS false) ∗ crd c (n, .fS true) ∗ crd c (n, .stm)) ∗ DM m c n)
      ⊢ run c (rel3 n) fun _ => iprop(owesE c l ∗ PM c (n + 1) ∗ slotSm c n ∗ DM m c (n + 1)) := by
  unfold PM DM posP
  rw [bigSep_range_succ]
  iintro ⟨#HR, HO, ⟨⟨HaF, HbF⟩, ⟨HaT, HbT⟩, HaM, HbM⟩, Hc, HD⟩
  iapply (wp_wand _ _ _) $$ [HO HaF HaT HaM Hc]
  · iapply (rel3_at m K ιs c n hn hl)
    isplitr; · iexact HR
    isplitl [HO]; · iexact HO
    isplitl [HaF HaT HaM]
    · isplitl [HaF]; · iexact HaF
      isplitl [HaT]; · iexact HaT
      iexact HaM
    iexact Hc
  iintro %_ ⟨HO, ⟨HaF, HaT, HaM⟩, Hs, Ho⟩
  isplitl [HO]; · iexact HO
  isplitl [HaF HaT HaM HbF HbT HbM]
  · isplitl [HaF HbF]
    · isplitl [HbF]; · iexact HbF
      iexact HaF
    isplitl [HaT HbT]
    · isplitl [HbT]; · iexact HbT
      iexact HaT
    · isplitl [HbM]; · iexact HbM
      iexact HaM
  isplitl [Hs]; · iexact Hs
  isplitl [Ho]; · iexact Ho
  iexact HD

def b7 (j : ℕ) : PG F PUnit := if h : 2 ≤ j then rel3 (j - 2) else .ret ⟨⟩
theorem b7_run {j : ℕ} (hj : j < 8) {l : List D} (hl : Abv 0 l) :
    iprop(recs m K ιs ∗ owesE c l ∗ SM m c (j - 2) j j) ⊢ run c (b7 j) fun _ => iprop(owesE c l ∗ SM m c (j + 1 - 2) j j) :=
  guard c (fun h => by
    unfold SM PD FR
    rw [show j + 1 - 2 = j - 2 + 1 by omega, Ico_take (show j - 2 < j by omega), show j - 2 + 1 + 2 = j - 2 + 2 + 1 by omega, Ico_put (show j ≤ j - 2 + 2 by omega)]
    iintro ⟨#HR, HO, HP, ⟨Hc, Hcs⟩, HF, HD⟩
    iapply (wp_wand _ _ _) $$ [HO HP Hc HD]
    · iapply (rel3_run m K ιs c (j - 2) (by omega) hl)
      isplitr; · iexact HR
      isplitl [HO]; · iexact HO
      isplitl [HP]; · iexact HP
      isplitl [Hc]; · iexact Hc
      iexact HD
    iintro %_ ⟨HO, HP, Hs, HD⟩
    isplitl [HO]; · iexact HO
    isplitl [HP]; · iexact HP
    isplitl [Hcs]; · iexact Hcs
    isplitl [Hs HF]
    · isplitl [Hs]
      · unfold slotSm
        rw [show sp (j - 2 + 2) = sp (j - 2) from Fin.ext (by show (j - 2 + 2) % 2 = (j - 2) % 2; omega)]
        iexact Hs
      iexact HF
    iexact HD)
    (fun h => by
      rw [show j + 1 - 2 = j - 2 by omega]
      iintro ⟨-, H⟩
      iexact H)

/-! ## The sum -/

def ld (j : ℕ) : PG F PUnit :=
  .op (.load (stM (sp j)) (Rect.unit (s := S2048x1024) ![tau c * 512, 0] S512x1024.size xinb).toLoadRect (View.loadsAt_vmem h_S512x1024)) fun v108 =>
  .op (.load xcM (slr (sp j)).toLoadRect (View.loadsAt_vmem h_S1x512x1024)) fun v110 =>
  .op (.load smM (slr (sp j)).toLoadRect (View.loadsAt_vmem h_S1x512x1024)) fun _ =>
  .op (.store smM (slr (sp j)) (k0_pay1 v108 v110) Finset.univ (View.stores_vmem_bits_univ h_S1x512x1024 rfl) (.inl rfl)) .ret

theorem sum_read (s : Fin 2) (f : smM.view.ty.Contents (Elt F)) (a : T2 F) (g : xcM.view.ty.Contents (Elt F)) :
    (sl smM s).view.read (Elt F) ((smM.access (slr s)).write (Elt F) f (k0_pay1 a ((xcM.access (slr s)).read (Elt F) g)) Finset.univ)
      = addf a ((sl xcM s).view.read (Elt F) g) := by
  have e : (sl smM s).view.read (Elt F) ((smM.access (slr s)).write (Elt F) f (k0_pay1 a ((xcM.access (slr s)).read (Elt F) g)) Finset.univ)
      = shapeCast S512x1024 ((smM.access (slr s)).read (Elt F) ((smM.access (slr s)).write (Elt F) f (k0_pay1 a ((xcM.access (slr s)).read (Elt F) g)) Finset.univ))
          shapeCasts_S1x512x1024_S512x1024 := rfl
  rw [e, View.read_write_univ]
  show shapeCast S512x1024 (shapeCast S1x512x1024 (addf (shapeCast S512x1024 a shapeCasts_S512x1024_S512x1024) ((sl xcM s).view.read (Elt F) g))
    shapeCasts_S512x1024_S1x512x1024) shapeCasts_S1x512x1024_S512x1024 = _
  rw [shapeCast_shapeCast, shapeCast_self]

/-- The slot's elements, by the rectangle. -/
theorem sl_access (M : V3) (s : Fin 2) : (sl M s).view.set = (M.access (slr s)).set := View.set_reshape _ _

omit [FloatOps F] in
/-- Contents that read the same agree on what is read. -/
theorem eq_of_read {s : Shape} {sp : Space} {v : View sig .tc sp s .f32} {f g : v.ty.Contents (Elt F)} (h : v.read (Elt F) f = v.read (Elt F) g) :
    ∀ i ∈ v.set, f i = g i := fun i hi => by
  have e1 := congrFun (View.write_read_eq_piecewise (v := v) f f Finset.univ) i
  have e2 := congrFun (View.write_read_eq_piecewise (v := v) f g Finset.univ) i
  rw [View.setOn_univ, Finset.piecewise_eq_of_mem _ _ _ hi] at e1 e2
  rw [← e1, ← e2, h]

theorem hold_of_read {s : Shape} {sp : Space} (M : Memref sig .tc sp s .f32) {q : PosShare TreeShare} {w : s.Idx → Elt F .f32} (f : Buf (Elt F) (M.view.loc (c : Thread nD τ)))
    (h : M.view.read (Elt F) f = w) : ((M.view.loc (c : Thread nD τ) ↦[M.view.set]{q} f) : sProp 𝕄) = hold m c M q w :=
  pointsTo_congr (eq_of_read (v := M.view) (h.trans (read_cont m c M w).symm))

theorem ld_run (j i : ℕ) (hj : j < i + 2) :
    iprop(hold m c (stM (sp j)) qL (blk m c j) ∗ hold m c (sl xcM (sp j)) fullShare (X m (xp c) j) ∗ FR c j (i + 2))
      ⊢ run c (ld c j) fun _ => iprop(hold m c (stM (sp j)) qL (blk m c j) ∗ hold m c (sl xcM (sp j)) fullShare (X m (xp c) j)
          ∗ hold m c (sl smM (sp j)) fullShare (Sm m c j) ∗ FR c (j + 1) (i + 2)) := by
  unfold FR slotSm ld
  rw [Ico_take hj]
  unfold hold holdI
  iintro ⟨Hx, Hc, ⟨⟨%f, Hs⟩, HF⟩⟩
  iapply (wp_load_rect 𝒱₀ (c : Thread nD τ) none Set.univ (m := stM (sp j)) (r := Rect.unit (s := S2048x1024) ![tau c * 512, 0] S512x1024.size xinb) (S := (stM (sp j)).view.set) (q := qL)
    (f := cont m c (stM (sp j)) (blk m c j)) (View.set_slice_subset _ _)) $$ Hx
  iintro Hx
  iapply (wp_load_rect 𝒱₀ (c : Thread nD τ) none Set.univ (m := xcM) (r := slr (sp j)) (S := (sl xcM (sp j)).view.set) (q := fullShare) (f := cont m c (sl xcM (sp j)) (X m (xp c) j)) (by rw [sl_access])) $$ Hc
  iintro Hc
  iapply (wp_load_rect 𝒱₀ (c : Thread nD τ) none Set.univ (m := smM) (r := slr (sp j)) (S := (sl smM (sp j)).view.set) (q := fullShare) (f := f) (by rw [sl_access])) $$ Hs
  iintro Hs
  iapply (wp_store 𝒱₀ (c : Thread nD τ) none Set.univ (m := smM) (r := slr (sp j)) (Mk := Finset.univ) (S := (sl smM (sp j)).view.set) (f := f) (by rw [sl_access]; exact le_rfl)) $$ Hs
  iintro Hs
  iapply (run_ret c .rfl)
  isplitl [Hx]; · iexact Hx
  isplitl [Hc]; · iexact Hc
  isplitl [Hs]
  · have h1 := sum_read (sp j) f ((stM (sp j)).access (Rect.unit (s := S2048x1024) ![tau c * 512, 0] S512x1024.size xinb) |>.read (Elt F) (cont m c (stM (sp j)) (blk m c j)))
      (cont m c (sl xcM (sp j)) (X m (xp c) j))
    rw [read_cont] at h1
    have h2 : ((stM (sp j)).access (Rect.unit (s := S2048x1024) ![tau c * 512, 0] S512x1024.size xinb)).read (Elt F) (cont m c (stM (sp j)) (blk m c j)) = X m c j :=
      read_stage m c j (sp j) _
    rw [h2] at h1 ⊢
    have h3 := hold_of_read m c (sl smM (sp j)) (q := fullShare) (w := Sm m c j) _ h1
    unfold hold holdI at h3
    ihave Hs' := (Entails.of_eq h3) $$ Hs
    iexact Hs'
  iexact HF

end Cert.AR

end
-- ==== Proof.Ends.lean ====
/-
  The later pieces of a step: slots permitted again, the waits for what the step before forwarded and copied.
-/
module

public import proofs.«01_k».proof.Proof.Sums

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

/-! ## Slots given up -/

def b9 (j : ℕ) : PG F PUnit := if h : j ≤ 5 then sg c .xrd else .ret ⟨⟩

theorem b9_run {j : ℕ} (hj : j < 8) {rest : List D} :
    iprop(recs m K ιs ∗ owesE c (gl (j ≤ 5) [(j, .xrd)] ++ rest) ∗ Rr c none j ∗ hold m c (sl xcM (sp j)) fullShare (X m (xp c) j) ∗ Wt c .x (j + 1) ∗ TP c .xrd 6 j)
      ⊢ run c (b9 c j) fun _ => iprop(owesE c rest ∗ Rr c none (j + 1) ∗ Wt c .x (j + 1) ∗ TP c .xrd 6 (j + 1)) := by
  unfold Wt
  iintro ⟨#HR, HO, Hr, Hh, ⟨Hp, Hc⟩, HT⟩
  ihave ⟨Hp, #Hre⟩ := (posP_reached c (k := j + 1) (n := j + 2) .x (Or.inr rfl)) $$ Hp
  imod (rr_step m K ιs c none j hj) $$ [Hr Hh] with Hr
  · isplitr; · iexact HR
    isplitl [Hr]; · iexact Hr
    isplitl [Hh]; · unfold slotAny slot hold holdI; iexists _; iexact Hh
    iexact Hre
  iapply (guard c (P := iprop(recs m K ιs ∗ owesE c (gl (j ≤ 5) [(j, .xrd)] ++ rest) ∗ Rr c none (j + 1) ∗ TP c .xrd 6 j ∗ (posP c (j + 1) .x ∗ bigSep (Finset.Ico (j + 1) 8) fun k => crd c (k, .x))))
    (fun h => by
      unfold gl TP Rr
      rw [if_pos h, Ico_take (show j < 6 by omega), show min (j + 1) 6 = j + 1 by omega]
      iintro ⟨#HR, HO, ⟨Hr1, Hr2, #Hf⟩, ⟨Ht, HT⟩, HW⟩
      iapply (wp_wand _ _ _) $$ [HO Ht]
      · iapply (sg_run m K ιs c j .xrd (Or.inl rfl) (memP (by omega)).1 rfl (rest := rest))
        isplitr; · iexact HR
        isplitl [HO]; · iexact HO
        isplitl [Ht]; · iexact Ht
        have he : pay m (peer .xrd c) j .xrd = bigSep (Finset.range (j + 1)) fun i => rdy (F := F) none c (i + 2) := by
          show (bigSep (Finset.range (j + 1)) fun i => rdy none (xp (xp c)) (i + 2)) = _
          rw [xp_xp]
        rw [he]
        iexact Hf
      iintro %_ HO
      isplitl [HO]; · iexact HO
      isplitl [Hr1 Hr2]
      · isplitl [Hr1]; · iexact Hr1
        isplitl [Hr2]; · iexact Hr2
        iexact Hf
      isplitl [HW]; · iexact HW
      iexact HT)
    (fun h => by
      have hsub : TP (F := F) c .xrd 6 j ⊢ TP c .xrd 6 (j + 1) := bigSep_subset (Finset.Ico_subset_Ico (by omega) le_rfl)
      unfold gl
      rw [if_neg h]
      iintro ⟨-, HO, Hr, HT, HW⟩
      isplitl [HO]; · iexact HO
      isplitl [Hr]; · iexact Hr
      isplitl [HW]; · iexact HW
      iapply hsub
      iexact HT))
  isplitr; · iexact HR
  isplitl [HO]; · iexact HO
  isplitl [Hr]; · iexact Hr
  isplitl [HT]; · iexact HT
  isplitl [Hp]; · iexact Hp
  iexact Hc

theorem rr_join (a : Bool) (k : ℕ) (hk : k < 8) :
    iprop(recs m K ιs ∗ Rr c (some a) k ∗ (HQ m c a k ∗ HA m c a false k ∗ HA m c a true k) ∗ Wt c (.f a) (k + 1))
      ⊢ |={Set.univ}=> (iprop(Rr c (some a) (k + 1) ∗ Wt c (.f a) (k + 1)) : sProp 𝕄) := by
  unfold Wt
  iintro ⟨#HR, Hr, ⟨HQ, HF, HT⟩, Hp, Hc⟩
  ihave ⟨Hp, #Hre⟩ := (posP_reached c (k := k + 1) (n := k + 2) (.f a) (Or.inr rfl)) $$ Hp
  imod (rr_step m K ιs c (some a) k hk) $$ [Hr HQ HF HT] with Hr
  · isplitr; · iexact HR
    isplitl [Hr]; · iexact Hr
    isplitl [HQ HF HT]
    · ihave Hh := (in_split m c a k).2 $$ [HQ HF HT]
      · isplitl [HF HT]
        · isplitl [HF]; · iexact HF
          iexact HT
        iexact HQ
      unfold slotAny slot hold holdI
      iexists _
      iexact Hh
    iexact Hre
  imodintro
  isplitl [Hr]; · iexact Hr
  isplitl [Hp]; · iexact Hp
  iexact Hc

/-- What arrived in the own result of what came along the axes; the slots given up. -/
def DR (n : ℕ) : sProp 𝕄 := iprop((DS m c false n ∗ DS m c true n) ∗ Rr c (some false) n ∗ Rr c (some true) n)

theorem dr_step (k : ℕ) (hk : k < 8) :
    iprop(recs m K ιs ∗ (pay m c k (.gS false) ∗ pay m c k (.gS true) ∗ pay m c k (.st false) ∗ pay m c k (.st true)) ∗ (HA m c false false k ∗ HA m c true true k)
        ∗ DR m c k ∗ WF c (k + 1))
      ⊢ |={Set.univ}=> (iprop(DR m c (k + 1) ∗ WF c (k + 1)) : sProp 𝕄) := by
  have e1 : ∀ a, pay m c k (.gS a) = HA m c (!a) a k := fun _ => rfl
  have e2 : ∀ a, pay m c k (.st a) = iprop(outP m c (loQ k (tau (pa a c))) 512 ∗ HQ m c a k) := fun _ => rfl
  rw [e1, e1, e2, e2, Bool.not_false, Bool.not_true]
  unfold DR WF DS
  rw [bigSep_range_succ, bigSep_range_succ]
  iintro ⟨#HR, ⟨HTF, HFT, ⟨HoF, HQF⟩, ⟨HoT, HQT⟩⟩, ⟨HFF, HTT⟩, ⟨⟨HDF, HDT⟩, HrF, HrT⟩, HwF, HwT⟩
  imod (rr_join m K ιs c false k hk) $$ [HrF HQF HFF HFT HwF] with ⟨HrF, HwF⟩
  · isplitr; · iexact HR
    isplitl [HrF]; · iexact HrF
    isplitl [HQF HFF HFT]
    · isplitl [HQF]; · iexact HQF
      isplitl [HFF]; · iexact HFF
      iexact HFT
    iexact HwF
  imod (rr_join m K ιs c true k hk) $$ [HrT HQT HTF HTT HwT] with ⟨HrT, HwT⟩
  · isplitr; · iexact HR
    isplitl [HrT]; · iexact HrT
    isplitl [HQT HTF HTT]
    · isplitl [HQT]; · iexact HQT
      isplitl [HTF]; · iexact HTF
      iexact HTT
    iexact HwT
  imodintro
  isplitl [HoF HoT HDF HDT HrF HrT]
  · isplitl [HoF HoT HDF HDT]
    · isplitl [HoF HDF]
      · isplitl [HoF]; · iexact HoF
        iexact HDF
      · isplitl [HoT]; · iexact HoT
        iexact HDT
    isplitl [HrF]; · iexact HrF
    iexact HrT
  isplitl [HwF]; · iexact HwF
  iexact HwT

/-- The four waits for block `k`'s forwards and copies, in either of the kernel's orders. -/
def w4 (k : ℕ) : PG F PUnit := wt k (.st true) >>= fun _ => wt k (.gS false) >>= fun _ => wt k (.st false) >>= fun _ => wt k (.gS true)
def w4' (k : ℕ) : PG F PUnit := wt k (.gS false) >>= fun _ => wt k (.gS true) >>= fun _ => wt k (.st true) >>= fun _ => wt k (.st false)

theorem w4_run (k : ℕ) (hk : k < 8) {l : List D} (hl : Abv 0 l) :
    iprop(recs m K ιs ∗ owesE c l ∗ PS c k ∗ FW m c k ∗ DR m c k ∗ WF c (k + 1)) ⊢ run c (w4 k) fun _ => iprop(owesE c l ∗ PS c (k + 1) ∗ DR m c (k + 1) ∗ WF c (k + 1)) := by
  have hw : ∀ a, _ ∧ _ := fun a => ⟨wtP m K ιs c k (.st a) (memL hk rfl (by cases a <;> decide)) rfl hl, wtP m K ιs c k (.gS a) (memL hk rfl (by cases a <;> decide)) rfl hl⟩
  unfold PS FW w4
  iintro ⟨#HR, HO, ⟨HpF, HpT, HqF, HqT⟩, ⟨⟨HcF, HcT, HdF, HdT⟩, Hh⟩, HD, HW⟩
  iapply (cps c (hw true).1) $$ [HO HdT HqT]
  · isplitr; · iexact HR
    isplitl [HO]; · iexact HO
    isplitl [HdT]; · iexact HdT
    iexact HqT
  iintro ⟨HO, HqT, H4⟩
  iapply (cps c (hw false).2) $$ [HO HcF HpF]
  · isplitr; · iexact HR
    isplitl [HO]; · iexact HO
    isplitl [HcF]; · iexact HcF
    iexact HpF
  iintro ⟨HO, HpF, H1⟩
  iapply (cps c (hw false).1) $$ [HO HdF HqF]
  · isplitr; · iexact HR
    isplitl [HO]; · iexact HO
    isplitl [HdF]; · iexact HdF
    iexact HqF
  iintro ⟨HO, HqF, H3⟩
  iapply (wp_fupd _ _ _)
  iapply (wp_wand _ _ _) $$ [HO HcT HpT]
  · iapply (hw true).2
    isplitr; · iexact HR
    isplitl [HO]; · iexact HO
    isplitl [HcT]; · iexact HcT
    iexact HpT
  iintro %_ ⟨HO, HpT, H2⟩
  imod (dr_step m K ιs c k hk) $$ [H1 H2 H3 H4 Hh HD HW] with H
  · isplitr; · iexact HR
    isplitl [H1 H2 H3 H4]
    · isplitl [H1]; · iexact H1
      isplitl [H2]; · iexact H2
      isplitl [H3]; · iexact H3
      iexact H4
    isplitl [Hh]; · iexact Hh
    isplitl [HD]; · iexact HD
    iexact HW
  imodintro
  isplitl [HO]; · iexact HO
  isplitl [HpF HpT HqF HqT]
  · isplitl [HpF]; · iexact HpF
    isplitl [HpT]; · iexact HpT
    isplitl [HqF]; · iexact HqF
    iexact HqT
  iexact H

theorem w4_run' (k : ℕ) (hk : k < 8) {l : List D} (hl : Abv 0 l) :
    iprop(recs m K ιs ∗ owesE c l ∗ PS c k ∗ FW m c k ∗ DR m c k ∗ WF c (k + 1)) ⊢ run c (w4' k) fun _ => iprop(owesE c l ∗ PS c (k + 1) ∗ DR m c (k + 1) ∗ WF c (k + 1)) := by
  have hw : ∀ a, _ ∧ _ := fun a => ⟨wtP m K ιs c k (.st a) (memL hk rfl (by cases a <;> decide)) rfl hl, wtP m K ιs c k (.gS a) (memL hk rfl (by cases a <;> decide)) rfl hl⟩
  unfold PS FW w4'
  iintro ⟨#HR, HO, ⟨HpF, HpT, HqF, HqT⟩, ⟨⟨HcF, HcT, HdF, HdT⟩, Hh⟩, HD, HW⟩
  iapply (cps c (hw false).2) $$ [HO HcF HpF]
  · isplitr; · iexact HR
    isplitl [HO]; · iexact HO
    isplitl [HcF]; · iexact HcF
    iexact HpF
  iintro ⟨HO, HpF, H1⟩
  iapply (cps c (hw true).2) $$ [HO HcT HpT]
  · isplitr; · iexact HR
    isplitl [HO]; · iexact HO
    isplitl [HcT]; · iexact HcT
    iexact HpT
  iintro ⟨HO, HpT, H2⟩
  iapply (cps c (hw true).1) $$ [HO HdT HqT]
  · isplitr; · iexact HR
    isplitl [HO]; · iexact HO
    isplitl [HdT]; · iexact HdT
    iexact HqT
  iintro ⟨HO, HqT, H4⟩
  iapply (wp_fupd _ _ _)
  iapply (wp_wand _ _ _) $$ [HO HdF HqF]
  · iapply (hw false).1
    isplitr; · iexact HR
    isplitl [HO]; · iexact HO
    isplitl [HdF]; · iexact HdF
    iexact HqF
  iintro %_ ⟨HO, HqF, H3⟩
  imod (dr_step m K ιs c k hk) $$ [H1 H2 H3 H4 Hh HD HW] with H
  · isplitr; · iexact HR
    isplitl [H1 H2 H3 H4]
    · isplitl [H1]; · iexact H1
      isplitl [H2]; · iexact H2
      isplitl [H3]; · iexact H3
      iexact H4
    isplitl [Hh]; · iexact Hh
    isplitl [HD]; · iexact HD
    iexact HW
  imodintro
  isplitl [HO]; · iexact HO
  isplitl [HpF HpT HqF HqT]
  · isplitl [HpF]; · iexact HpF
    isplitl [HpT]; · iexact HpT
    isplitl [HqF]; · iexact HqF
    iexact HqT
  iexact H

def b12 (j : ℕ) : PG F PUnit := if h : 1 ≤ j then w4 (j - 1) else .ret ⟨⟩
theorem b12_run {j : ℕ} (hj : j < 8) {l : List D} (hl : Abv 0 l) :
    iprop(recs m K ιs ∗ owesE c l ∗ PS c (j - 1) ∗ FWG m c j ∗ DR m c (j - 1) ∗ WF c (j + 1 - 1))
      ⊢ run c (b12 j) fun _ => iprop(owesE c l ∗ PS c (j + 1 - 1) ∗ DR m c (j + 1 - 1) ∗ WF c (j + 1 - 1)) :=
  guard c (fun h => by
    unfold FWG
    rw [if_pos h, show j + 1 - 1 = j - 1 + 1 by omega]
    exact w4_run m K ιs c (j - 1) (by omega) hl)
    (fun h => by
      rw [show j + 1 - 1 = j - 1 by omega]
      iintro ⟨-, HO, HP, -, H⟩
      isplitl [HO]; · iexact HO
      isplitl [HP]; · iexact HP
      iexact H)

def TR (n : ℕ) : sProp 𝕄 := iprop(TP c (.rd false) 6 n ∗ TP c (.rd true) 6 n)
def b13 (j : ℕ) : PG F PUnit := if h : 1 ≤ j ∧ j ≤ 6 then sg c (.rd true) >>= fun _ => sg c (.rd false) else .ret ⟨⟩

theorem sg_rd (a : Bool) {n : ℕ} (hn : n < 6) {rest : List D} :
    iprop(recs m K ιs ∗ owesE c ((n, .rd a) :: rest) ∗ TP c (.rd a) 6 n ∗ Rr c (some a) (n + 1))
      ⊢ run c (sg c (.rd a)) fun _ => iprop(owesE c rest ∗ TP c (.rd a) 6 (n + 1) ∗ Rr c (some a) (n + 1)) := by
  unfold TP Rr
  rw [Ico_take hn, show min (n + 1) 6 = n + 1 by omega]
  iintro ⟨#HR, HO, ⟨Ht, HT⟩, Hr1, Hr2, #Hf⟩
  iapply (wp_wand _ _ _) $$ [HO Ht]
  · iapply (sg_run m K ιs c n (.rd a) (Or.inl rfl) ((memP hn).2 a) rfl (rest := rest))
    isplitr; · iexact HR
    isplitl [HO]; · iexact HO
    isplitl [Ht]; · iexact Ht
    have he : pay m (peer (.rd a) c) n (.rd a) = bigSep (Finset.range (n + 1)) fun i => rdy (F := F) (some a) c (i + 2) := by
      show (bigSep (Finset.range (n + 1)) fun i => rdy (some a) (pa a (pa a c)) (i + 2)) = _
      rw [pa_pa]
    rw [he]
    iexact Hf
  iintro %_ HO
  isplitl [HO]; · iexact HO
  isplitl [HT]; · iexact HT
  isplitl [Hr1]; · iexact Hr1
  isplitl [Hr2]; · iexact Hr2
  iexact Hf

theorem b13_run {j : ℕ} (hj : j < 8) {rest : List D} :
    iprop(recs m K ιs ∗ owesE c (gl (1 ≤ j ∧ j ≤ 6) [(j - 1, .rd true), (j - 1, .rd false)] ++ rest) ∗ TR c (j - 1) ∗ DR m c (j + 1 - 1))
      ⊢ run c (b13 c j) fun _ => iprop(owesE c rest ∗ TR c (j + 1 - 1) ∗ DR m c (j + 1 - 1)) :=
  guard c (fun h => by
    unfold TR DR gl
    rw [if_pos h, show j + 1 - 1 = j - 1 + 1 by omega]
    iintro ⟨#HR, HO, ⟨HtF, HtT⟩, HD, HF, HT⟩
    iapply (cps c (sg_rd m K ιs c true (n := j - 1) (by omega) (rest := (j - 1, .rd false) :: rest))) $$ [HO HtT HT]
    · isplitr; · iexact HR
      isplitl [HO]; · iexact HO
      isplitl [HtT]; · iexact HtT
      iexact HT
    iintro ⟨HO, HtT, HT⟩
    iapply (wp_wand _ _ _) $$ [HO HtF HF]
    · iapply (sg_rd m K ιs c false (n := j - 1) (by omega) (rest := rest))
      isplitr; · iexact HR
      isplitl [HO]; · iexact HO
      isplitl [HtF]; · iexact HtF
      iexact HF
    iintro %_ ⟨HO, HtF, HF⟩
    isplitl [HO]; · iexact HO
    isplitl [HtF HtT]
    · isplitl [HtF]; · iexact HtF
      iexact HtT
    isplitl [HD]; · iexact HD
    isplitl [HF]; · iexact HF
    iexact HT)
    (fun h => by
      have hsub : TR (F := F) c (j - 1) ⊢ TR c (j + 1 - 1) := by
        unfold TR TP
        exact BI.sep_mono (bigSep_subset (Finset.Ico_subset_Ico (by omega) le_rfl)) (bigSep_subset (Finset.Ico_subset_Ico (by omega) le_rfl))
      unfold gl
      rw [if_neg h]
      iintro ⟨-, HO, HT, HG⟩
      isplitl [HO]; · iexact HO
      isplitl [HT]; · iapply hsub; iexact HT
      iexact HG)

end Cert.AR

end
-- ==== Proof.Sends.lean ====
/-
  The sends of a step, and the waits with which the last step ends.
-/
module

public import proofs.«01_k».proof.Proof.Ends

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

/-! ## The sends -/

theorem wxX (c : Dev nD) (s : Fin 2) : (xrM c s).view.WordExact := View.wordExact_bits rfl

theorem sndX_run (j : ℕ) (hj : j < 8) {rest : List D} :
    iprop(recs m K ιs ∗ owesE c ((j, .x) :: rest) ∗ holdI m c (stM (sp j)) (xrM c (sp j)).view.set qR (blk m c j) ∗ TX c none j ∗ PK m c none (j + 1 - 2) ∗ posP c j .xS)
      ⊢ run c (snd c none j (xrM c (sp j)) (wxX _ _)) fun _ => iprop(owesE c rest ∗ TX c none (j + 1) ∗ PK m c none (j + 1 - 2) ∗ posP c j .xS ∗ crd c (j, .xS)) := by
  iintro ⟨#HR, HO, Hs, HT, HP, Hp⟩
  ihave ⟨Hp, #Hre⟩ := (posP_reached c (k := j) (n := j) .xS (Or.inl rfl)) $$ Hp
  iapply (wp_wand _ _ _) $$ [HO Hs HT HP]
  · iapply (snd_run m K ιs c none j (j + 1 - 2) hj (by omega) (rest := rest) (src := xrM c (sp j)) (q := qR) (fs := cont m c (stM (sp j)) (blk m c j)) .rfl (by
      show hold m (xp c) (sl xcM (sp j)) fullShare (X m (xp (xp c)) j) = _
      rw [xp_xp, show (xrM c (sp j)).view.read (Elt F) (cont m c (stM (sp j)) (blk m c j)) = X m c j from read_stage m c j (sp j) _]
      rfl))
    isplitr; · iexact HR
    isplitl [HO]; · iexact HO
    isplitl [Hs]; · unfold holdI; iexact Hs
    isplitl [HT]; · iexact HT
    isplitl [HP]; · iexact HP
    iexact Hre
  iintro %_ ⟨HO, HT, HP, Hc⟩
  isplitl [HO]; · iexact HO
  isplitl [HT]; · iexact HT
  isplitl [HP]; · iexact HP
  isplitl [Hp]; · iexact Hp
  iexact Hc

theorem sndF_run (a : Bool) (j : ℕ) (hj : j < 8) {rest : List D} :
    iprop(recs m K ιs ∗ owesE c ((j, .f a) :: rest) ∗ hold m c (sl smM (sp j)) (qf a) (Sm m c j) ∗ TX c (some a) j ∗ PK m c (some a) (j + 1 - 2) ∗ posP c (j + 1 - 2) (.fS a))
      ⊢ run c (snd c (some a) j (sl smM (sp j)) (wxQ _ _)) fun _ => iprop(owesE c rest ∗ TX c (some a) (j + 1) ∗ PK m c (some a) (j + 1 - 2) ∗ posP c (j + 1 - 2) (.fS a) ∗ crd c (j, .fS a)) := by
  iintro ⟨#HR, HO, Hs, HT, HP, Hp⟩
  ihave ⟨Hp, #Hre⟩ := (posP_reached c (k := j + 1 - 2) (n := j) (.fS a) (by omega)) $$ Hp
  iapply (wp_wand _ _ _) $$ [HO Hs HT HP]
  · iapply (snd_run m K ιs c (some a) j (j + 1 - 2) hj (by omega) (rest := rest) (src := sl smM (sp j)) (q := qf a) (fs := cont m c (sl smM (sp j)) (Sm m c j)) .rfl (by
      show hold m (pa a c) (sl (inM a) (sp j)) fullShare (Sm m (pa a (pa a c)) j) = _
      rw [pa_pa, read_cont]
      rfl))
    isplitr; · iexact HR
    isplitl [HO]; · iexact HO
    isplitl [Hs]; · unfold hold holdI; iexact Hs
    isplitl [HT]; · iexact HT
    isplitl [HP]; · iexact HP
    iexact Hre
  iintro %_ ⟨HO, HT, HP, Hc⟩
  isplitl [HO]; · iexact HO
  isplitl [HT]; · iexact HT
  isplitl [HP]; · iexact HP
  isplitl [Hp]; · iexact Hp
  iexact Hc

/-- The sends along the axes and the copy of a block's sum. -/
def b11 (j : ℕ) (hj : j < 8) : PG F PUnit :=
  pwG 2 j (.rd false) >>= fun _ => snd c (some false) j (sl smM (sp j)) (wxQ _ _) >>= fun _ => pwG 2 j (.rd true) >>= fun _ => snd c (some true) j (sl smM (sp j)) (wxQ _ _) >>= fun _ =>
    cpM c j hj

def TXS (n : ℕ) : sProp 𝕄 := iprop(TX c (some false) n ∗ TX c (some true) n)
def PKS (n : ℕ) : sProp 𝕄 := iprop(PK m c (some false) n ∗ PK m c (some true) n)

theorem b11_run (j : ℕ) (hj : j < 8) {rest : List D} (hl : 2 ≤ j → ∀ a, Abv (pos (j - 2) (.rd a)) ((j, .f false) :: (j, .f true) :: rest)) :
    iprop(recs m K ιs ∗ owesE c ((j, .f false) :: (j, .f true) :: rest) ∗ hold m c (sl smM (sp j)) fullShare (Sm m c j) ∗ TXS c j ∗ PKS m c (j - 2) ∗ TM c j
        ∗ PM c (j + 1 - 2) ∗ PD c (j + 1 - 2) j)
      ⊢ run c (b11 c j hj) fun _ => iprop(owesE c rest ∗ TXS c (j + 1) ∗ PKS m c (j + 1 - 2) ∗ TM c (j + 1) ∗ PM c (j + 1 - 2) ∗ PD c (j + 1 - 2) (j + 1)) := by
  unfold b11 TXS PKS PM PD
  rw [Ico_put (show j + 1 - 2 ≤ j by omega)]
  iintro ⟨#HR, HO, Hs, ⟨HxF, HxT⟩, ⟨HkF, HkT⟩, HM, ⟨HpF, HpT, Hpm⟩, HD⟩
  ihave ⟨HsF, HsT, Hsm⟩ := (sm_split m c j (Sm m c j)).1 $$ Hs
  iapply (cps c (pkG m K ιs c (some false) hj (fun h => hl h false))) $$ [HO HkF]
  · isplitr; · iexact HR
    isplitl [HO]; · iexact HO
    iexact HkF
  iintro ⟨HO, HkF⟩
  iapply (cps c (sndF_run m K ιs c false j hj (rest := (j, .f true) :: rest))) $$ [HO HsF HxF HkF HpF]
  · isplitr; · iexact HR
    isplitl [HO]; · iexact HO
    isplitl [HsF]; · unfold qf; iexact HsF
    isplitl [HxF]; · iexact HxF
    isplitl [HkF]; · iexact HkF
    iexact HpF
  iintro ⟨HO, HxF, HkF, HpF, HcF⟩
  iapply (cps c (pkG m K ιs c (some true) hj (fun h => ((Abv_cons _ _ _).1 (hl h true)).2))) $$ [HO HkT]
  · isplitr; · iexact HR
    isplitl [HO]; · iexact HO
    iexact HkT
  iintro ⟨HO, HkT⟩
  iapply (cps c (sndF_run m K ιs c true j hj (rest := rest))) $$ [HO HsT HxT HkT HpT]
  · isplitr; · iexact HR
    isplitl [HO]; · iexact HO
    isplitl [HsT]; · unfold qf; iexact HsT
    isplitl [HxT]; · iexact HxT
    isplitl [HkT]; · iexact HkT
    iexact HpT
  iintro ⟨HO, HxT, HkT, HpT, HcT⟩
  iapply (wp_wand _ _ _) $$ [Hsm HM Hpm]
  · iapply (cpM_run m K ιs c j (j + 1 - 2) hj (by omega))
    isplitr; · iexact HR
    isplitl [Hsm]; · iexact Hsm
    isplitl [HM]; · iexact HM
    iexact Hpm
  iintro %_ ⟨HM, Hpm, Hcm⟩
  isplitl [HO]; · iexact HO
  isplitl [HxF HxT]
  · isplitl [HxF]; · iexact HxF
    iexact HxT
  isplitl [HkF HkT]
  · isplitl [HkF]; · iexact HkF
    iexact HkT
  isplitl [HM]; · iexact HM
  isplitl [HpF HpT Hpm]
  · isplitl [HpF]; · iexact HpF
    isplitl [HpT]; · iexact HpT
    iexact Hpm
  isplitl [HcF HcT Hcm]
  · isplitl [HcF]; · iexact HcF
    isplitl [HcT]; · iexact HcT
    iexact Hcm
  iexact HD

/-! ## The end of the last step -/

def b14c : PG F PUnit :=
  core c 7 (by omega) (fun _ => .ret ⟨⟩) >>= fun _ => wt 6 (.g false) >>= fun _ => wt 6 (.g true) >>= fun _ => wt 7 (.g false) >>= fun _ => wt 7 (.g true) >>= fun _ =>
    w4' 7 >>= fun _ => rel3 7 >>= fun _ => rel3 6

/-- The sums' slots and what was copied from them, at the end. -/
def SE : sProp 𝕄 := iprop(PM c 8 ∗ (slotSm c 6 ∗ slotSm c 7) ∗ DM m c 8)
def GEs : sProp 𝕄 := iprop(GE m c false ∗ GE m c true)

theorem rels_run : iprop(recs m K ιs ∗ owesE c [] ∗ SM m c 6 8 8) ⊢ run c (rel3 7 >>= fun _ => rel3 6) fun _ => iprop(owesE c [] ∗ SE m c) := by
  have hl : Abv 0 [] := (Abv_nil 0).2 trivial
  unfold SM SE PM PD DM posP
  rw [Ico_take (show 6 < 8 by omega), Ico_take (show 6 + 1 < 8 by omega), bigSep_range_succ 7, bigSep_range_succ 6]
  iintro ⟨#HR, HO, ⟨⟨HaF, HbF⟩, ⟨HaT, HbT⟩, Ham, Hbm⟩, ⟨Hc6, Hc7, -⟩, -, HD⟩
  iapply (cps c (rel3_at m K ιs c 7 (by omega) hl)) $$ [HO HbF HbT Hbm Hc7]
  · isplitr; · iexact HR
    isplitl [HO]; · iexact HO
    isplitl [HbF HbT Hbm]
    · isplitl [HbF]; · iexact HbF
      isplitl [HbT]; · iexact HbT
      iexact Hbm
    iexact Hc7
  iintro ⟨HO, ⟨HbF, HbT, Hbm⟩, Hs7, Ho7⟩
  iapply (wp_wand _ _ _) $$ [HO HaF HaT Ham Hc6]
  · iapply (rel3_at m K ιs c 6 (by omega) hl)
    isplitr; · iexact HR
    isplitl [HO]; · iexact HO
    isplitl [HaF HaT Ham]
    · isplitl [HaF]; · iexact HaF
      isplitl [HaT]; · iexact HaT
      iexact Ham
    iexact Hc6
  iintro %_ ⟨HO, ⟨HaF, HaT, Ham⟩, Hs6, Ho6⟩
  isplitl [HO]; · iexact HO
  isplitl [HaF HaT Ham HbF HbT Hbm]
  · isplitl [HaF HbF]
    · isplitl [HaF]; · iexact HaF
      iexact HbF
    isplitl [HaT HbT]
    · isplitl [HaT]; · iexact HaT
      iexact HbT
    isplitl [Ham]; · iexact Ham
    iexact Hbm
  isplitl [Hs6 Hs7]
  · isplitl [Hs6]; · iexact Hs6
    iexact Hs7
  isplitl [Ho7]; · iexact Ho7
  isplitl [Ho6]; · iexact Ho6
  iexact HD

theorem b14c_run :
    iprop(recs m K ιs ∗ owesE c [(7, .g false), (7, .g true)] ∗ WF c 7 ∗ PA m c 5 ∗ TT c 7 ∗ PS c 7 ∗ GG m c 6 ∗ DR m c 7 ∗ SM m c 6 8 8)
      ⊢ run c (b14c c) fun _ => iprop(owesE c [] ∗ WF c 8 ∗ PA m c 5 ∗ TT c 8 ∗ PS c 8 ∗ GEs m c ∗ DR m c 8 ∗ SE m c) := by
  have hl : ∀ i, Abv i [] := fun i => (Abv_nil i).2 trivial
  unfold b14c GG GEs
  iintro ⟨#HR, HO, HW, HA, HT, HP, ⟨HgF, HgT⟩, HD, HS⟩
  iapply (cps c (core_run m K ιs c 7 5 5 _ (Or.inr ⟨rfl, by omega⟩) (fun _ => .ret ⟨⟩) (rest := [])
    (fun a => run_ret c sepR)
    (by unfold Abv; decide) (by unfold Abv; decide))) $$ [HO HW HA HT HP]
  · isplitr; · iexact HR
    isplitl [HO]; · iexact HO
    isplitl [HW]; · iexact HW
    isplitl [HA]; · iexact HA
    isplitl [HT]; · iexact HT
    iexact HP
  iintro ⟨HO, HW, HA, HT, HP, HF⟩
  iapply (cps c (gs_six m K ιs c false (hl _))) $$ [HO HgF]
  · isplitr; · iexact HR
    isplitl [HO]; · iexact HO
    iexact HgF
  iintro ⟨HO, HgF⟩
  iapply (cps c (gs_six m K ιs c true (hl _))) $$ [HO HgT]
  · isplitr; · iexact HR
    isplitl [HO]; · iexact HO
    iexact HgT
  iintro ⟨HO, HgT⟩
  iapply (cps c (gs_seven m K ιs c false (hl _))) $$ [HO HgF]
  · isplitr; · iexact HR
    isplitl [HO]; · iexact HO
    iexact HgF
  iintro ⟨HO, HgF⟩
  iapply (cps c (gs_seven m K ιs c true (hl _))) $$ [HO HgT]
  · isplitr; · iexact HR
    isplitl [HO]; · iexact HO
    iexact HgT
  iintro ⟨HO, HgT⟩
  iapply (cps c (w4_run' m K ιs c 7 (by omega) (hl _))) $$ [HO HP HF HD HW]
  · isplitr; · iexact HR
    isplitl [HO]; · iexact HO
    isplitl [HP]; · iexact HP
    isplitl [HF]; · iexact HF
    isplitl [HD]; · iexact HD
    iexact HW
  iintro ⟨HO, HP, HD, HW⟩
  iapply (wp_wand _ _ _) $$ [HO HS]
  · iapply (rels_run m K ιs c)
    isplitr; · iexact HR
    isplitl [HO]; · iexact HO
    iexact HS
  iintro %_ ⟨HO, HS⟩
  isplitl [HO]; · iexact HO
  isplitl [HW]; · iexact HW
  isplitl [HA]; · iexact HA
  isplitl [HT]; · iexact HT
  isplitl [HP]; · iexact HP
  isplitl [HgF HgT]
  · isplitl [HgF]; · iexact HgF
    iexact HgT
  isplitl [HD]; · iexact HD
  iexact HS

def b14 (j : ℕ) : PG F PUnit := if h : j = 7 then b14c c else .ret ⟨⟩

/-- After `n` steps, or at the end. -/
def GX (n : ℕ) : sProp 𝕄 := if n = 8 then GEs m c else GG m c (n - 2)
def SX (n : ℕ) : sProp 𝕄 := if n = 8 then SE m c else SM m c (n - 2) n n
def lst (n : ℕ) : ℕ := if n = 8 then 8 else n - 1
/-- What the last step's end takes along. -/
def EX8 (n : ℕ) : sProp 𝕄 := iprop(WF c (lst n) ∗ PA m c (n - 3) ∗ TT c (lst n) ∗ PS c (lst n) ∗ GX m c n ∗ DR m c (lst n) ∗ SX m c n)

theorem b14_run {j : ℕ} (hj : j < 8) :
    iprop(recs m K ιs ∗ owesE c (gl (j = 7) [(7, .g false), (7, .g true)] ++ later (j + 1))
        ∗ WF c (j + 1 - 1) ∗ PA m c (j + 1 - 3) ∗ TT c (j + 1 - 1) ∗ PS c (j + 1 - 1) ∗ GG m c (j + 1 - 2) ∗ DR m c (j + 1 - 1) ∗ SM m c (j + 1 - 2) (j + 1) (j + 1))
      ⊢ run c (b14 c j) fun _ => iprop(owesE c (later (j + 1)) ∗ EX8 m c (j + 1)) :=
  guard c (fun h => by
    subst h
    exact b14c_run m K ιs c)
    (fun h => by
      unfold EX8 GX SX lst gl
      rw [if_neg h, if_neg (show ¬ j + 1 = 8 by omega), if_neg (show ¬ j + 1 = 8 by omega), if_neg (show ¬ j + 1 = 8 by omega)]
      iintro ⟨-, H⟩
      iexact H)

end Cert.AR

end
-- ==== Proof.Step.lean ====
/-
  A step of the kernel: from what holds before it to what holds after it.
-/
module

public import proofs.«01_k».proof.Proof.Sends

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

/-! ## The payments still to come inside a step -/

def l7 (j : ℕ) : List D := gl (j = 7) [(7, .g false), (7, .g true)] ++ later (j + 1)
def l6 (j : ℕ) : List D := gl (1 ≤ j ∧ j ≤ 6) [(j - 1, .rd true), (j - 1, .rd false)] ++ l7 j
def l5 (j : ℕ) : List D := (j, .f false) :: (j, .f true) :: l6 j
def l4 (j : ℕ) : List D := gl (j ≤ 5) [(j, .xrd)] ++ l5 j
def l3 (j : ℕ) : List D := gl (1 ≤ j) [(j - 1, .g false), (j - 1, .g true)] ++ l4 j
def l2 (j : ℕ) : List D := gl (2 ≤ j ∧ j ≤ 6) [(j - 2, .frd false), (j - 2, .frd true)] ++ l3 j
def l1 (j : ℕ) : List D := (j, .x) :: l2 j

theorem later_l1 {j : ℕ} (hj : j < 8) : later j = gl (j = 0) [(0, .bx), (0, .b false), (0, .b true)] ++ l1 j := by
  rw [later_step hj]
  simp only [payL, l1, l2, l3, l4, l5, l6, l7, List.append_assoc, List.cons_append]

section
variable {j i : ℕ} (hj : j < 8)
include hj
theorem abv7 (hi : i < 64 * j + 64) : Abv i (l7 j) := by
  simp only [l7, Abv_append, Abv_gl, Abv_cons, Abv_nil, and_true, pos, Bool.toNat_true, Bool.toNat_false]
  exact ⟨fun h => by omega, Abv_later hj (by omega)⟩
theorem abv6 (hi : i < 64 * j + 13) : Abv i (l6 j) := by
  simp only [l6, Abv_append, Abv_gl, Abv_cons, Abv_nil, and_true, pos, Bool.toNat_true, Bool.toNat_false]
  exact ⟨fun h => by omega, abv7 hj (by omega)⟩
theorem abv5 (hi : i < 64 * j + 11) : Abv i (l5 j) := by
  simp only [l5, Abv_append, Abv_gl, Abv_cons, Abv_nil, and_true, pos, Bool.toNat_true, Bool.toNat_false]
  exact ⟨by omega, by omega, abv6 hj (by omega)⟩
theorem abv4 (hi : i < 64 * j + 10) : Abv i (l4 j) := by
  simp only [l4, Abv_append, Abv_gl, Abv_cons, Abv_nil, and_true, pos, Bool.toNat_true, Bool.toNat_false]
  exact ⟨fun h => by omega, abv5 hj (by omega)⟩
theorem abv3 (hi : i < 64 * j + 7) : Abv i (l3 j) := by
  simp only [l3, Abv_append, Abv_gl, Abv_cons, Abv_nil, and_true, pos, Bool.toNat_true, Bool.toNat_false]
  exact ⟨fun h => by omega, abv4 hj (by omega)⟩
theorem abv2 (hi : i < 64 * j + 5) : Abv i (l2 j) := by
  simp only [l2, Abv_append, Abv_gl, Abv_cons, Abv_nil, and_true, pos, Bool.toNat_true, Bool.toNat_false]
  exact ⟨fun h => by omega, abv3 hj (by omega)⟩
theorem abv1 (hi : i < 64 * j + 4) : Abv i (l1 j) := by
  simp only [l1, Abv_cons, pos]
  exact ⟨by omega, abv2 hj (by omega)⟩
end

/-! ## The staged block -/

theorem xr_sub (s : Fin 2) : (xrM c s).view.set ⊆ (stM s).view.set := View.set_slice_subset _ _

/-- What is left of the staged block's second share while its quarter is sent. -/
def stR (j : ℕ) : sProp 𝕄 := holdI m c (stM (sp j)) ((stM (sp j)).view.set \ (xrM c (sp j)).view.set) qR (blk m c j)

theorem stage_split (j : ℕ) : hold m c (stM (sp j)) fullShare (blk m c j)
    ⊣⊢ iprop(hold m c (stM (sp j)) qL (blk m c j) ∗ holdI m c (stM (sp j)) (xrM c (sp j)).view.set qR (blk m c j) ∗ stR m c j) := by
  unfold hold stR holdI
  have e1 : _ ⊣⊢ (_ : sProp 𝕄) := pointsTo_share (ℓ := (stM (sp j)).view.loc (c : Thread nD τ)) (I := (stM (sp j)).view.set)
    (f := cont m c (stM (sp j)) (blk m c j)) (PosShare.mem_left_op_right fullShare)
  have e2 : _ ⊣⊢ (_ : sProp 𝕄) := pointsTo_split_subset (ℓ := (stM (sp j)).view.loc (c : Thread nD τ)) (q := qR) (f := cont m c (stM (sp j)) (blk m c j)) (xr_sub c (sp j))
  constructor
  · iintro H
    ihave ⟨H1, H2⟩ := e1.1 $$ H
    ihave H2 := e2.1 $$ H2
    isplitl [H1]; · iexact H1
    iexact H2
  · iintro ⟨H1, H2⟩
    iapply e1.2
    isplitl [H1]; · iexact H1
    iapply e2.2
    iexact H2

/-! ## The step -/

def step (j : ℕ) (hj : j < 8) : PG F PUnit :=
  pwG 2 j .xrd >>= fun _ => snd c none j (xrM c (sp j)) (wxX _ _) >>= fun _ => b3 j >>= fun _ => b4 c j >>= fun _ => b5 c j hj >>= fun _ => wt j .x >>= fun _ =>
    b7 j >>= fun _ => ld c j >>= fun _ => b9 c j >>= fun _ => wt j .xS >>= fun _ => b11 c j hj >>= fun _ => b12 j >>= fun _ => b13 c j >>= fun _ => b14 c j

/-- What holds after `n` steps. -/
def Inv (n : ℕ) : sProp 𝕄 :=
  iprop(Wt c .x n ∗ posP c n .xS ∗ TX c none n ∗ PK m c none (n - 2) ∗ Rr c none n ∗ TP c .xrd 6 n ∗ TF c (n - 2) ∗ TXS c n ∗ PKS m c (n - 2) ∗ TM c n ∗ TR c (n - 1) ∗ EX8 m c n)

theorem step_run {j : ℕ} (hj : j < 8) :
    iprop(recs m K ιs ∗ owesE c (l1 j) ∗ Inv m c j ∗ hold m c (stM (sp j)) fullShare (blk m c j))
      ⊢ run c (step c j hj) fun _ => iprop(owesE c (later (j + 1)) ∗ Inv m c (j + 1) ∗ hold m c (stM (sp j)) fullShare (blk m c j)) := by
  unfold step Inv
  unfold EX8 GX SX lst
  rw [if_neg (show ¬ j = 8 by omega), if_neg (show ¬ j = 8 by omega), if_neg (show ¬ j = 8 by omega)]
  iintro ⟨#HR, HO, ⟨Hx, HxS, Htx, Hpk, Hrr, Hxrd, Htf, Htxs, Hpks, Htm, Htr, Hwf, Hpa, Htt, Hps, Hgg, Hdr, Hsm⟩, Hst⟩
  ihave ⟨HsL, HsX, HsR⟩ := (stage_split m c j).1 $$ Hst
  iapply (cps c (pkG m K ιs c none hj (l := l1 j) (fun h => abv1 hj (by simp only [permOp, pos]; omega)))) $$ [HO Hpk]
  · isplitr; · iexact HR
    isplitl [HO]; · iexact HO
    iexact Hpk
  iintro ⟨HO, Hpk⟩
  iapply (cps c (sndX_run m K ιs c j hj (rest := l2 j))) $$ [HO HsX Htx Hpk HxS]
  · isplitr; · iexact HR
    isplitl [HO]; · iexact HO
    isplitl [HsX]; · iexact HsX
    isplitl [Htx]; · iexact Htx
    isplitl [Hpk]; · iexact Hpk
    iexact HxS
  iintro ⟨HO, Htx, Hpk, HxS, HcS⟩
  iapply (cps c (b3_run m K ιs c hj (l := l2 j) (fun h a => abv2 hj (by cases a <;> simp only [pos, Bool.toNat_true, Bool.toNat_false] <;> omega)))) $$ [HO Hgg]
  · isplitr; · iexact HR
    isplitl [HO]; · iexact HO
    iexact Hgg
  iintro ⟨HO, Hgg⟩
  iapply (cps c (b4_run m K ιs c hj (rest := l3 j))) $$ [HO Htf Hgg]
  · isplitr; · iexact HR
    isplitl [HO]; · iexact HO
    isplitl [Htf]; · iexact Htf
    iexact Hgg
  iintro ⟨HO, Htf, Hgg⟩
  iapply (cps c (b5_run m K ιs c hj (rest := l4 j) (abv4 hj (by omega)))) $$ [HO Hwf Hpa Htt Hps]
  · isplitr; · iexact HR
    isplitl [HO]; · iexact HO
    isplitl [Hwf]; · iexact Hwf
    isplitl [Hpa]; · iexact Hpa
    isplitl [Htt]; · iexact Htt
    iexact Hps
  iintro ⟨HO, Hwf, Hpa, Htt, Hps, Hfw⟩
  iapply (cps c (wtW m K ιs c j .x hj (memL hj rfl (by decide)) rfl (l := l4 j) (abv4 hj (by simp only [pos]; omega)))) $$ [HO Hx]
  · isplitr; · iexact HR
    isplitl [HO]; · iexact HO
    iexact Hx
  iintro ⟨HO, Hx, Hxc⟩
  iapply (cps c (b7_run m K ιs c hj (l := l4 j) (abv4 hj (by omega)))) $$ [HO Hsm]
  · isplitr; · iexact HR
    isplitl [HO]; · iexact HO
    iexact Hsm
  iintro ⟨HO, Hsm⟩
  unfold SM
  icases Hsm with ⟨Hpm, Hpd, Hfr, Hdm⟩
  iapply (cps c (ld_run m c j (j + 1 - 2) (by omega))) $$ [HsL Hxc Hfr]
  · isplitl [HsL]; · iexact HsL
    isplitl [Hxc]; · ihave H := (Entails.of_eq (show pay m c j .x = hold m c (sl xcM (sp j)) fullShare (X m (xp c) j) from rfl)) $$ Hxc; iexact H
    iexact Hfr
  iintro ⟨HsL, Hxc, Hsum, Hfr⟩
  iapply (cps c (b9_run m K ιs c hj (rest := l5 j))) $$ [HO Hrr Hxc Hx Hxrd]
  · isplitr; · iexact HR
    isplitl [HO]; · iexact HO
    isplitl [Hrr]; · iexact Hrr
    isplitl [Hxc]; · iexact Hxc
    isplitl [Hx]; · iexact Hx
    iexact Hxrd
  iintro ⟨HO, Hrr, Hx, Hxrd⟩
  iapply (cps c (wtP m K ιs c j .xS (memL hj rfl (by decide)) rfl (l := l5 j) (abv5 hj (by simp only [pos]; omega)))) $$ [HO HcS HxS]
  · isplitr; · iexact HR
    isplitl [HO]; · iexact HO
    isplitl [HcS]; · iexact HcS
    iexact HxS
  iintro ⟨HO, HxS, HsX⟩
  iapply (cps c (b11_run m K ιs c j hj (rest := l6 j) (fun h a => abv5 hj (by cases a <;> simp only [pos, Bool.toNat_true, Bool.toNat_false] <;> omega)))) $$ [HO Hsum Htxs Hpks Htm Hpm Hpd]
  · isplitr; · iexact HR
    isplitl [HO]; · iexact HO
    isplitl [Hsum]; · iexact Hsum
    isplitl [Htxs]; · iexact Htxs
    isplitl [Hpks]; · iexact Hpks
    isplitl [Htm]; · iexact Htm
    isplitl [Hpm]; · iexact Hpm
    iexact Hpd
  iintro ⟨HO, Htxs, Hpks, Htm, Hpm, Hpd⟩
  iapply (cps c (b12_run m K ιs c hj (l := l6 j) (abv6 hj (by omega)))) $$ [HO Hps Hfw Hdr Hwf]
  · isplitr; · iexact HR
    isplitl [HO]; · iexact HO
    isplitl [Hps]; · iexact Hps
    isplitl [Hfw]; · iexact Hfw
    isplitl [Hdr]; · iexact Hdr
    iexact Hwf
  iintro ⟨HO, Hps, Hdr, Hwf⟩
  iapply (cps c (b13_run m K ιs c hj (rest := l7 j))) $$ [HO Htr Hdr]
  · isplitr; · iexact HR
    isplitl [HO]; · iexact HO
    isplitl [Htr]; · iexact Htr
    iexact Hdr
  iintro ⟨HO, Htr, Hdr⟩
  iapply (wp_wand _ _ _) $$ [HO Hwf Hpa Htt Hps Hgg Hdr Hpm Hpd Hfr Hdm]
  · iapply (b14_run m K ιs c hj)
    unfold SM
    isplitr; · iexact HR
    isplitl [HO]; · iexact HO
    isplitl [Hwf]; · iexact Hwf
    isplitl [Hpa]; · iexact Hpa
    isplitl [Htt]; · iexact Htt
    isplitl [Hps]; · iexact Hps
    isplitl [Hgg]; · iexact Hgg
    isplitl [Hdr]; · iexact Hdr
    isplitl [Hpm]; · iexact Hpm
    isplitl [Hpd]; · iexact Hpd
    isplitl [Hfr]; · iexact Hfr
    iexact Hdm
  iintro %_ ⟨HO, HE⟩
  isplitl [HO]; · iexact HO
  isplitr [HsL HsX HsR]
  · isplitl [Hx]; · iexact Hx
    isplitl [HxS]; · iexact HxS
    isplitl [Htx]; · iexact Htx
    isplitl [Hpk]; · iexact Hpk
    isplitl [Hrr]; · iexact Hrr
    isplitl [Hxrd]; · iexact Hxrd
    isplitl [Htf]; · iexact Htf
    isplitl [Htxs]; · iexact Htxs
    isplitl [Hpks]; · iexact Hpks
    isplitl [Htm]; · iexact Htm
    isplitl [Htr]; · iexact Htr
    unfold EX8 GX SX lst SM
    iexact HE
  iapply (stage_split m c j).2
  isplitl [HsL]; · iexact HsL
  isplitl [HsX]; · ihave H := (Entails.of_eq (show pay m c j .xS = holdI m c (stM (sp j)) (xrM c (sp j)).view.set qR (blk m c j) from rfl)) $$ HsX; iexact H
  iexact HsR

end Cert.AR

end
-- ==== Proof.Sim.lean ====
/-
  What a program does bounded by what another does: how the kernel's text, operation by operation, is the step.
-/
module

public import proofs.«01_k».proof.Proof.Step

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

/-- What `q` is shown to do `p` does. -/
def Sim {α : Type} (p q : PG F α) : Prop := ∀ Q : α → sProp 𝕄, run c q Q ⊢ run c p Q

section
variable {α β γ : Type} {p : Prop} [Decidable p] {p' : Prop} [Decidable p']

theorem sim_rfl (x : PG F α) : Sim c x x := fun _ => .rfl

theorem sim_op {e e' : TpuEff nD τ sig (Elt F) Λ₀ .tc β} (he : e = e') {k : β → PG F α} {k' : β → PG F γ} {q : γ → PG F α} (hk : ∀ x, Sim c (k x) (k' x >>= q)) :
    Sim c (.op e k) (.op e' k' >>= q) := by
  subst he
  intro Q
  unfold run
  rw [Prog.bind_op, wp_op, wp_op]
  exact fupd_mono ((wpE (defs₀ (F := F)) 𝒱₀ (c : Thread nD τ) none Set.univ e).mono fun x => hk x Q)

theorem sim_device {k : Dev nD → PG F α} {q : PG F α} (hk : Sim c (k c) q) : Sim c (.op .deviceId k) q := by
  intro Q
  unfold run
  rw [wp_deviceId]
  exact hk Q

/-- The text's start reads the device's number and computes from it. -/
theorem sim_head {x : PG F β} {f : Dev nD → β} (hx : x = .op .deviceId fun d => .ret (f d)) {k : β → PG F α} {q : PG F α} (hk : ∀ v, v = f c → Sim c (k v) q) :
    Sim c (x >>= k) q := by
  subst hx
  exact sim_device c (hk _ rfl)

theorem sim_bind {x : PG F β} {y : PG F γ} {g : β → PG F α} {h : γ → PG F α} {f : γ → β} (hx : Sim c x (y >>= fun a => .ret (f a))) (hk : ∀ a, Sim c (g (f a)) (h a)) :
    Sim c (x >>= g) (y >>= h) := by
  intro Q
  have h1 := hx (fun a => run c (g a) Q)
  unfold run at *
  rw [wp_bind] at h1 ⊢
  rw [wp_bind]
  refine .trans (wp_mono _ _ _ fun a => ?_) h1
  rw [wp_ret]
  refine .trans (hk a Q) ?_
  iintro H
  imodintro
  iexact H

theorem sim_guard {b : p → PG F PUnit} {b' : p' → PG F PUnit} (hp : p ↔ p') (hb : ∀ h h', Sim c (b h) (b' h' >>= fun _ => .ret ⟨⟩)) {k q : PUnit → PG F α}
    (hk : Sim c (k ⟨⟩) (q ⟨⟩)) :
    Sim c ((if h : p then b h else .ret ⟨⟩) >>= k) ((if h : p' then b' h else .ret ⟨⟩) >>= q) := by
  refine sim_bind c (f := fun _ => ⟨⟩) ?_ fun _ => hk
  by_cases h : p
  · rw [dif_pos h, dif_pos (hp.1 h)]; exact hb _ _
  · rw [dif_neg h, dif_neg (fun h' => h (hp.2 h'))]; exact fun _ => .rfl

/-- A condition's text goes on at `g`, whether or not it held. -/
theorem sim_if {g : PUnit → PG F α} {b : p → PG F α} {e : ¬ p → PG F α} {b' : p' → PG F PUnit} {q : PUnit → PG F α} (hp : p ↔ p') (he : ∀ h, e h = g ⟨⟩)
    (hb : ∀ h h', Sim c (b h) (b' h' >>= g)) (hk : Sim c (g ⟨⟩) (q ⟨⟩)) :
    Sim c (if h : p then b h else e h) ((if h : p' then b' h else .ret ⟨⟩) >>= q) := by
  have hg : ∀ y : PG F PUnit, Sim c (y >>= g) (y >>= q) := fun y => sim_bind c (f := fun x => x)
    (by rw [show (y >>= fun a => (.ret a : PG F PUnit)) = y from Prog.bind_pure y]; exact sim_rfl c y) fun _ => hk
  refine fun Q => .trans (hg _ Q) ?_
  by_cases h : p
  · rw [dif_pos h, dif_pos (hp.1 h)]; exact hb _ _ Q
  · rw [dif_neg h, dif_neg (fun h' => h (hp.2 h')), he]; exact .rfl

theorem sim_jp {f : PUnit → PG F α} {b : (PUnit → PG F α) → p → PG F α} {b' : p' → PG F PUnit} {q : PUnit → PG F α} (hp : p ↔ p')
    (hb : ∀ g h h', Sim c (b g h) (b' h' >>= g)) (hk : Sim c (f ⟨⟩) (q ⟨⟩)) :
    Sim c (have jp : PUnit → PG F α := f; if h : p then b jp h else jp ⟨⟩) ((if h : p' then b' h else .ret ⟨⟩) >>= q) :=
  sim_if c (g := f) hp (fun _ => rfl) (hb f) hk

theorem sim_pos (h : p) {b : p → PG F β} {e : ¬ p → PG F β} {k : β → PG F α} {q : PG F α} (hb : Sim c (b h >>= k) q) : Sim c ((if h : p then b h else e h) >>= k) q := by
  rw [dif_pos h]; exact hb
theorem sim_neg (h : ¬ p) {b : p → PG F β} {e : ¬ p → PG F β} {k : β → PG F α} {q : PG F α} (hb : Sim c (e h >>= k) q) : Sim c ((if h : p then b h else e h) >>= k) q := by
  rw [dif_neg h]; exact hb
end

section
variable {α : Type} {s s' : Space} {t t' : Shape} {e e' : EltTy} {k : PUnit → PG F α} {q : PUnit → PG F α}

theorem sim_wt {j : ℕ} {o : Op} {sem : DmaSem sig} {src : Memref sig .tc s t e} {dst : Memref sig .tc s' t' e'} {h1 : src.view.WordExact} {h2 : dst.view.WordExact}
    (hs : sem = dm j o) (hc : dst.view.dmaCredit = amt o) (ho : amt o = NQ ∨ amt o = NH) (hk : Sim c (k ⟨⟩) (q ⟨⟩)) :
    Sim c (.op (.waitDma2 sem src dst h1 h2) k) (wt j o >>= q) := by
  subst hs
  intro Q
  unfold wt
  unfold run
  by_cases h : amt o = NQ
  · rw [if_pos h, Prog.bind_op, wp_op, wp_op]
    have he : dst.view.dmaCredit = (sl xcM 0).view.dmaCredit := hc.trans h
    refine fupd_mono ?_
    rw [wpE_waitDma2_eq, wpE_waitDma2_eq, he]
    exact (waitSpec (c : Thread nD τ) Set.univ (.dma (dm j o)) _).mono fun x => hk Q
  · rw [if_neg h, Prog.bind_op, wp_op, wp_op]
    have he : dst.view.dmaCredit = (hf (sl xcM 0) false).view.dmaCredit := hc.trans (ho.resolve_left h)
    refine fupd_mono ?_
    rw [wpE_waitDma2_eq, wpE_waitDma2_eq, he]
    exact (waitSpec (c : Thread nD τ) Set.univ (.dma (dm j o)) _).mono fun x => hk Q

theorem sim_pw {o : Op} {sem : Sem sig} (hs : sem = rg o) (hk : Sim c (k ⟨⟩) (q ⟨⟩)) : Sim c (.op (.semWait sem (1#32).toInt) k) (pw o >>= q) :=
  sim_op c (by rw [hs]; rfl) fun _ => hk
theorem sim_sg {o : Op} {sem : Sem sig} {d : Dev nD} (hd : d = peer o c) (hs : sem = rg o) (hk : Sim c (k ⟨⟩) (q ⟨⟩)) :
    Sim c (.op (.semSignal ((d : Dev nD) : Thread nD τ) sem (1#32).toInt) k) (sg c o >>= q) :=
  sim_op c (by rw [hs, hd]; rfl) fun _ => hk

theorem sim_send {s t e s'} {src src' : Memref sig .tc s t e} {d d' : Dev nD} {dst dst' : Memref sig .tc s' t e} {ss ss' rs rs' : DmaSem sig}
    {p p' h1 h1' h2 h2' h3 h3'} (hsrc : src = src') (hd : d = d') (hdst : dst = dst') (hss : ss = ss') (hrs : rs = rs') (hk : Sim c (k ⟨⟩) (q ⟨⟩)) :
    Sim c (.op (.enqueueDma src (.remote (Dev.tc d : Thread nD τ) dst (.dma ss) p) (.dma rs) h1 h2 h3) k)
      (.op (.enqueueDma src' (.remote (Dev.tc d' : Thread nD τ) dst' (.dma ss') p') (.dma rs') h1' h2' h3') .ret >>= q) := by
  subst hsrc hd hdst hss hrs
  exact sim_op c rfl fun _ => hk
theorem sim_copy {s t e s'} {src src' : Memref sig .tc s t e} {dst dst' : Memref sig .tc s' t e} {rs rs' : DmaSem sig}
    {h1 h1' h2 h2' h3 h3'} (hsrc : src = src') (hdst : dst = dst') (hrs : rs = rs') (hk : Sim c (k ⟨⟩) (q ⟨⟩)) :
    Sim c (.op (.enqueueDma src (.here dst) (.dma rs) h1 h2 h3) k) (.op (.enqueueDma src' (.here dst') (.dma rs') h1' h2' h3') .ret >>= q) := by
  subst hsrc hdst hrs
  exact sim_op c rfl fun _ => hk
end

theorem slice_at {s : Space} {t : Shape} (M : Memref sig .tc s t .f32) {o o' : Fin t.rank → ℕ} {sz : Fin t.rank → ℕ} (h : o = o') {hi hi'} :
    M.slice (Rect.unit (s := t) o sz hi) (fun _ => rfl) = M.slice (Rect.unit (s := t) o' sz hi') (fun _ => rfl) := by
  subst h; rfl

theorem dm_at {k : ℕ} {o : Op} {n : ℕ} (h : code k o = n) {s : DmaSem sig} (hs : s.val = 2 + n % 26) : s = dm k o := by
  subst h; exact Fin.ext hs

end Cert.AR

end
-- ==== Proof.Facts.lean ====
/-
  The kernel's conditions, devices and offsets, in terms of the step's number and the device.
-/
module

public import proofs.«01_k».proof.Proof.Sim

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

abbrev crs (t : Fin cfg0.N) : grid0.Coords := grid0.coords t

theorem cond_one : ∀ t, k0_cond1 (crs t) = 1#1 ↔ t.val = 0 := by decide +kernel
theorem cond_even : ∀ t, k0_cond2 (crs t) = 1#1 ↔ t.val % 2 = 0 := by decide +kernel
theorem cond_odd : ∀ t, k0_cond16 (crs t) = 1#1 ↔ t.val % 2 = 1 := by decide +kernel
theorem cond_four : ∀ t, (k0_cond4 (crs t) = 1#1 ↔ 2 ≤ t.val) ∧ (k0_cond18 (crs t) = 1#1 ↔ 2 ≤ t.val) := by decide +kernel
theorem cond_five : ∀ t, (k0_cond5 (crs t) = 1#1 ↔ 2 ≤ t.val ∧ t.val ≤ 6) ∧ (k0_cond19 (crs t) = 1#1 ↔ 2 ≤ t.val ∧ t.val ≤ 6) := by decide +kernel
theorem cond_six : ∀ t, (k0_cond6 (crs t) = 1#1 ↔ 1 ≤ t.val) ∧ (k0_cond20 (crs t) = 1#1 ↔ 1 ≤ t.val) := by decide +kernel
theorem cond_nine : ∀ t, (k0_cond9 (crs t) = 1#1 ↔ 2 ≤ t.val) ∧ (k0_cond23 (crs t) = 1#1 ↔ 2 ≤ t.val) := by decide +kernel
theorem cond_ten : ∀ t, (k0_cond10 (crs t) = 1#1 ↔ t.val ≤ 5) ∧ (k0_cond24 (crs t) = 1#1 ↔ t.val ≤ 5) := by decide +kernel
theorem cond_a : ∀ t, (k0_cond13 (crs t) = 1#1 ↔ 1 ≤ t.val) ∧ (k0_cond27 (crs t) = 1#1 ↔ 1 ≤ t.val) := by decide +kernel
theorem cond_b : ∀ t, (k0_cond14 (crs t) = 1#1 ↔ 1 ≤ t.val ∧ t.val ≤ 6) ∧ (k0_cond28 (crs t) = 1#1 ↔ 1 ≤ t.val ∧ t.val ≤ 6) := by decide +kernel
theorem cond_c : ∀ t, (k0_cond15 (crs t) = 1#1 ↔ t.val = 7) ∧ (k0_cond29 (crs t) = 1#1 ↔ t.val = 7) := by decide +kernel
theorem cond_ge : ∀ t : Fin cfg0.N, (Scalar.cmpi .ne (Scalar.extui (Scalar.cmpi .sge (BitVec.ofNat 32 ((crs t) 0).val) 2#32)) 0#32 = 1#1 ↔ 2 ≤ t.val)
    ∧ (Scalar.cmpi .ne (Scalar.extui (Scalar.cmpi .sge (BitVec.ofNat 32 ((crs t) 0).val) 3#32)) 0#32 = 1#1 ↔ 3 ≤ t.val) := by decide +kernel

theorem dev_x : ∀ c : Dev nD, k0_dev1 c = (xp c).val ∧ k0_dev4 c = (xp c).val ∧ k0_dev9 c = (xp c).val ∧ k0_dev16 c = (xp c).val ∧ k0_dev21 c = (xp c).val := by decide +kernel
theorem dev_y : ∀ c : Dev nD, k0_dev2 c = (pa false c).val ∧ k0_dev5 c = (pa false c).val ∧ k0_dev7 c = (pa false c).val ∧ k0_dev10 c = (pa false c).val ∧ k0_dev13 c = (pa false c).val
    ∧ k0_dev14 c = (pa false c).val ∧ k0_dev17 c = (pa false c).val ∧ k0_dev19 c = (pa false c).val ∧ k0_dev22 c = (pa false c).val ∧ k0_dev25 c = (pa false c).val ∧ k0_dev26 c = (pa false c).val := by
  decide +kernel
theorem dev_z : ∀ c : Dev nD, k0_dev3 c = (pa true c).val ∧ k0_dev6 c = (pa true c).val ∧ k0_dev8 c = (pa true c).val ∧ k0_dev11 c = (pa true c).val ∧ k0_dev12 c = (pa true c).val
    ∧ k0_dev15 c = (pa true c).val ∧ k0_dev18 c = (pa true c).val ∧ k0_dev20 c = (pa true c).val ∧ k0_dev23 c = (pa true c).val ∧ k0_dev24 c = (pa true c).val ∧ k0_dev27 c = (pa true c).val := by
  decide +kernel

theorem off_stage : ∀ c : Dev nD, k0_off1 c = ![tau c * 512, 0] ∧ k0_off9 c = ![tau c * 512, 0] ∧ k0_off23 c = ![tau c * 512, 0] ∧ k0_off31 c = ![tau c * 512, 0] := by decide +kernel
theorem off_gF : ∀ (t : Fin cfg0.N) (c : Dev nD), 1 ≤ t.val → k0_off4 (crs t) c = ![loG (pa false c) (t.val - 1) false, 0] ∧ k0_off26 (crs t) c = ![loG (pa false c) (t.val - 1) false, 0] := by decide +kernel
theorem off_gT : ∀ (t : Fin cfg0.N) (c : Dev nD), 1 ≤ t.val → k0_off5 (crs t) c = ![loG (pa true c) (t.val - 1) true, 0] ∧ k0_off27 (crs t) c = ![loG (pa true c) (t.val - 1) true, 0] := by decide +kernel
theorem off_sT : ∀ (t : Fin cfg0.N) (c : Dev nD), 1 ≤ t.val → k0_off6 (crs t) c = ![loQ (t.val - 1) (tau (pa true c)), 0] ∧ k0_off28 (crs t) c = ![loQ (t.val - 1) (tau (pa true c)), 0] := by decide +kernel
theorem off_sF : ∀ (t : Fin cfg0.N) (c : Dev nD), 1 ≤ t.val → k0_off7 (crs t) c = ![loQ (t.val - 1) (tau (pa false c)), 0] ∧ k0_off29 (crs t) c = ![loQ (t.val - 1) (tau (pa false c)), 0] := by decide +kernel
theorem off_m : ∀ (t : Fin cfg0.N) (c : Dev nD), k0_off10 (crs t) c = ![loQ t.val (tau c), 0] ∧ k0_off32 (crs t) c = ![loQ t.val (tau c), 0] := by decide +kernel
theorem off_last : ∀ (t : Fin cfg0.N) (c : Dev nD), t.val = 7 → k0_off37 (crs t) c = ![loG (pa false c) 7 false, 0] ∧ k0_off38 (crs t) c = ![loG (pa true c) 7 true, 0]
    ∧ k0_off39 (crs t) c = ![loQ 7 (tau (pa true c)), 0] ∧ k0_off40 (crs t) c = ![loQ 7 (tau (pa false c)), 0] := by decide +kernel

theorem slots_sp : ∀ t : Fin cfg0.N, (cfg0.slots t 0 : Fin 2) = sp t.val := by decide +kernel
theorem stage_slot : ∀ s : Fin 2, win0_0.stage s = stM s
  | 0 => rfl
  | 1 => rfl
theorem stage_sp (t : Fin cfg0.N) : win0_0.stage (cfg0.slots t 0) = stM (sp t.val) := by
  rw [← slots_sp t]; exact stage_slot _

end Cert.AR

end
-- ==== Proof.Cut.lean ====
/-
  A step cut where the kernel's text is cut, and what its cells and buffers are at a step of a given parity.
-/
module

public import proofs.«01_k».proof.Proof.Facts

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

/-- The wait for the three signals of the start. -/
def sw3 : PG F PUnit := .op (.semWait (rg .bx) 3) .ret
def bar : PG F PUnit := sg c .bx >>= fun _ => sg c (.b false) >>= fun _ => sg c (.b true) >>= fun _ => sw3
def b0 (j : ℕ) : PG F PUnit := if h : j = 0 then bar c else .ret ⟨⟩

def p2 (k : ℕ) (g : Bool → PG F PUnit) : PG F PUnit := wt k (.f true) >>= fun _ => g false
def p3 (k : ℕ) (hk : k < 8) (g : Bool → PG F PUnit) : PG F PUnit := fwd c false k hk >>= fun _ => wt k (.f false) >>= fun _ => g true
def p4 (k : ℕ) (hk : k < 8) : PG F PUnit := fwd c true k hk >>= fun _ => cpS c true k hk >>= fun _ => cpS c false k hk
theorem core_eq (k : ℕ) (hk : k < 8) (g : Bool → PG F PUnit) : core c k hk g = (p2 (F := F) k g >>= fun _ => p3 (F := F) c k hk g >>= fun _ => p4 (F := F) c k hk) := by
  simp only [core, p2, p3, p4, Prog.bind_assoc]

def p11 (j : ℕ) (hj : j < 8) : PG F PUnit :=
  pwG 2 j .xrd >>= fun _ => snd c none j (xrM c (sp j)) (wxX _ _) >>= fun _ => b3 j >>= fun _ => b4 c j >>= fun _ => b5 c j hj
def p12 (j : ℕ) : PG F PUnit := wt j .x >>= fun _ => b7 j >>= fun _ => ld c j >>= fun _ => b9 c j
def p13 (j : ℕ) : PG F PUnit := wt j .xS >>= fun _ => pwG 2 j (.rd false) >>= fun _ => snd c (some false) j (sl smM (sp j)) (wxQ _ _) >>= fun _ => pwG 2 j (.rd true)
theorem step_eq (j : ℕ) (hj : j < 8) : step (F := F) c j hj = (p11 c j hj >>= fun _ => p12 c j >>= fun _ => p13 c j >>= fun _ =>
    snd c (some true) j (sl smM (sp j)) (wxQ _ _) >>= fun _ => cpM c j hj >>= fun _ => b12 j >>= fun _ => b13 c j >>= fun _ => b14 c j) := by
  simp only [step, p11, p12, p13, b11, Prog.bind_assoc]

theorem code_par {j j' : ℕ} (h : j % 2 = j' % 2) (o : Op) : code j o = code j' o := by
  cases o <;> simp only [code] <;> omega
theorem dm_par {j j' : ℕ} {o : Op} {s : DmaSem sig} (h : j % 2 = j' % 2) (hs : s = dm j' o) : s = dm j o := by
  subst hs
  simp only [dm, code_par h]
theorem sp_par {j j' : ℕ} (h : j % 2 = j' % 2) : sp j = sp j' := Fin.ext h
theorem xr_at {M : Memref sig .tc .vmem S2048x1024 .f32} {s : Fin 2} (hM : M = stM s) {o : Fin 2 → ℕ} (ho : o = ![tau c * 512, 0]) {hi} :
    M.slice (Rect.unit (s := S2048x1024) o S512x1024.size hi) (fun _ => rfl) = xrM c s := by
  subst hM ho; rfl
theorem ld_at {M M' : Memref sig .tc .vmem S2048x1024 .f32} (hM : M = M') {o o' : Fin 2 → ℕ} (ho : o = o') {hi hi' h h'} :
    (TpuEff.load M (Rect.unit (s := S2048x1024) o S512x1024.size hi).toLoadRect h : TpuEff nD τ sig (Elt F) Λ₀ .tc _)
      = TpuEff.load M' (Rect.unit (s := S2048x1024) o' S512x1024.size hi').toLoadRect h' := by
  subst hM ho; rfl

theorem lds_at {s s' : Fin 2} (h : s = s') {M : V3} {h1 h2} :
    (TpuEff.load M (slr s').toLoadRect h1 : TpuEff nD τ sig (Elt F) Λ₀ .tc (Vec F S1x512x1024 .f32)) = TpuEff.load M (slr s).toLoadRect h2 := by
  subst h; rfl
theorem st_at {s s' : Fin 2} (h : s = s') {v : Vec F S1x512x1024 .f32} {h1 h2 h1' h2'} :
    (TpuEff.store smM (slr s') v Finset.univ h1 h2 : TpuEff nD τ sig (Elt F) Λ₀ .tc _) = TpuEff.store smM (slr s) v Finset.univ h1' h2' := by
  subst h; rfl

/-- One operation against the same one. -/
theorem sim_op0 {α β : Type} {e e' : TpuEff nD τ sig (Elt F) Λ₀ .tc β} (he : e = e') {k k' : β → PG F α} (hk : ∀ x, Sim c (k x) (k' x)) :
    Sim c (.op e k) (.op e' k') :=
  sim_op c (q := fun x => k' x) (k' := .ret) he hk

end Cert.AR

end
-- ==== Proof.Even.lean ====
/-
  The kernel's text at a step of even number is the step.
-/
module

public import proofs.«01_k».proof.Proof.Cut

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

set_option maxHeartbeats 400000 in
theorem sim_even (t : Fin cfg0.N) (ht : t.val % 2 = 0) (hj : t.val < 8) : Sim c (bodyAt0 (F := F) t) (b0 c t.val >>= fun _ => step c t.val hj) := by
  unfold bodyAt0
  rw [cc0_body_eq_skeleton]
  unfold cc0_body_skel b0
  refine sim_head (F := F) c (by rw [k0_part27_eq_skeleton]; rfl) fun v hv => ?_
  have h0 : v.1 = BitVec.ofNat 32 ((crs t) 0).val := congrArg (·.1) hv
  have h1 : v.2.1 = c := congrArg (·.2.1) hv
  clear hv
  obtain ⟨arg0, d0, v2, v5, v8, v19, v20, v23, v25, v28, v31, v32, v34⟩ := v
  dsimp (config := {zeta := false, zetaHave := false}) only at h0 h1
  subst h0 h1
  dsimp (config := {zeta := false, zetaHave := false}) only
  have hs : sp t.val = 0 := sp_par (j' := 0) ht
  have ho : 1 ≤ t.val → sp (t.val - 1) = 1 := fun h => sp_par (j' := 1) (by omega)
  extract_lets -underBinder -merge +onlyGivenNames jp
  generalize hjp : jp = g
  refine sim_if (F := F) d0 (g := g) (cond_one t) (fun _ => rfl) (fun h h' => ?_) ?_
  · clear hjp
    clear jp
    simp only [Prog.lift, Prog.pure_eq_ret, Prog.bind_op, Prog.bind_ret, Prog.bind_assoc, semSignalWord, semWaitWord, bar]
    refine sim_sg (F := F) d0 (Fin.ext (dev_x d0).1) rfl ?_
    refine sim_sg (F := F) d0 (Fin.ext (dev_y d0).1) rfl ?_
    refine sim_sg (F := F) d0 (Fin.ext (dev_z d0).1) rfl ?_
    exact sim_op (F := F) d0 (by rw [show (3#32 : BitVec 32).toInt = 3 from by decide]; rfl) fun _ => sim_rfl d0 _
  rw [← hjp]; clear hjp g; subst jp; beta_reduce
  extract_lets -underBinder -merge +onlyGivenNames jp
  have hjp : jp ⟨⟩ = .ret ⟨⟩ := by subst jp; beta_reduce; exact dif_neg (fun h => by have := (cond_odd t).1 h; omega)
  clear_value jp
  rw [dif_pos ((cond_even t).2 ht)]
  rw [step_eq]
  refine sim_bind (F := F) d0 (f := fun _ => Scalar.muli (Scalar.subi (BitVec.ofNat 32 ((crs t) 0).val) 1#32) 2048#32) ?_ fun _ => ?_
  · rw [k0_part11_eq_skeleton]
    unfold k0_part11_skel p11 pwG b3 b4 b5
    simp (config := {zeta := false, zetaHave := false}) only [Prog.lift, Prog.pure_eq_ret, Prog.bind_op, Prog.bind_ret, Prog.bind_assoc, semSignalWord, semWaitWord]
    extract_lets -underBinder -merge +onlyGivenNames v62 v63 v64 v65 v66 jp
    generalize hjp : jp = g
    refine sim_if (F := F) d0 (g := g) (cond_ge t).1 (fun _ => rfl) (fun h h' => ?_) ?_
    · clear hjp
      clear jp
      exact sim_pw (F := F) d0 rfl (sim_rfl d0 _)
    rw [← hjp]; clear hjp g; subst jp; beta_reduce
    extract_lets -underBinder -merge
    refine sim_send (F := F) d0 (xr_at d0 (stage_sp t) (off_stage d0).1) (Fin.ext ((dev_x d0).2.1)) (by rw [hs]; rfl) (dm_par (j' := 0) ht rfl) (dm_par (j' := 0) ht rfl) ?_
    extract_lets -underBinder -merge +onlyGivenNames  jp
    generalize hjp : jp = g
    refine sim_if (F := F) d0 (g := g) (cond_four t).1 (fun _ => rfl) (fun h h' => ?_) ?_
    · clear hjp
      clear jp
      simp only [k0_part1_eq_skeleton, k0_part1_skel, Prog.lift, Prog.pure_eq_ret, Prog.bind_op, Prog.bind_ret, Prog.bind_assoc, semSignalWord, semWaitWord]
      refine sim_wt (F := F) d0 (dm_par (j' := 0) (by omega) rfl) rfl (.inr rfl) ?_
      refine sim_wt (F := F) d0 (dm_par (j' := 0) (by omega) rfl) rfl (.inr rfl) (sim_rfl d0 _)
    rw [← hjp]; clear hjp g; subst jp; beta_reduce
    extract_lets -underBinder -merge +onlyGivenNames  jp
    generalize hjp : jp = g
    refine sim_if (F := F) d0 (g := g) (cond_five t).1 (fun _ => rfl) (fun h h' => ?_) ?_
    · clear hjp
      clear jp
      simp only [Prog.lift, Prog.pure_eq_ret, Prog.bind_op, Prog.bind_ret, Prog.bind_assoc, semSignalWord, semWaitWord]
      refine sim_sg (F := F) d0 (Fin.ext ((dev_y d0).2.1)) rfl ?_
      refine sim_sg (F := F) d0 (Fin.ext ((dev_z d0).2.1)) rfl (sim_rfl d0 _)
    rw [← hjp]; clear hjp g; subst jp; beta_reduce
    extract_lets -underBinder -merge +onlyGivenNames  jp
    generalize hjp : jp = g
    refine sim_if (F := F) d0 (g := g) (cond_six t).1 (fun _ => rfl) (fun h h' => ?_) ?_
    · clear hjp
      clear jp
      have ho := ho h'
      rw [core_eq]
      simp only [Prog.bind_assoc]
      refine sim_bind (F := F) d0 (f := fun _ => ⟨⟩) ?_ fun _ => ?_
      · rw [k0_part2_eq_skeleton]
        unfold k0_part2_skel p2 pwG
        simp (config := {zeta := false, zetaHave := false}) only [Prog.lift, Prog.pure_eq_ret, Prog.bind_op, Prog.bind_ret, Prog.bind_assoc, semSignalWord, semWaitWord]
        extract_lets -underBinder -merge
        refine sim_wt (F := F) d0 (dm_par (j' := 1) (by omega) rfl) rfl (.inl rfl) ?_
        extract_lets -underBinder -merge +onlyGivenNames v188 v189 v190 jp
        generalize hjp : jp = g
        refine sim_if (F := F) d0 (g := g) ((cond_ge t).2.trans (by omega)) (fun _ => rfl) (fun h h' => ?_) ?_
        · clear hjp
          clear jp
          exact sim_pw (F := F) d0 rfl (sim_rfl d0 _)
        rw [← hjp]; clear hjp g; subst jp; beta_reduce
        exact sim_rfl d0 _
      refine sim_bind (F := F) d0 (f := fun _ => ⟨⟩) ?_ fun _ => ?_
      · rw [k0_part3_eq_skeleton]
        unfold k0_part3_skel p3 pwG
        simp (config := {zeta := false, zetaHave := false}) only [Prog.lift, Prog.pure_eq_ret, Prog.bind_op, Prog.bind_ret, Prog.bind_assoc, semSignalWord, semWaitWord]
        extract_lets -underBinder -merge
        refine sim_send (F := F) d0 (by rw [ho]; rfl) (Fin.ext ((dev_y d0).2.2.1)) (slice_at _ (off_gF t d0 h').1) (dm_par (j' := 1) (by omega) rfl) (dm_par (j' := 1) (by omega) rfl) ?_
        extract_lets -underBinder -merge
        refine sim_wt (F := F) d0 (dm_par (j' := 1) (by omega) rfl) rfl (.inl rfl) ?_
        extract_lets -underBinder -merge +onlyGivenNames v219 v220 v221 jp
        generalize hjp : jp = g
        refine sim_if (F := F) d0 (g := g) ((cond_ge t).2.trans (by omega)) (fun _ => rfl) (fun h h' => ?_) ?_
        · clear hjp
          clear jp
          exact sim_pw (F := F) d0 rfl (sim_rfl d0 _)
        rw [← hjp]; clear hjp g; subst jp; beta_reduce
        exact sim_rfl d0 _
      simp only [p4, Prog.lift, Prog.pure_eq_ret, Prog.bind_op, Prog.bind_ret, Prog.bind_assoc, semSignalWord, semWaitWord]
      refine sim_send (F := F) d0 (by rw [ho]; rfl) (Fin.ext ((dev_z d0).2.2.1)) (slice_at _ (off_gT t d0 h').1) (dm_par (j' := 1) (by omega) rfl) (dm_par (j' := 1) (by omega) rfl) ?_
      refine sim_copy (F := F) d0 (by rw [ho]; rfl) (slice_at _ (off_sT t d0 h').1) (dm_par (j' := 1) (by omega) rfl) ?_
      refine sim_copy (F := F) d0 (by rw [ho]; rfl) (slice_at _ (off_sF t d0 h').1) (dm_par (j' := 1) (by omega) rfl) (sim_rfl d0 _)
    rw [← hjp]; clear hjp g; subst jp; beta_reduce
    exact sim_rfl d0 _
  beta_reduce
  refine sim_bind (F := F) d0 (f := fun _ => ⟨⟩) ?_ fun _ => ?_
  · rw [k0_part12_eq_skeleton]
    unfold k0_part12_skel p12 b7 b9 ld
    simp (config := {zeta := false, zetaHave := false}) only [Prog.lift, Prog.pure_eq_ret, Prog.bind_op, Prog.bind_ret, Prog.bind_assoc, semSignalWord, semWaitWord]
    extract_lets -underBinder -merge
    refine sim_wt (F := F) d0 (dm_par (j' := 0) ht rfl) rfl (.inl rfl) ?_
    extract_lets -underBinder -merge +onlyGivenNames  jp
    generalize hjp : jp = g
    refine sim_if (F := F) d0 (g := g) (cond_nine t).1 (fun _ => rfl) (fun h h' => ?_) ?_
    · clear hjp
      clear jp
      simp only [rel3, Prog.lift, Prog.pure_eq_ret, Prog.bind_op, Prog.bind_ret, Prog.bind_assoc, semSignalWord, semWaitWord]
      refine sim_wt (F := F) d0 (dm_par (j' := 0) (by omega) rfl) rfl (.inl rfl) ?_
      refine sim_wt (F := F) d0 (dm_par (j' := 0) (by omega) rfl) rfl (.inl rfl) ?_
      refine sim_wt (F := F) d0 (dm_par (j' := 0) (by omega) rfl) rfl (.inl rfl) (sim_rfl d0 _)
    rw [← hjp]; clear hjp g; subst jp; beta_reduce
    refine sim_op0 (F := F) d0 (by exact ld_at (stage_sp t) (off_stage d0).2.1) fun v108 => ?_
    refine sim_op0 (F := F) d0 (lds_at (s' := 0) hs) fun v110 => ?_
    refine sim_op0 (F := F) d0 (lds_at (s' := 0) hs) fun v113 => ?_
    refine sim_op0 (F := F) d0 (st_at (s' := 0) hs) fun _ => ?_
    extract_lets -underBinder -merge +onlyGivenNames  jp
    generalize hjp : jp = g
    refine sim_if (F := F) d0 (g := g) (cond_ten t).1 (fun _ => rfl) (fun h h' => ?_) ?_
    · clear hjp
      clear jp
      refine sim_sg (F := F) d0 (Fin.ext ((dev_x d0).2.2.1)) rfl (sim_rfl d0 _)
    rw [← hjp]; clear hjp g; subst jp; beta_reduce
    exact sim_rfl d0 _
  refine sim_bind (F := F) d0 (f := fun _ => ⟨⟩) ?_ fun _ => ?_
  · rw [k0_part13_eq_skeleton]
    unfold k0_part13_skel p13 pwG
    simp (config := {zeta := false, zetaHave := false}) only [Prog.lift, Prog.pure_eq_ret, Prog.bind_op, Prog.bind_ret, Prog.bind_assoc, semSignalWord, semWaitWord]
    extract_lets -underBinder -merge
    refine sim_wt (F := F) d0 (dm_par (j' := 0) ht rfl) rfl (.inl rfl) ?_
    extract_lets -underBinder -merge +onlyGivenNames v124 v125 v126 jp
    generalize hjp : jp = g
    refine sim_if (F := F) d0 (g := g) (cond_ge t).1 (fun _ => rfl) (fun h h' => ?_) ?_
    · clear hjp
      clear jp
      exact sim_pw (F := F) d0 rfl (sim_rfl d0 _)
    rw [← hjp]; clear hjp g; subst jp; beta_reduce
    extract_lets -underBinder -merge
    refine sim_send (F := F) d0 (by rw [hs]; rfl) (Fin.ext ((dev_y d0).2.2.2.1)) (by rw [hs]; rfl) (dm_par (j' := 0) ht rfl) (dm_par (j' := 0) ht rfl) ?_
    extract_lets -underBinder -merge +onlyGivenNames v141 v142 v143 jp
    generalize hjp : jp = g
    refine sim_if (F := F) d0 (g := g) (cond_ge t).1 (fun _ => rfl) (fun h h' => ?_) ?_
    · clear hjp
      clear jp
      exact sim_pw (F := F) d0 rfl (sim_rfl d0 _)
    rw [← hjp]; clear hjp g; subst jp; beta_reduce
    exact sim_rfl d0 _
  simp (config := {zeta := false, zetaHave := false}) only [Prog.lift, Prog.pure_eq_ret, Prog.bind_op, Prog.bind_ret, Prog.bind_assoc, semSignalWord, semWaitWord]
  unfold b12 b13 b14
  extract_lets -underBinder -merge
  refine sim_send (F := F) d0 (by rw [hs]; rfl) (Fin.ext ((dev_z d0).2.2.2.1)) (by rw [hs]; rfl) (dm_par (j' := 0) ht rfl) (dm_par (j' := 0) ht rfl) ?_
  extract_lets -underBinder -merge
  refine sim_copy (F := F) d0 (by rw [hs]; rfl) (slice_at _ (off_m t d0).1) (dm_par (j' := 0) ht rfl) ?_
  extract_lets -underBinder -merge +onlyGivenNames  jp
  generalize hjp : jp = g
  refine sim_if (F := F) d0 (g := g) (cond_a t).1 (fun _ => rfl) (fun h h' => ?_) ?_
  · clear hjp
    clear jp
    simp only [w4, k0_part4_eq_skeleton, k0_part4_skel, Prog.lift, Prog.pure_eq_ret, Prog.bind_op, Prog.bind_ret, Prog.bind_assoc, semSignalWord, semWaitWord]
    refine sim_wt (F := F) d0 (dm_par (j' := 1) (by omega) rfl) rfl (.inl rfl) ?_
    refine sim_wt (F := F) d0 (dm_par (j' := 1) (by omega) rfl) rfl (.inr rfl) ?_
    refine sim_wt (F := F) d0 (dm_par (j' := 1) (by omega) rfl) rfl (.inl rfl) ?_
    refine sim_wt (F := F) d0 (dm_par (j' := 1) (by omega) rfl) rfl (.inr rfl) (sim_rfl d0 _)
  rw [← hjp]; clear hjp g; subst jp; beta_reduce
  extract_lets -underBinder -merge +onlyGivenNames  jp
  generalize hjp : jp = g
  refine sim_if (F := F) d0 (g := g) (cond_b t).1 (fun _ => rfl) (fun h h' => ?_) ?_
  · clear hjp
    clear jp
    simp only [Prog.lift, Prog.pure_eq_ret, Prog.bind_op, Prog.bind_ret, Prog.bind_assoc, semSignalWord, semWaitWord]
    refine sim_sg (F := F) d0 (Fin.ext ((dev_z d0).2.2.2.2.1)) rfl ?_
    refine sim_sg (F := F) d0 (Fin.ext ((dev_y d0).2.2.2.2.1)) rfl (sim_rfl d0 _)
  rw [← hjp]; clear hjp g; subst jp; beta_reduce
  rw [← Prog.bind_pure (if h : t.val = 7 then b14c d0 else .ret ⟨⟩)]
  refine sim_if (F := F) d0 (g := pure) (cond_c t).1 ?_ (fun h h' => ?_) (sim_rfl d0 _)
  · exact fun _ => hjp
  · skip
    exact absurd h' (by omega)

end Cert.AR

end
-- ==== Proof.Odd.lean ====
/-
  The kernel's text at a step of odd number is the step.
-/
module

public import proofs.«01_k».proof.Proof.Cut

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

set_option maxHeartbeats 400000 in
theorem sim_odd (t : Fin cfg0.N) (ht : t.val % 2 = 1) (hj : t.val < 8) : Sim c (bodyAt0 (F := F) t) (b0 c t.val >>= fun _ => step c t.val hj) := by
  unfold bodyAt0
  rw [cc0_body_eq_skeleton]
  unfold cc0_body_skel b0
  refine sim_head (F := F) c (by rw [k0_part27_eq_skeleton]; rfl) fun v hv => ?_
  have h0 : v.1 = BitVec.ofNat 32 ((crs t) 0).val := congrArg (·.1) hv
  have h1 : v.2.1 = c := congrArg (·.2.1) hv
  clear hv
  obtain ⟨arg0, d0, v2, v5, v8, v19, v20, v23, v25, v28, v31, v32, v34⟩ := v
  dsimp (config := {zeta := false, zetaHave := false}) only at h0 h1
  subst h0 h1
  dsimp (config := {zeta := false, zetaHave := false}) only
  have hs : sp t.val = 1 := sp_par (j' := 1) ht
  have ho : 1 ≤ t.val → sp (t.val - 1) = 0 := fun h => sp_par (j' := 0) (by omega)
  extract_lets -underBinder -merge +onlyGivenNames jp
  generalize hjp : jp = g
  refine sim_if (F := F) d0 (g := g) (cond_one t) (fun _ => rfl) (fun h h' => ?_) ?_
  · clear hjp
    clear jp
    simp only [Prog.lift, Prog.pure_eq_ret, Prog.bind_op, Prog.bind_ret, Prog.bind_assoc, semSignalWord, semWaitWord, bar]
    refine sim_sg (F := F) d0 (Fin.ext (dev_x d0).1) rfl ?_
    refine sim_sg (F := F) d0 (Fin.ext (dev_y d0).1) rfl ?_
    refine sim_sg (F := F) d0 (Fin.ext (dev_z d0).1) rfl ?_
    exact sim_op (F := F) d0 (by rw [show (3#32 : BitVec 32).toInt = 3 from by decide]; rfl) fun _ => sim_rfl d0 _
  rw [← hjp]; clear hjp g; subst jp; beta_reduce
  extract_lets -underBinder -merge +onlyGivenNames jp
  rw [dif_neg (fun h => by have := (cond_even t).1 h; omega)]
  subst jp; beta_reduce
  extract_lets -underBinder -merge +onlyGivenNames jp
  have hjp : jp ⟨⟩ = .ret ⟨⟩ := by subst jp; rfl
  clear_value jp
  rw [dif_pos ((cond_odd t).2 ht)]
  rw [step_eq]
  refine sim_bind (F := F) d0 (f := fun _ => Scalar.muli (Scalar.subi (BitVec.ofNat 32 ((crs t) 0).val) 1#32) 2048#32) ?_ fun _ => ?_
  · rw [k0_part24_eq_skeleton]
    unfold k0_part24_skel p11 pwG b3 b4 b5
    simp (config := {zeta := false, zetaHave := false}) only [Prog.lift, Prog.pure_eq_ret, Prog.bind_op, Prog.bind_ret, Prog.bind_assoc, semSignalWord, semWaitWord]
    extract_lets -underBinder -merge +onlyGivenNames v62 v63 v64 v65 v66 jp
    generalize hjp : jp = g
    refine sim_if (F := F) d0 (g := g) (cond_ge t).1 (fun _ => rfl) (fun h h' => ?_) ?_
    · clear hjp
      clear jp
      exact sim_pw (F := F) d0 rfl (sim_rfl d0 _)
    rw [← hjp]; clear hjp g; subst jp; beta_reduce
    extract_lets -underBinder -merge
    refine sim_send (F := F) d0 (xr_at d0 (stage_sp t) (off_stage d0).2.2.1) (Fin.ext ((dev_x d0).2.2.2.1)) (by rw [hs]; rfl) (dm_par (j' := 1) ht rfl) (dm_par (j' := 1) ht rfl) ?_
    extract_lets -underBinder -merge +onlyGivenNames  jp
    generalize hjp : jp = g
    refine sim_if (F := F) d0 (g := g) (cond_four t).2 (fun _ => rfl) (fun h h' => ?_) ?_
    · clear hjp
      clear jp
      simp only [k0_part14_eq_skeleton, k0_part14_skel, Prog.lift, Prog.pure_eq_ret, Prog.bind_op, Prog.bind_ret, Prog.bind_assoc, semSignalWord, semWaitWord]
      refine sim_wt (F := F) d0 (dm_par (j' := 1) (by omega) rfl) rfl (.inr rfl) ?_
      refine sim_wt (F := F) d0 (dm_par (j' := 1) (by omega) rfl) rfl (.inr rfl) (sim_rfl d0 _)
    rw [← hjp]; clear hjp g; subst jp; beta_reduce
    extract_lets -underBinder -merge +onlyGivenNames  jp
    generalize hjp : jp = g
    refine sim_if (F := F) d0 (g := g) (cond_five t).2 (fun _ => rfl) (fun h h' => ?_) ?_
    · clear hjp
      clear jp
      simp only [Prog.lift, Prog.pure_eq_ret, Prog.bind_op, Prog.bind_ret, Prog.bind_assoc, semSignalWord, semWaitWord]
      refine sim_sg (F := F) d0 (Fin.ext ((dev_y d0).2.2.2.2.2.2.1)) rfl ?_
      refine sim_sg (F := F) d0 (Fin.ext ((dev_z d0).2.2.2.2.2.2.1)) rfl (sim_rfl d0 _)
    rw [← hjp]; clear hjp g; subst jp; beta_reduce
    extract_lets -underBinder -merge +onlyGivenNames  jp
    generalize hjp : jp = g
    refine sim_if (F := F) d0 (g := g) (cond_six t).2 (fun _ => rfl) (fun h h' => ?_) ?_
    · clear hjp
      clear jp
      have ho := ho h'
      rw [core_eq]
      simp only [Prog.bind_assoc]
      refine sim_bind (F := F) d0 (f := fun _ => ⟨⟩) ?_ fun _ => ?_
      · rw [k0_part15_eq_skeleton]
        unfold k0_part15_skel p2 pwG
        simp (config := {zeta := false, zetaHave := false}) only [Prog.lift, Prog.pure_eq_ret, Prog.bind_op, Prog.bind_ret, Prog.bind_assoc, semSignalWord, semWaitWord]
        extract_lets -underBinder -merge
        refine sim_wt (F := F) d0 (dm_par (j' := 0) (by omega) rfl) rfl (.inl rfl) ?_
        extract_lets -underBinder -merge +onlyGivenNames v188 v189 v190 jp
        generalize hjp : jp = g
        refine sim_if (F := F) d0 (g := g) ((cond_ge t).2.trans (by omega)) (fun _ => rfl) (fun h h' => ?_) ?_
        · clear hjp
          clear jp
          exact sim_pw (F := F) d0 rfl (sim_rfl d0 _)
        rw [← hjp]; clear hjp g; subst jp; beta_reduce
        exact sim_rfl d0 _
      refine sim_bind (F := F) d0 (f := fun _ => ⟨⟩) ?_ fun _ => ?_
      · rw [k0_part16_eq_skeleton]
        unfold k0_part16_skel p3 pwG
        simp (config := {zeta := false, zetaHave := false}) only [Prog.lift, Prog.pure_eq_ret, Prog.bind_op, Prog.bind_ret, Prog.bind_assoc, semSignalWord, semWaitWord]
        extract_lets -underBinder -merge
        refine sim_send (F := F) d0 (by rw [ho]; rfl) (Fin.ext ((dev_y d0).2.2.2.2.2.2.2.1)) (slice_at _ (off_gF t d0 h').2) (dm_par (j' := 0) (by omega) rfl) (dm_par (j' := 0) (by omega) rfl) ?_
        extract_lets -underBinder -merge
        refine sim_wt (F := F) d0 (dm_par (j' := 0) (by omega) rfl) rfl (.inl rfl) ?_
        extract_lets -underBinder -merge +onlyGivenNames v219 v220 v221 jp
        generalize hjp : jp = g
        refine sim_if (F := F) d0 (g := g) ((cond_ge t).2.trans (by omega)) (fun _ => rfl) (fun h h' => ?_) ?_
        · clear hjp
          clear jp
          exact sim_pw (F := F) d0 rfl (sim_rfl d0 _)
        rw [← hjp]; clear hjp g; subst jp; beta_reduce
        exact sim_rfl d0 _
      simp only [p4, Prog.lift, Prog.pure_eq_ret, Prog.bind_op, Prog.bind_ret, Prog.bind_assoc, semSignalWord, semWaitWord]
      refine sim_send (F := F) d0 (by rw [ho]; rfl) (Fin.ext ((dev_z d0).2.2.2.2.2.2.2.1)) (slice_at _ (off_gT t d0 h').2) (dm_par (j' := 0) (by omega) rfl) (dm_par (j' := 0) (by omega) rfl) ?_
      refine sim_copy (F := F) d0 (by rw [ho]; rfl) (slice_at _ (off_sT t d0 h').2) (dm_par (j' := 0) (by omega) rfl) ?_
      refine sim_copy (F := F) d0 (by rw [ho]; rfl) (slice_at _ (off_sF t d0 h').2) (dm_par (j' := 0) (by omega) rfl) (sim_rfl d0 _)
    rw [← hjp]; clear hjp g; subst jp; beta_reduce
    exact sim_rfl d0 _
  beta_reduce
  refine sim_bind (F := F) d0 (f := fun _ => ⟨⟩) ?_ fun _ => ?_
  · rw [k0_part25_eq_skeleton]
    unfold k0_part25_skel p12 b7 b9 ld
    simp (config := {zeta := false, zetaHave := false}) only [Prog.lift, Prog.pure_eq_ret, Prog.bind_op, Prog.bind_ret, Prog.bind_assoc, semSignalWord, semWaitWord]
    extract_lets -underBinder -merge
    refine sim_wt (F := F) d0 (dm_par (j' := 1) ht rfl) rfl (.inl rfl) ?_
    extract_lets -underBinder -merge +onlyGivenNames  jp
    generalize hjp : jp = g
    refine sim_if (F := F) d0 (g := g) (cond_nine t).2 (fun _ => rfl) (fun h h' => ?_) ?_
    · clear hjp
      clear jp
      simp only [rel3, Prog.lift, Prog.pure_eq_ret, Prog.bind_op, Prog.bind_ret, Prog.bind_assoc, semSignalWord, semWaitWord]
      refine sim_wt (F := F) d0 (dm_par (j' := 1) (by omega) rfl) rfl (.inl rfl) ?_
      refine sim_wt (F := F) d0 (dm_par (j' := 1) (by omega) rfl) rfl (.inl rfl) ?_
      refine sim_wt (F := F) d0 (dm_par (j' := 1) (by omega) rfl) rfl (.inl rfl) (sim_rfl d0 _)
    rw [← hjp]; clear hjp g; subst jp; beta_reduce
    refine sim_op0 (F := F) d0 (by exact ld_at (stage_sp t) (off_stage d0).2.2.2) fun v108 => ?_
    refine sim_op0 (F := F) d0 (lds_at (s' := 1) hs) fun v110 => ?_
    refine sim_op0 (F := F) d0 (lds_at (s' := 1) hs) fun v113 => ?_
    refine sim_op0 (F := F) d0 (st_at (s' := 1) hs) fun _ => ?_
    extract_lets -underBinder -merge +onlyGivenNames  jp
    generalize hjp : jp = g
    refine sim_if (F := F) d0 (g := g) (cond_ten t).2 (fun _ => rfl) (fun h h' => ?_) ?_
    · clear hjp
      clear jp
      refine sim_sg (F := F) d0 (Fin.ext ((dev_x d0).2.2.2.2)) rfl (sim_rfl d0 _)
    rw [← hjp]; clear hjp g; subst jp; beta_reduce
    exact sim_rfl d0 _
  refine sim_bind (F := F) d0 (f := fun _ => ⟨⟩) ?_ fun _ => ?_
  · rw [k0_part26_eq_skeleton]
    unfold k0_part26_skel p13 pwG
    simp (config := {zeta := false, zetaHave := false}) only [Prog.lift, Prog.pure_eq_ret, Prog.bind_op, Prog.bind_ret, Prog.bind_assoc, semSignalWord, semWaitWord]
    extract_lets -underBinder -merge
    refine sim_wt (F := F) d0 (dm_par (j' := 1) ht rfl) rfl (.inl rfl) ?_
    extract_lets -underBinder -merge +onlyGivenNames v124 v125 v126 jp
    generalize hjp : jp = g
    refine sim_if (F := F) d0 (g := g) (cond_ge t).1 (fun _ => rfl) (fun h h' => ?_) ?_
    · clear hjp
      clear jp
      exact sim_pw (F := F) d0 rfl (sim_rfl d0 _)
    rw [← hjp]; clear hjp g; subst jp; beta_reduce
    extract_lets -underBinder -merge
    refine sim_send (F := F) d0 (by rw [hs]; rfl) (Fin.ext ((dev_y d0).2.2.2.2.2.2.2.2.1)) (by rw [hs]; rfl) (dm_par (j' := 1) ht rfl) (dm_par (j' := 1) ht rfl) ?_
    extract_lets -underBinder -merge +onlyGivenNames v141 v142 v143 jp
    generalize hjp : jp = g
    refine sim_if (F := F) d0 (g := g) (cond_ge t).1 (fun _ => rfl) (fun h h' => ?_) ?_
    · clear hjp
      clear jp
      exact sim_pw (F := F) d0 rfl (sim_rfl d0 _)
    rw [← hjp]; clear hjp g; subst jp; beta_reduce
    exact sim_rfl d0 _
  simp (config := {zeta := false, zetaHave := false}) only [Prog.lift, Prog.pure_eq_ret, Prog.bind_op, Prog.bind_ret, Prog.bind_assoc, semSignalWord, semWaitWord]
  unfold b12 b13 b14
  extract_lets -underBinder -merge
  refine sim_send (F := F) d0 (by rw [hs]; rfl) (Fin.ext ((dev_z d0).2.2.2.2.2.2.2.2.1)) (by rw [hs]; rfl) (dm_par (j' := 1) ht rfl) (dm_par (j' := 1) ht rfl) ?_
  extract_lets -underBinder -merge
  refine sim_copy (F := F) d0 (by rw [hs]; rfl) (slice_at _ (off_m t d0).2) (dm_par (j' := 1) ht rfl) ?_
  extract_lets -underBinder -merge +onlyGivenNames  jp
  generalize hjp : jp = g
  refine sim_if (F := F) d0 (g := g) (cond_a t).2 (fun _ => rfl) (fun h h' => ?_) ?_
  · clear hjp
    clear jp
    simp only [w4, k0_part17_eq_skeleton, k0_part17_skel, Prog.lift, Prog.pure_eq_ret, Prog.bind_op, Prog.bind_ret, Prog.bind_assoc, semSignalWord, semWaitWord]
    refine sim_wt (F := F) d0 (dm_par (j' := 0) (by omega) rfl) rfl (.inl rfl) ?_
    refine sim_wt (F := F) d0 (dm_par (j' := 0) (by omega) rfl) rfl (.inr rfl) ?_
    refine sim_wt (F := F) d0 (dm_par (j' := 0) (by omega) rfl) rfl (.inl rfl) ?_
    refine sim_wt (F := F) d0 (dm_par (j' := 0) (by omega) rfl) rfl (.inr rfl) (sim_rfl d0 _)
  rw [← hjp]; clear hjp g; subst jp; beta_reduce
  extract_lets -underBinder -merge +onlyGivenNames  jp
  generalize hjp : jp = g
  refine sim_if (F := F) d0 (g := g) (cond_b t).2 (fun _ => rfl) (fun h h' => ?_) ?_
  · clear hjp
    clear jp
    simp only [Prog.lift, Prog.pure_eq_ret, Prog.bind_op, Prog.bind_ret, Prog.bind_assoc, semSignalWord, semWaitWord]
    refine sim_sg (F := F) d0 (Fin.ext ((dev_z d0).2.2.2.2.2.2.2.2.2.1)) rfl ?_
    refine sim_sg (F := F) d0 (Fin.ext ((dev_y d0).2.2.2.2.2.2.2.2.2.1)) rfl (sim_rfl d0 _)
  rw [← hjp]; clear hjp g; subst jp; beta_reduce
  rw [← Prog.bind_pure (if h : t.val = 7 then b14c d0 else .ret ⟨⟩)]
  refine sim_if (F := F) d0 (g := pure) (cond_c t).2 ?_ (fun h h' => ?_) (sim_rfl d0 _)
  · exact fun _ => hjp
  · skip
    simp only [b14c, core, w4', rel3, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, Prog.lift, Prog.pure_eq_ret, Prog.bind_op, Prog.bind_ret, Prog.bind_assoc, semSignalWord, semWaitWord]
    refine sim_wt (F := F) d0 (dm_par (j' := 1) rfl rfl) rfl (.inl rfl) ?_
    refine sim_send (F := F) d0 rfl (Fin.ext ((dev_y d0).2.2.2.2.2.2.2.2.2.2)) (slice_at _ (off_last t d0 h').1) (dm_par (j' := 1) rfl rfl) (dm_par (j' := 1) rfl rfl) ?_
    refine sim_wt (F := F) d0 (dm_par (j' := 1) rfl rfl) rfl (.inl rfl) ?_
    refine sim_send (F := F) d0 rfl (Fin.ext ((dev_z d0).2.2.2.2.2.2.2.2.2.2)) (slice_at _ (off_last t d0 h').2.1) (dm_par (j' := 1) rfl rfl) (dm_par (j' := 1) rfl rfl) ?_
    refine sim_copy (F := F) d0 rfl (slice_at _ (off_last t d0 h').2.2.1) (dm_par (j' := 1) rfl rfl) ?_
    refine sim_copy (F := F) d0 rfl (slice_at _ (off_last t d0 h').2.2.2) (dm_par (j' := 1) rfl rfl) ?_
    refine sim_wt (F := F) d0 (dm_par (j' := 0) rfl rfl) rfl (.inr rfl) ?_
    refine sim_wt (F := F) d0 (dm_par (j' := 0) rfl rfl) rfl (.inr rfl) ?_
    refine sim_wt (F := F) d0 (dm_par (j' := 1) rfl rfl) rfl (.inr rfl) ?_
    refine sim_wt (F := F) d0 (dm_par (j' := 1) rfl rfl) rfl (.inr rfl) ?_
    refine sim_wt (F := F) d0 (dm_par (j' := 1) rfl rfl) rfl (.inr rfl) ?_
    refine sim_wt (F := F) d0 (dm_par (j' := 1) rfl rfl) rfl (.inr rfl) ?_
    refine sim_wt (F := F) d0 (dm_par (j' := 1) rfl rfl) rfl (.inl rfl) ?_
    refine sim_wt (F := F) d0 (dm_par (j' := 1) rfl rfl) rfl (.inl rfl) ?_
    refine sim_wt (F := F) d0 (dm_par (j' := 1) rfl rfl) rfl (.inl rfl) ?_
    refine sim_wt (F := F) d0 (dm_par (j' := 1) rfl rfl) rfl (.inl rfl) ?_
    refine sim_wt (F := F) d0 (dm_par (j' := 1) rfl rfl) rfl (.inl rfl) ?_
    refine sim_wt (F := F) d0 (dm_par (j' := 0) rfl rfl) rfl (.inl rfl) ?_
    refine sim_wt (F := F) d0 (dm_par (j' := 0) rfl rfl) rfl (.inl rfl) ?_
    refine sim_wt (F := F) d0 (dm_par (j' := 0) rfl rfl) rfl (.inl rfl) ?_
    rw [hjp]; exact sim_rfl d0 _

end Cert.AR

end
-- ==== Proof.Bar.lean ====
/-
  The handshake before the first step.
-/
module

public import proofs.«01_k».proof.Proof.Even
public import proofs.«01_k».proof.Proof.Odd

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

/-! ## The simulation of a step's body -/

theorem sim_body (t : Fin cfg0.N) (hj : t.val < 8) : Sim c (bodyAt0 (F := F) t) (b0 (F := F) c t.val >>= fun _ => step (F := F) c t.val hj) := by
  rcases Nat.mod_two_eq_zero_or_one t.val with h | h
  · exact sim_even c t h hj
  · exact sim_odd c t h hj

/-! ## The slots given up before the handshake -/

theorem rel_first (b : Option Bool) (i : ℕ) (hi : i < 2) :
    iprop(recs m K ιs ∗ readerAt ES (c, b, sp i) 0 ∗ slotAny (c, b, sp i)) ⊢ |={Set.univ}=> (iprop(rdr c b i ∗ rdy b c i) : sProp 𝕄) := by
  have hd : i / 2 = 0 := by omega
  iintro ⟨#HR, Hr, Hs⟩
  ihave #HS := (recs_slot m K ιs (c, b, sp i)) $$ HR
  imod (slot_release (E := ES) (ι := ιs (c, b, sp i)) (k := (c, b, sp i)) (S := slotAny (F := F) (c, b, sp i)) (Set.mem_univ _)
    (slot_slot_false (ℓ := (sl (bufM b) (sp i)).view.loc (c : Thread nD τ)) (View.set_nonempty (v := (sl (bufM b) (sp i)).view) (show 0 < S512x1024.numel by decide +kernel))) 0) $$ [Hr Hs] with ⟨Hr, #Hrel⟩
  · isplitr; · iexact HS
    isplitl [Hr]; · iexact Hr
    iexact Hs
  imodintro
  unfold rdr rdy
  rw [hd]
  isplitl [Hr]; · iexact Hr
  isplitr
  · iapply (recs_reached m K ιs c i (recvOp b) (by cases b <;> exact hd)); iexact HR
  iexact Hrel

/-- Both slots of a landing buffer. -/
def slots2 (b : Option Bool) : sProp 𝕄 := iprop(slotAny (c, b, sp 0) ∗ slotAny (c, b, sp 1))
def reads2 (b : Option Bool) : sProp 𝕄 := iprop(readerAt ES (c, b, sp 0) 0 ∗ readerAt ES (c, b, sp 1) 0)
def rdy2 (b : Option Bool) (e : Dev nD) : sProp 𝕄 := iprop(rdy b e 0 ∗ rdy b e 1)
instance rdy2_persistent (b : Option Bool) (e : Dev nD) : BI.Persistent (rdy2 (F := F) b e) := by unfold rdy2; infer_instance

theorem rel_both (b : Option Bool) : iprop(recs m K ιs ∗ reads2 c b ∗ slots2 c b) ⊢ |={Set.univ}=> (iprop(Rr c b 0 ∗ rdy2 b c) : sProp 𝕄) := by
  unfold reads2 slots2 Rr rdy2
  rw [if_pos (by omega), Finset.Ico_eq_empty (by omega), Nat.zero_min, Finset.range_zero, BI.bigSep_empty, BI.bigSep_empty]
  iintro ⟨#HR, ⟨Hr0, Hr1⟩, Hs0, Hs1⟩
  imod (rel_first m K ιs c b 0 (by omega)) $$ [Hr0 Hs0] with ⟨Hr0, #Hd0⟩
  · isplitr; · iexact HR
    isplitl [Hr0]; · iexact Hr0
    iexact Hs0
  imod (rel_first m K ιs c b 1 (by omega)) $$ [Hr1 Hs1] with ⟨Hr1, #Hd1⟩
  · isplitr; · iexact HR
    isplitl [Hr1]; · iexact Hr1
    iexact Hs1
  imodintro
  isplitl [Hr0 Hr1]
  · isplitl [Hr0 Hr1]
    · isplitl [Hr0]; · iexact Hr0
      iexact Hr1
    isplitr <;> iempintro
  isplitr; · iexact Hd0
  iexact Hd1

/-! ## The handshake -/

/-- The rows of the diagonal quarter that neighbour `pa a e` writes. -/
def outD (a : Bool) (e : Dev nD) : sProp 𝕄 := bigSep (Finset.range 8) fun k => outB e (loG e k a) 256

/-- The handshake's tokens, credits and position. -/
def BS : sProp 𝕄 :=
  iprop((tok c (0, .bx) ∗ tok c (0, .b false) ∗ tok c (0, .b true)) ∗ (crd c (0, .bx) ∗ crd c (0, .b false) ∗ crd c (0, .b true)) ∗ atPos ER (cell c 0 .bx) 0 ∅ 0)

theorem bar_duties (e : Dev nD) : (Rd m).duties (cell e 0 .bx) 0 = {(0, .bx), (0, .b false), (0, .b true)} := by
  rw [duties_kcell m e (code_lt 0 .bx), show dutyL (code 0 .bx) 0 = [(0, .bx), (0, .b false), (0, .b true)] by decide +kernel]; rfl
theorem bar_expect (e : Dev nD) : (Rd m).expect (cell e 0 .bx) 0 = 3 := by
  unfold Schedule.expect Schedule.amountOf
  rw [bar_duties]
  show ∑ d ∈ ({(0, .bx), (0, .b false), (0, .b true)} : Finset D), amt d.2 = 3
  decide +kernel
theorem bar_sep (Φ : D → sProp 𝕄) : bigSep ({(0, .bx), (0, .b false), (0, .b true)} : Finset D) Φ = iprop(Φ (0, .bx) ∗ Φ (0, .b false) ∗ Φ (0, .b true)) := by
  rw [bigSep_insert (by decide), bigSep_insert (by decide), BI.bigSep_singleton]; rfl

omit [FloatOps F] in
theorem cred_three (g : GSem nD τ sig) (i : ℕ) : iprop(cred (tallyAt g i 1) ∗ cred (tallyAt g i 1) ∗ cred (tallyAt g i 1)) ⊢ (cred (tallyAt g i 3) : sProp 𝕄) := by
  rw [show tallyAt g i 3 = tallyAt g i 1 + (tallyAt g i 1 + tallyAt g i 1) by rw [tallyAt_add, tallyAt_add]]
  iintro ⟨H1, H2, H3⟩
  iapply (cred_add _ _).2
  isplitl [H1]; · iexact H1
  iapply (cred_add _ _).2
  isplitl [H2]; · iexact H2
  iexact H3

theorem sw3_run {l : List D} (hl : Abv 1 l) :
    iprop(recs m K ιs ∗ owesE c l ∗ (crd c (0, .bx) ∗ crd c (0, .b false) ∗ crd c (0, .b true)) ∗ atPos ER (cell c 0 .bx) 0 ∅ 0)
      ⊢ run c sw3 fun _ => iprop(owesE c l ∗ atPos ER (cell c 0 .bx) 1 ∅ 0 ∗ pay m c 0 .bx ∗ pay m c 0 (.b false) ∗ pay m c 0 (.b true)) := by
  have hex := bar_expect m c
  have hdu := bar_duties m c
  unfold owesE crd sw3
  iintro ⟨#HR, ⟨%W, HO⟩, ⟨Hc1, Hc2, Hc3⟩, Hat⟩
  ihave #HI := (recs_inv m K ιs c 0 .bx) $$ HR
  ihave #HL := (recs_lev m K ιs) $$ HR
  ihave Hc := (cred_three (F := F) (cell c 0 .bx) 1) $$ [Hc1 Hc2 Hc3]
  · isplitl [Hc1]; · iexact Hc1
    isplitl [Hc2]; · iexact Hc2
    iexact Hc3
  have hc : cell c 0 .bx = ((c : Thread nD τ), .reg (rg .bx)) := cell_eq (smc_rg (by decide))
  rw [hc] at hex hdu
  rw [hc]
  iapply (Rounds.wp_wait_rest_token 𝒱₀ ER (Rd m) (c : Thread nD τ) none (κ := K (c, ⟨code 0 .bx, code_lt 0 .bx⟩)) (k' := 3)
      (wpE_semWait_eq 𝒱₀ (c : Thread nD τ) none Set.univ) (Set.mem_univ _) 1 (O := owe c l) (W := W) (R := 0) (m := 0) (T := ∅)
      (by rw [hex])) $$ [Hc HO Hat]
  · isplitr; · iexact HI
    isplitl [Hc]; · iexact Hc
    isplitl [HO]; · iexact HO
    isplitr; · iapply (mayWait_owe c (.reg (rg .bx)) (by decide) hl); iexact HL
    iexact Hat
  rw [hdu, Finset.sdiff_empty, bar_sep]
  iintro ⟨HO, Hat, -, Hp⟩
  iapply (run_ret c (P := iprop(owes (c : Thread nD τ) (owe c l) (insert (.reg (rg .bx), 1) W) ∗ atPos ER ((c : Thread nD τ), .reg (rg .bx)) 1 ∅ 0 ∗ pay m c 0 .bx ∗ pay m c 0 (.b false) ∗ pay m c 0 (.b true))) (by
    iintro ⟨HO, Hat, Hp⟩
    isplitl [HO]; · iexists _; iexact HO
    isplitl [Hat]; · iexact Hat
    iexact Hp))
  isplitl [HO]; · iexact HO
  isplitl [Hat]; · iexact Hat
  iexact Hp

theorem bar_run {l : List D} (hl : Abv 1 l) :
    iprop(recs m K ιs ∗ owesE c ((0, .bx) :: (0, .b false) :: (0, .b true) :: l) ∗ BS c ∗ rdy2 none c ∗ (rdy2 (some false) c ∗ outD false c) ∗ (rdy2 (some true) c ∗ outD true c))
      ⊢ run c (bar c) fun _ => iprop(owesE c l ∗ atPos ER (cell c 0 .bx) 1 ∅ 0 ∗ rdy2 none (xp c) ∗ (rdy2 (some false) (pa false c) ∗ outD false (pa false c)) ∗ (rdy2 (some true) (pa true c) ∗ outD true (pa true c))) := by
  have hx : pay m (xp c) 0 .bx = rdy2 none c := by
    show iprop(rdy none (xp (xp c)) 0 ∗ rdy none (xp (xp c)) 1) = _; rw [xp_xp]; rfl
  have ha (a : Bool) : pay m (pa a c) 0 (.b a) = iprop(rdy2 (some a) c ∗ outD a c) := by
    show iprop((rdy (some a) (pa a (pa a c)) 0 ∗ rdy (some a) (pa a (pa a c)) 1) ∗ bigSep (Finset.range 8) fun k => outB (pa a (pa a c)) (loG (pa a (pa a c)) k a) 256) = _; rw [pa_pa]; rfl
  unfold bar BS
  iintro ⟨#HR, HO, ⟨⟨Ht1, Ht2, Ht3⟩, Hcs, Hat⟩, Hx, HF, HT⟩
  iapply (cps c (sg_run m K ιs c 0 .bx (Or.inr rfl) (by decide +kernel) rfl (rest := (0, .b false) :: (0, .b true) :: l))) $$ [HO Ht1 Hx]
  · rw [show peer .bx c = xp c from rfl, hx]
    isplitr; · iexact HR
    isplitl [HO]; · iexact HO
    isplitl [Ht1]; · iexact Ht1
    iexact Hx
  iintro HO
  iapply (cps c (sg_run m K ιs c 0 (.b false) (Or.inr rfl) (by decide +kernel) rfl (rest := (0, .b true) :: l))) $$ [HO Ht2 HF]
  · rw [show peer (.b false) c = pa false c from rfl, ha]
    isplitr; · iexact HR
    isplitl [HO]; · iexact HO
    isplitl [Ht2]; · iexact Ht2
    iexact HF
  iintro HO
  iapply (cps c (sg_run m K ιs c 0 (.b true) (Or.inr rfl) (by decide +kernel) rfl (rest := l))) $$ [HO Ht3 HT]
  · rw [show peer (.b true) c = pa true c from rfl, ha]
    isplitr; · iexact HR
    isplitl [HO]; · iexact HO
    isplitl [Ht3]; · iexact Ht3
    iexact HT
  iintro HO
  iapply (sw3_run m K ιs c hl)
  isplitr; · iexact HR
  isplitl [HO]; · iexact HO
  isplitl [Hcs]; · iexact Hcs
  iexact Hat

end Cert.AR

end
-- ==== Proof.Init.lean ====
/-
  What a device starts with, cut up for the steps.
-/
module

public import proofs.«01_k».proof.Proof.Bar

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

/-! ## The rows of the result -/

omit [FloatOps F] in
theorem sepC (P Q : sProp 𝕄) : iprop(P ∗ Q) = iprop(Q ∗ P) := by
  have h : iprop(P ∗ Q) ⊣⊢ iprop(Q ∗ P) := sep_comm
  exact h.1.antisymm h.2

/-- Rows of the result at contents `f`. -/
def outF (e : Dev nD) (f : Buf (Elt F) ((e : Thread nD τ).loc main_v1)) (lo n : ℕ) : sProp 𝕄 := ((e : Thread nD τ).loc main_v1) ↦[rows lo n]{fullShare} f

theorem outF_add (e : Dev nD) (f : Buf (Elt F) ((e : Thread nD τ).loc main_v1)) (lo n n' : ℕ) : outF e f lo (n + n') = iprop(outF e f lo n ∗ outF e f (lo + n) n') := by
  unfold outF
  have h : _ ⊣⊢ (_ : sProp 𝕄) := pointsTo_union (ℓ := (e : Thread nD τ).loc main_v1) (q := fullShare) (f := f) (rows_disjoint (lo := lo) (n := n) (lo' := lo + n) (n' := n') le_rfl)
  rw [rows_append]
  exact h.1.antisymm h.2

theorem outF_zero (e : Dev nD) (f : Buf (Elt F) ((e : Thread nD τ).loc main_v1)) (lo : ℕ) : outF e f lo 0 = iprop(emp) := by
  unfold outF
  rw [show rows lo 0 = ∅ from Finset.filter_eq_empty_iff.mpr fun i _ h => by omega]
  exact pointsTo_empty

/-- Rows cut into `n` pieces of the same size. -/
theorem outF_cut (e : Dev nD) (f : Buf (Elt F) ((e : Thread nD τ).loc main_v1)) (lo s n : ℕ) : outF e f lo (s * n) = bigSep (Finset.range n) fun i => outF e f (lo + s * i) s := by
  induction n with
  | zero => rw [Nat.mul_zero, outF_zero, Finset.range_zero, BI.bigSep_empty]; rfl
  | succ n ih => rw [Nat.mul_succ, outF_add, ih, bigSep_range_succ]; exact sepC _ _

/-- The quarters of a block: the own one, the neighbours', the diagonal one. -/
def quart : List ℕ := [tau c, tau (pa false c), tau (pa true c), tau (dg c)]
theorem quart_range : Finset.range 4 = (quart c).toFinset := by revert c; decide
theorem quart_nodup : (quart c).Nodup := by revert c; decide

theorem out_eq (f : Buf (Elt F) ((c : Thread nD τ).loc main_v1)) : (((c : Thread nD τ).loc main_v1) ↦{fullShare} f : sProp 𝕄)
    = iprop((bigSep (Finset.range 8) fun k => outF c f (loQ k (tau c)) 512) ∗ (bigSep (Finset.range 8) fun k => outF c f (loQ k (tau (pa false c))) 512)
      ∗ (bigSep (Finset.range 8) fun k => outF c f (loQ k (tau (pa true c))) 512)
      ∗ (bigSep (Finset.range 8) fun k => outF c f (loG c k false) 256) ∗ bigSep (Finset.range 8) fun k => outF c f (loG c k true) 256) := by
  have h0 : (((c : Thread nD τ).loc main_v1) ↦{fullShare} f : sProp 𝕄) = outF c f 0 (2048 * 8) := by unfold outF; rw [show 2048 * 8 = 16384 from rfl, rows_all]
  have h1 (k : ℕ) : outF c f (0 + 2048 * k) 2048 = iprop(outF c f (loQ k (tau c)) 512 ∗ outF c f (loQ k (tau (pa false c))) 512 ∗ outF c f (loQ k (tau (pa true c))) 512
      ∗ outF c f (loG c k false) 256 ∗ outF c f (loG c k true) 256) := by
    have h2 := outF_cut c f (0 + 2048 * k) 512 4
    rw [bigSep_eq_bigSepL_of_eq (quart c) (quart_range c) (quart_nodup c)] at h2
    rw [show (2048 : ℕ) = 512 * 4 from rfl, h2]
    show iprop(outF c f (0 + 2048 * k + 512 * tau c) 512 ∗ outF c f (0 + 2048 * k + 512 * tau (pa false c)) 512 ∗ outF c f (0 + 2048 * k + 512 * tau (pa true c)) 512
      ∗ outF c f (0 + 2048 * k + 512 * tau (dg c)) (256 + 256)) = _
    rw [outF_add, Nat.zero_add]
    rfl
  rw [h0, outF_cut, bigSep_congr fun k _ => h1 k]
  simp only [bigSep_sep']

/-! ## Families of duties -/

def famE (o : Op) : ℕ ↪ D := ⟨fun k => (k, o), fun _ _ e => (Prod.mk.inj e).1⟩
def famS : List (Op × ℕ) → Finset D
  | [] => ∅
  | p :: l => (Finset.Ico 0 p.2).map (famE p.1) ∪ famS l
def famP (Φ : D → sProp 𝕄) : List (Op × ℕ) → sProp 𝕄
  | [] => iprop(emp)
  | p :: l => iprop((bigSep (Finset.Ico 0 p.2) fun k => Φ (k, p.1)) ∗ famP Φ l)

theorem famS_op {l : List (Op × ℕ)} {d : D} (h : d ∈ famS l) : d.2 ∈ l.map Prod.fst := by
  induction l with
  | nil => exact absurd h (Finset.notMem_empty d)
  | cons p l ih =>
    rcases Finset.mem_union.mp h with h | h
    · obtain ⟨k, -, rfl⟩ := Finset.mem_map.mp h
      exact List.mem_cons_self
    · exact List.mem_cons_of_mem _ (ih h)
theorem fam_eq (Φ : D → sProp 𝕄) {l : List (Op × ℕ)} (h : (l.map Prod.fst).Nodup) : bigSep (famS l) Φ = famP Φ l := by
  induction l with
  | nil => exact BI.bigSep_empty
  | cons p l ih =>
    have h' := List.nodup_cons.mp h
    unfold famS famP
    rw [bigSep_union, ih h'.2, BI.bigSep_map]; · rfl
    rw [Finset.disjoint_left]
    intro d hd hd'
    obtain ⟨k, -, rfl⟩ := Finset.mem_map.mp hd
    exact h'.1 (famS_op hd')

def tokL : List (Op × ℕ) := [(.bx, 1), (.b false, 1), (.b true, 1), (.x, 8), (.xS, 8), (.f false, 8), (.f true, 8), (.fS false, 8), (.fS true, 8), (.stm, 8),
  (.g false, 8), (.g true, 8), (.gS false, 8), (.gS true, 8), (.st false, 8), (.st true, 8), (.xrd, 6), (.rd false, 6), (.rd true, 6), (.frd false, 5), (.frd true, 5)]
def crdL : List (Op × ℕ) := [(.bx, 1), (.b false, 1), (.b true, 1), (.x, 8), (.f false, 8), (.f true, 8), (.g false, 8), (.g true, 8),
  (.xrd, 6), (.rd false, 6), (.rd true, 6), (.frd false, 5), (.frd true, 5)]

/-! ## What a device starts with -/

def at0 (n : ℕ) : sProp 𝕄 := atPos ER (kcell c n) 0 ∅ 0
def WX (b : Option Bool) : sProp 𝕄 := bigSep (Finset.Ico 0 8) fun k => writeTok ES (pe c b, b, sp k) (k / 2 + 1)

def ats : sProp 𝕄 := bigSep (Finset.range 32) fun n => at0 c n
/-- Its positions, tokens, turns to write and to read, credits and the result. -/
def Start : sProp 𝕄 :=
  iprop(ats c ∗ bigSep (famS tokL) (tok c) ∗ (WX c none ∗ WX c (some false) ∗ WX c (some true))
    ∗ (reads2 c none ∗ reads2 c (some false) ∗ reads2 c (some true)) ∗ bigSep (famS crdL) (crd c) ∗ ∃ f, ((c : Thread nD τ).loc main_v1) ↦{fullShare} f)
/-- Its buffers. -/
def Scr : sProp 𝕄 := iprop((slots2 c none ∗ slots2 c (some false) ∗ slots2 c (some true)) ∗ slotSm c 0 ∗ slotSm c 1)

theorem range32 (Φ : ℕ → sProp 𝕄) : bigSep (Finset.range 32) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_eq_bigSepL_of_eq [0, 1, 2, 3, 4, 5, 6, 7, 8, 9, 10, 11, 12, 13, 14, 15, 16, 17, 18, 19, 20, 21, 22, 23, 24, 25, 26, 27, 28, 29, 30, 31] (by decide) (by decide) _

theorem posA_of (k : ℕ) (o : Op) (h : rnd k o = 0) : iprop(recs m K ιs ∗ at0 c (code k o)) ⊢ posA c k o := by
  unfold at0 posA
  iintro ⟨#HR, Ha⟩
  isplitl [Ha]
  · rw [h]; iexact Ha
  iapply (recs_reached m K ιs c k o h); iexact HR
theorem posP_of (o : Op) (h : rnd 0 o = 0) (h' : rnd 1 o = 0) : iprop(recs m K ιs ∗ at0 c (code 0 o) ∗ at0 c (code 1 o)) ⊢ posP c 0 o := by
  unfold posP
  iintro ⟨#HR, H0, H1⟩
  isplitl [H0]
  · iapply (posA_of m K ιs c 0 o h)
    isplitr; · iexact HR
    iexact H0
  iapply (posA_of m K ιs c 1 o h')
  isplitr; · iexact HR
  iexact H1
theorem credAt_of (o : Op) : at0 c (code 0 o) ⊢ credAt m c o 0 := by
  unfold at0 credAt
  iintro Ha
  iexists ∅
  rw [BI.bigSep_empty]
  isplitr; · ipureintro; exact ⟨Finset.empty_subset _, le_refl 0⟩
  isplitl; · iexact Ha
  iempintro

theorem ats_pos : iprop(recs m K ιs ∗ ats c)
    ⊢ iprop(posP c 0 .xS ∗ posP c 0 .x ∗ posP c 0 (.fS false) ∗ posP c 0 (.f false) ∗ posP c 0 (.gS false) ∗ posP c 0 (.g false) ∗ posP c 0 (.fS true) ∗ posP c 0 (.f true) ∗ posP c 0 (.gS true) ∗ posP c 0 (.g true) ∗ posP c 0 .stm ∗ posP c 0 (.st false) ∗ posP c 0 (.st true) ∗ credAt m c .xrd 0 ∗ credAt m c (.rd false) 0 ∗ credAt m c (.rd true) 0 ∗ credAt m c (.frd false) 0 ∗ credAt m c (.frd true) 0 ∗ atPos ER (cell c 0 .bx) 0 ∅ 0) := by
  unfold ats
  rw [range32]
  iintro ⟨#HR, H0, H1, H2, H3, H4, H5, H6, H7, H8, H9, H10, H11, H12, H13, H14, H15, H16, H17, H18, H19, H20, H21, H22, H23, H24, H25, H26, H27, H28, H29, H30, H31⟩
  isplitl [H0 H1]
  · iapply (posP_of m K ιs c .xS rfl rfl)
    isplitr; · iexact HR
    isplitl [H0]; · iexact H0
    iexact H1
  isplitl [H2 H3]
  · iapply (posP_of m K ιs c .x rfl rfl)
    isplitr; · iexact HR
    isplitl [H2]; · iexact H2
    iexact H3
  isplitl [H4 H5]
  · iapply (posP_of m K ιs c (.fS false) rfl rfl)
    isplitr; · iexact HR
    isplitl [H4]; · iexact H4
    iexact H5
  isplitl [H6 H7]
  · iapply (posP_of m K ιs c (.f false) rfl rfl)
    isplitr; · iexact HR
    isplitl [H6]; · iexact H6
    iexact H7
  isplitl [H13 H12]
  · iapply (posP_of m K ιs c (.gS false) rfl rfl)
    isplitr; · iexact HR
    isplitl [H13]; · iexact H13
    iexact H12
  isplitl [H15 H14]
  · iapply (posP_of m K ιs c (.g false) rfl rfl)
    isplitr; · iexact HR
    isplitl [H15]; · iexact H15
    iexact H14
  isplitl [H8 H9]
  · iapply (posP_of m K ιs c (.fS true) rfl rfl)
    isplitr; · iexact HR
    isplitl [H8]; · iexact H8
    iexact H9
  isplitl [H10 H11]
  · iapply (posP_of m K ιs c (.f true) rfl rfl)
    isplitr; · iexact HR
    isplitl [H10]; · iexact H10
    iexact H11
  isplitl [H17 H16]
  · iapply (posP_of m K ιs c (.gS true) rfl rfl)
    isplitr; · iexact HR
    isplitl [H17]; · iexact H17
    iexact H16
  isplitl [H19 H18]
  · iapply (posP_of m K ιs c (.g true) rfl rfl)
    isplitr; · iexact HR
    isplitl [H19]; · iexact H19
    iexact H18
  isplitl [H20 H21]
  · iapply (posP_of m K ιs c .stm rfl rfl)
    isplitr; · iexact HR
    isplitl [H20]; · iexact H20
    iexact H21
  isplitl [H22 H23]
  · iapply (posP_of m K ιs c (.st false) rfl rfl)
    isplitr; · iexact HR
    isplitl [H22]; · iexact H22
    iexact H23
  isplitl [H24 H25]
  · iapply (posP_of m K ιs c (.st true) rfl rfl)
    isplitr; · iexact HR
    isplitl [H24]; · iexact H24
    iexact H25
  isplitl [H26]
  · iapply (credAt_of m c .xrd); iexact H26
  isplitl [H27]
  · iapply (credAt_of m c (.rd false)); iexact H27
  isplitl [H28]
  · iapply (credAt_of m c (.rd true)); iexact H28
  isplitl [H29]
  · iapply (credAt_of m c (.frd false)); iexact H29
  isplitl [H30]
  · iapply (credAt_of m c (.frd true)); iexact H30
  ihave H := (Entails.of_eq (show at0 c 31 = (atPos ER (cell c 0 .bx) 0 ∅ 0 : sProp 𝕄) from rfl)) $$ H31
  iexact H

theorem out_start : iprop(∃ f, ((c : Thread nD τ).loc main_v1) ↦{fullShare} f)
    ⊢ (iprop((bigSep (Finset.Ico 0 8) fun k => outB c (loQ k (tau c)) 512) ∗ (bigSep (Finset.Ico 0 8) fun k => outB c (loQ k (tau (pa false c))) 512)
      ∗ (bigSep (Finset.Ico 0 8) fun k => outB c (loQ k (tau (pa true c))) 512) ∗ outD false c ∗ outD true c) : sProp 𝕄) := by
  have h (f : Buf (Elt F) ((c : Thread nD τ).loc main_v1)) (lo n : ℕ) : outF c f lo n ⊢ outB c lo n := by
    unfold outF outB
    iintro H
    iexists f
    iexact H
  have hm (f : Buf (Elt F) ((c : Thread nD τ).loc main_v1)) (lo : ℕ → ℕ) (n : ℕ) : (bigSep (Finset.range 8) fun k => outF c f (lo k) n) ⊢ (bigSep (Finset.range 8) fun k => outB c (lo k) n : sProp 𝕄) :=
    bigSep_mono fun k _ => h f (lo k) n
  unfold outD
  rw [← Finset.range_eq_Ico]
  iintro ⟨%f, H⟩
  ihave ⟨H1, H2, H3, H4, H5⟩ := (Entails.of_eq (out_eq c f)) $$ H
  isplitl [H1]; · iapply (hm f (fun k => loQ k (tau c)) 512); iexact H1
  isplitl [H2]; · iapply (hm f (fun k => loQ k (tau (pa false c))) 512); iexact H2
  isplitl [H3]; · iapply (hm f (fun k => loQ k (tau (pa true c))) 512); iexact H3
  isplitl [H4]; · iapply (hm f (fun k => loG c k false) 256); iexact H4
  iapply (hm f (fun k => loG c k true) 256); iexact H5

theorem toks_start : bigSep (famS tokL) (tok c) ⊢ (iprop(tok c (0, .bx) ∗ tok c (0, (.b false)) ∗ tok c (0, (.b true)) ∗ (bigSep (Finset.Ico 0 8) fun k => tok c (k, .x)) ∗ (bigSep (Finset.Ico 0 8) fun k => tok c (k, .xS)) ∗ (bigSep (Finset.Ico 0 8) fun k => tok c (k, (.f false))) ∗ (bigSep (Finset.Ico 0 8) fun k => tok c (k, (.f true))) ∗ (bigSep (Finset.Ico 0 8) fun k => tok c (k, (.fS false))) ∗ (bigSep (Finset.Ico 0 8) fun k => tok c (k, (.fS true))) ∗ (bigSep (Finset.Ico 0 8) fun k => tok c (k, .stm)) ∗ (bigSep (Finset.Ico 0 8) fun k => tok c (k, (.g false))) ∗ (bigSep (Finset.Ico 0 8) fun k => tok c (k, (.g true))) ∗ (bigSep (Finset.Ico 0 8) fun k => tok c (k, (.gS false))) ∗ (bigSep (Finset.Ico 0 8) fun k => tok c (k, (.gS true))) ∗ (bigSep (Finset.Ico 0 8) fun k => tok c (k, (.st false))) ∗ (bigSep (Finset.Ico 0 8) fun k => tok c (k, (.st true))) ∗ (bigSep (Finset.Ico 0 6) fun k => tok c (k, .xrd)) ∗ (bigSep (Finset.Ico 0 6) fun k => tok c (k, (.rd false))) ∗ (bigSep (Finset.Ico 0 6) fun k => tok c (k, (.rd true))) ∗ (bigSep (Finset.Ico 0 5) fun k => tok c (k, (.frd false))) ∗ (bigSep (Finset.Ico 0 5) fun k => tok c (k, (.frd true)))) : sProp 𝕄) := by
  rw [fam_eq _ (by decide)]
  simp only [tokL, famP, Nat.Ico_succ_singleton, show Finset.Ico 0 1 = ({0} : Finset ℕ) from rfl, BI.bigSep_singleton]
  iintro ⟨H0, H1, H2, H3, H4, H5, H6, H7, H8, H9, H10, H11, H12, H13, H14, H15, H16, H17, H18, H19, H20, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem crds_start : bigSep (famS crdL) (crd c) ⊢ (iprop(crd c (0, .bx) ∗ crd c (0, (.b false)) ∗ crd c (0, (.b true)) ∗ (bigSep (Finset.Ico 0 8) fun k => crd c (k, .x)) ∗ (bigSep (Finset.Ico 0 8) fun k => crd c (k, (.f false))) ∗ (bigSep (Finset.Ico 0 8) fun k => crd c (k, (.f true))) ∗ (bigSep (Finset.Ico 0 8) fun k => crd c (k, (.g false))) ∗ (bigSep (Finset.Ico 0 8) fun k => crd c (k, (.g true))) ∗ (bigSep (Finset.Ico 0 6) fun k => crd c (k, .xrd)) ∗ (bigSep (Finset.Ico 0 6) fun k => crd c (k, (.rd false))) ∗ (bigSep (Finset.Ico 0 6) fun k => crd c (k, (.rd true))) ∗ (bigSep (Finset.Ico 0 5) fun k => crd c (k, (.frd false))) ∗ (bigSep (Finset.Ico 0 5) fun k => crd c (k, (.frd true)))) : sProp 𝕄) := by
  rw [fam_eq _ (by decide)]
  simp only [crdL, famP, Nat.Ico_succ_singleton, show Finset.Ico 0 1 = ({0} : Finset ℕ) from rfl, BI.bigSep_singleton]
  iintro ⟨H0, H1, H2, H3, H4, H5, H6, H7, H8, H9, H10, H11, H12, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem zip3 {S : Finset ℕ} (A B C : ℕ → sProp 𝕄) : iprop(bigSep S A ∗ bigSep S B ∗ bigSep S C) ⊢ bigSep S fun k => iprop(A k ∗ B k ∗ C k) := by
  rw [bigSep_sep', bigSep_sep']
theorem zip2 {S : Finset ℕ} (A B : ℕ → sProp 𝕄) : iprop(bigSep S A ∗ bigSep S B) ⊢ bigSep S fun k => iprop(A k ∗ B k) := by
  rw [bigSep_sep']

/-- Before the first step, with its parts at zero. -/
def Inv0 : sProp 𝕄 :=
  iprop(Wt c .x 0 ∗ posP c 0 .xS ∗ TX c none 0 ∗ PK m c none 0 ∗ Rr c none 0 ∗ TP c .xrd 6 0 ∗ TF c 0 ∗ TXS c 0 ∗ PKS m c 0 ∗ TM c 0 ∗ TR c 0
    ∗ WF c 0 ∗ PA m c 0 ∗ TT c 0 ∗ PS c 0 ∗ (GS m c false 0 ∗ GS m c true 0) ∗ (((DS m c false 0 ∗ DS m c true 0) ∗ Rr c (some false) 0 ∗ Rr c (some true) 0)) ∗ PM c 0 ∗ PD c 0 0 ∗ FR c 0 2 ∗ DM m c 0)
theorem inv0_eq : Inv0 m c = Inv m c 0 := rfl

theorem pk_start (b : Option Bool) : iprop(credAt m c (permOp b) 0 ∗ (bigSep (Finset.Ico 0 6) fun k => crd c (k, permOp b)) ∗ rdy2 b (pe c b)) ⊢ PK m c b 0 := by
  have hr : bigSep (Finset.range (0 + 2)) (fun i => (rdy b (pe c b) i : sProp 𝕄)) = iprop(rdy b (pe c b) 0 ∗ rdy b (pe c b) 1) := by
    rw [Nat.zero_add, show Finset.range 2 = {0, 1} from rfl, bigSep_insert (by decide), BI.bigSep_singleton]; rfl
  unfold PK rdy2
  rw [hr]
theorem pf_start (a : Bool) : iprop(credAt m c (.frd a) 0 ∗ bigSep (Finset.Ico 0 5) fun k => crd c (k, .frd a)) ⊢ PF m c a 0 := by
  unfold PF
  rw [Finset.range_zero, BI.bigSep_empty]
  iintro ⟨H1, H2⟩
  isplitl [H1]; · iexact H1
  isplitl [H2]; · iexact H2
  iempintro
theorem gs_start (a : Bool) : iprop(posP c 0 (.g a) ∗ bigSep (Finset.Ico 0 8) fun k => crd c (k, .g a)) ⊢ GS m c a 0 := by
  unfold GS DG
  rw [if_pos (by omega), Nat.zero_min, Finset.range_zero, BI.bigSep_empty, BI.bigSep_empty]
  iintro ⟨H1, H2⟩
  isplitl [H1]
  · isplitl [H1]; · iexact H1
    iempintro
  isplitl [H2]; · iexact H2
  iempintro
theorem fr_two : bigSep (Finset.Ico 0 2) (fun k => (slotSm c k : sProp 𝕄)) = iprop(slotSm c 0 ∗ slotSm c 1) := by
  rw [show Finset.Ico 0 2 = {0, 1} from rfl, bigSep_insert (by decide), BI.bigSep_singleton]; rfl

/-- The handshake: from what a device starts with to what the first step needs. -/
theorem begin_run : iprop(recs m K ιs ∗ owesE c (later 0) ∗ Start c ∗ Scr c) ⊢ run c (bar c) fun _ => iprop(owesE c (l1 0) ∗ Inv m c 0 ∗ atPos ER (cell c 0 .bx) 1 ∅ 0) := by
  rw [← inv0_eq]
  unfold Start Scr WX
  iintro ⟨#HR, HO, ⟨Hat, Htk, ⟨wN, wF, wT⟩, ⟨Hr1, Hr2, Hr3⟩, Hcr, Hout⟩, ⟨Hs1, Hs2, Hs3⟩, m0, m1⟩
  imod (rel_both m K ιs c none) $$ [Hr1 Hs1] with ⟨RrN, #qx⟩
  · isplitr; · iexact HR
    isplitl [Hr1]; · iexact Hr1
    iexact Hs1
  imod (rel_both m K ιs c (some false)) $$ [Hr2 Hs2] with ⟨RrF, #qF⟩
  · isplitr; · iexact HR
    isplitl [Hr2]; · iexact Hr2
    iexact Hs2
  imod (rel_both m K ιs c (some true)) $$ [Hr3 Hs3] with ⟨RrT, #qT⟩
  · isplitr; · iexact HR
    isplitl [Hr3]; · iexact Hr3
    iexact Hs3
  ihave ⟨pxS, px, pfSF, pfF, pgSF, pgF, pfST, pfT, pgST, pgT, pstm, pstF, pstT, axrd, ardF, ardT, afrdF, afrdT, abar⟩ := (ats_pos m K ιs c) $$ [Hat]
  · isplitr; · iexact HR
    iexact Hat
  ihave ⟨tbx, tbF, tbT, tx, txS, tfF, tfT, tfSF, tfST, tm, tgF, tgT, tgSF, tgST, tstF, tstT, txrd, trdF, trdT, tfrdF, tfrdT⟩ := (toks_start c) $$ Htk
  ihave ⟨cbx, cbF, cbT, cx, cfF, cfT, cgF, cgT, cxrd, crdF, crdT, cfrdF, cfrdT⟩ := (crds_start c) $$ Hcr
  ihave ⟨oM, oF, oT, eF, eT⟩ := (out_start c) $$ Hout
  ihave HO' := (Entails.of_eq (congrArg (owesE (F := F) c) (show later 0 = (0, .bx) :: (0, .b false) :: (0, .b true) :: l1 0 from later_l1 (by decide)))) $$ HO
  iapply (wp_wand _ _ _) $$ [HO' tbx tbF tbT cbx cbF cbT abar eF eT]
  · iapply (bar_run m K ιs c (l := l1 0) (abv1 (by decide) (by decide)))
    unfold BS
    isplitr; · iexact HR
    isplitl [HO']; · iexact HO'
    isplitl [tbx tbF tbT cbx cbF cbT abar]
    · isplitl [tbx tbF tbT]; · isplitl [tbx]; · iexact tbx
                               isplitl [tbF]; · iexact tbF
                               iexact tbT
      isplitr [abar]; · isplitl [cbx]; · iexact cbx
                        isplitl [cbF]; · iexact cbF
                        iexact cbT
      iexact abar
    isplitr; · iexact qx
    isplitl [eF]
    · isplitr; · iexact qF
      iexact eF
    isplitr; · iexact qT
    iexact eT
  iintro %_ ⟨HO, Hb, #rx, ⟨#rF, dF⟩, #rT, dT⟩
  isplitl [HO]; · iexact HO
  isplitr [Hb]; swap; · iexact Hb
  unfold outD Inv0 Wt TF PKS TR TP WF Wt PA PS PM
  rw [Finset.range_eq_Ico]
  isplitl [px cx]
  · isplitl [px]; · iexact px
    iexact cx
  isplitl [pxS]
  · iexact pxS
  isplitl [tx txS wN]
  · unfold TX
    iapply (zip3 _ _ _)
    isplitl [tx]; · iexact tx
    isplitl [txS]; · iexact txS
    iexact wN
  isplitl [axrd cxrd]
  · iapply (pk_start m c none)
    isplitl [axrd]; · iexact axrd
    isplitl [cxrd]; · iexact cxrd
    iexact rx
  isplitl [RrN]
  · iexact RrN
  isplitl [txrd]
  · iexact txrd
  isplitl [tfrdF tfrdT]
  · isplitl [tfrdF]; · iexact tfrdF
    iexact tfrdT
  isplitl [tfF tfSF wF tfT tfST wT]
  · unfold TXS TX
    isplitl [tfF tfSF wF]
    · iapply (zip3 _ _ _)
      isplitl [tfF]; · iexact tfF
      isplitl [tfSF]; · iexact tfSF
      iexact wF
    iapply (zip3 _ _ _)
    isplitl [tfT]; · iexact tfT
    isplitl [tfST]; · iexact tfST
    iexact wT
  isplitl [ardF crdF ardT crdT]
  · isplitl [ardF crdF]
    · iapply (pk_start m c (some false))
      isplitl [ardF]; · iexact ardF
      isplitl [crdF]; · iexact crdF
      iexact rF
    iapply (pk_start m c (some true))
    isplitl [ardT]; · iexact ardT
    isplitl [crdT]; · iexact crdT
    iexact rT
  isplitl [tm oM]
  · unfold TM
    iapply (zip2 _ _)
    isplitl [tm]; · iexact tm
    iexact oM
  isplitl [trdF trdT]
  · isplitl [trdF]; · iexact trdF
    iexact trdT
  isplitl [pfF cfF pfT cfT]
  · isplitl [pfF cfF]
    · isplitl [pfF]; · iexact pfF
      iexact cfF
    isplitl [pfT]; · iexact pfT
    iexact cfT
  isplitl [afrdF cfrdF afrdT cfrdT]
  · isplitl [afrdF cfrdF]
    · iapply (pf_start m c false)
      isplitl [afrdF]; · iexact afrdF
      iexact cfrdF
    iapply (pf_start m c true)
    isplitl [afrdT]; · iexact afrdT
    iexact cfrdT
  isplitl [tgF tgSF dF tgT tgST dT tstF oF tstT oT]
  · unfold TT TG TS
    isplitl [tgF tgSF dF]
    · iapply (zip3 _ _ _)
      isplitl [tgF]; · iexact tgF
      isplitl [tgSF]; · iexact tgSF
      iexact dF
    isplitl [tgT tgST dT]
    · iapply (zip3 _ _ _)
      isplitl [tgT]; · iexact tgT
      isplitl [tgST]; · iexact tgST
      iexact dT
    isplitl [tstF oF]
    · iapply (zip2 _ _)
      isplitl [tstF]; · iexact tstF
      iexact oF
    iapply (zip2 _ _)
    isplitl [tstT]; · iexact tstT
    iexact oT
  isplitl [pgSF pgST pstF pstT]
  · isplitl [pgSF]; · iexact pgSF
    isplitl [pgST]; · iexact pgST
    isplitl [pstF]; · iexact pstF
    iexact pstT
  isplitl [pgF cgF pgT cgT]
  · isplitl [pgF cgF]
    · iapply (gs_start m c false)
      isplitl [pgF]; · iexact pgF
      iexact cgF
    iapply (gs_start m c true)
    isplitl [pgT]; · iexact pgT
    iexact cgT
  isplitl [RrF RrT]
  · unfold DS
    rw [Finset.range_zero, BI.bigSep_empty, BI.bigSep_empty]
    isplitr
    · isplitr <;> iempintro
    isplitl [RrF]; · iexact RrF
    iexact RrT
  isplitl [pfSF pfST pstm]
  · isplitl [pfSF]; · iexact pfSF
    isplitl [pfST]; · iexact pfST
    iexact pstm
  isplitr
  · unfold PD; rw [Finset.Ico_self, BI.bigSep_empty]; iempintro
  isplitl [m0 m1]
  · unfold FR
    ihave H := (Entails.of_eq (fr_two c).symm) $$ [m0 m1]
    · isplitl [m0]; · iexact m0
      iexact m1
    iexact H
  unfold DM; rw [Finset.range_zero, BI.bigSep_empty]; iempintro

end Cert.AR

end
-- ==== Proof.Close.lean ====
/-
  The end: the semaphores given back, the result and the buffers put together.
-/
module

public import proofs.«01_k».proof.Proof.Init

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

/-! ## The cells closed -/

/-- A cell at its last round. -/
def end0 (n : ℕ) : sProp 𝕄 := atPos ER (kcell c n) (rend n) ∅ 0

theorem close_one (n : ℕ) (h : n < 32) : iprop(recs m K ιs ∗ end0 c n) ⊢ |={Set.univ}=> (semVal (kcell c n) 0 : sProp 𝕄) := by
  unfold end0
  iintro ⟨#HR, Ha⟩
  ihave #HI := (recs_inv' m K ιs c ⟨n, h⟩) $$ HR
  iapply (Rounds.cell_close ER (Rd m) (Set.mem_univ (K (c, ⟨n, h⟩))) (fun h => h) (R := rend n) (fun r hr => duties_later m c h r hr))
  isplitr; · iexact HI
  iexact Ha

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_all : iprop(recs m K ιs ∗ bigSep (Finset.range 32) (end0 c)) ⊢ |={Set.univ}=> (bigSep (Finset.range 32) fun n => semVal (kcell c n) 0 : sProp 𝕄) :=
  (with_persistent fun n hn => close_one m K ιs c n (Finset.mem_range.mp hn)).trans (bigSep_fupd _ _)

theorem end_pos (o : Op) (h : rnd 8 o = rend (code 8 o)) (h' : rnd 9 o = rend (code 9 o)) : posP c 8 o ⊢ (iprop(end0 c (code 8 o) ∗ end0 c (code 9 o)) : sProp 𝕄) := by
  unfold posP posA end0
  rw [← h, ← h']
  iintro ⟨⟨H1, -⟩, H2, -⟩
  isplitl [H1]; · iexact H1
  iexact H2
theorem end_g (a : Bool) : iprop(posA c 8 (.g a) ∗ atPos ER (cell c 5 (.g a)) 3 ∅ 0) ⊢ (iprop(end0 c (code 8 (.g a)) ∗ end0 c (code 5 (.g a))) : sProp 𝕄) := by
  unfold posA end0
  rw [show rend (code 8 (.g a)) = rnd 8 (.g a) by cases a <;> rfl, show rend (code 5 (.g a)) = 3 by cases a <;> rfl]
  iintro ⟨⟨H1, -⟩, H2⟩
  isplitl [H1]; · iexact H1
  iexact H2

theorem end_perm (o : Op) (ho : isPerm o = true) (n : ℕ) (hn : (dutyL (code 0 o) 0).toFinset.card = n) :
    iprop(recs m K ιs ∗ credAt m c o n) ⊢ |={Set.univ}=> (end0 c (code 0 o) : sProp 𝕄) := by
  have hcard : ((Rd m).duties (cell c 0 o) 0).card = n := by rw [duties_kcell m c (code_lt 0 o), hn]
  unfold credAt end0
  iintro ⟨#HR, %T, %hT, Ha, -⟩
  ihave #HI := (recs_inv m K ιs c 0 o) $$ HR
  have hTd : (Rd m).duties (cell c 0 o) 0 ⊆ T := by
    rw [Finset.eq_of_subset_of_card_le hT.1 (by rw [hcard]; exact hT.2)]
  imod (Rounds.fupd_skip ER (Rd m) (κ := K (c, ⟨code 0 o, code_lt 0 o⟩)) (g := cell c 0 o) (R := 0) (m := n) hTd (by rw [perm_expect m ho c, hcard]) (Set.mem_univ _)) $$ [Ha] with ⟨Ha, -⟩
  · isplitr; · iexact HI
    iexact Ha
  imodintro
  rw [show rend (code 0 o) = 0 + 1 by cases o <;> first | rfl | (rename_i a; cases a <;> first | rfl | simp [isPerm] at ho) | simp [isPerm] at ho]
  iexact Ha

theorem ends_all : iprop(recs m K ιs ∗ posP c 8 .xS ∗ posP c 8 .x ∗ posP c 8 (.fS false) ∗ posP c 8 (.f false) ∗ posP c 8 (.gS false) ∗ posP c 8 (.fS true) ∗ posP c 8 (.f true) ∗ posP c 8 (.gS true) ∗ posP c 8 .stm ∗ posP c 8 (.st false) ∗ posP c 8 (.st true) ∗ (posA c 8 (.g false) ∗ atPos ER (cell c 5 (.g false)) 3 ∅ 0) ∗ (posA c 8 (.g true) ∗ atPos ER (cell c 5 (.g true)) 3 ∅ 0) ∗ credAt m c .xrd 6 ∗ credAt m c (.rd false) 6 ∗ credAt m c (.rd true) 6 ∗ credAt m c (.frd false) 5 ∗ credAt m c (.frd true) 5 ∗ atPos ER (cell c 0 .bx) 1 ∅ 0)
    ⊢ |={Set.univ}=> (bigSep (Finset.range 32) fun n => semVal (kcell c n) 0 : sProp 𝕄) := by
  iintro ⟨#HR, pxS, px, pfSF, pfF, pgSF, pfST, pfT, pgST, pstm, pstF, pstT, pgF, pgT, q26, q27, q28, q29, q30, H31⟩
  ihave ⟨H0, H1⟩ := (end_pos c .xS rfl rfl) $$ pxS
  ihave ⟨H2, H3⟩ := (end_pos c .x rfl rfl) $$ px
  ihave ⟨H4, H5⟩ := (end_pos c (.fS false) rfl rfl) $$ pfSF
  ihave ⟨H6, H7⟩ := (end_pos c (.f false) rfl rfl) $$ pfF
  ihave ⟨H13, H12⟩ := (end_pos c (.gS false) rfl rfl) $$ pgSF
  ihave ⟨H8, H9⟩ := (end_pos c (.fS true) rfl rfl) $$ pfST
  ihave ⟨H10, H11⟩ := (end_pos c (.f true) rfl rfl) $$ pfT
  ihave ⟨H17, H16⟩ := (end_pos c (.gS true) rfl rfl) $$ pgST
  ihave ⟨H20, H21⟩ := (end_pos c .stm rfl rfl) $$ pstm
  ihave ⟨H22, H23⟩ := (end_pos c (.st false) rfl rfl) $$ pstF
  ihave ⟨H24, H25⟩ := (end_pos c (.st true) rfl rfl) $$ pstT
  ihave ⟨H15, H14⟩ := (end_g c false) $$ pgF
  ihave ⟨H19, H18⟩ := (end_g c true) $$ pgT
  imod (end_perm m K ιs c .xrd rfl 6 (by decide +kernel)) $$ [q26] with H26
  · isplitr; · iexact HR
    iexact q26
  imod (end_perm m K ιs c (.rd false) rfl 6 (by decide +kernel)) $$ [q27] with H27
  · isplitr; · iexact HR
    iexact q27
  imod (end_perm m K ιs c (.rd true) rfl 6 (by decide +kernel)) $$ [q28] with H28
  · isplitr; · iexact HR
    iexact q28
  imod (end_perm m K ιs c (.frd false) rfl 5 (by decide +kernel)) $$ [q29] with H29
  · isplitr; · iexact HR
    iexact q29
  imod (end_perm m K ιs c (.frd true) rfl 5 (by decide +kernel)) $$ [q30] with H30
  · isplitr; · iexact HR
    iexact q30
  iapply (close_all m K ιs c)
  rw [range32]
  isplitr; · iexact HR
  isplitl [H0]; · ihave H := (Entails.of_eq (show end0 c (code 8 .xS) = (end0 c 0 : sProp 𝕄) from rfl)) $$ H0; iexact H
  isplitl [H1]; · ihave H := (Entails.of_eq (show end0 c (code 9 .xS) = (end0 c 1 : sProp 𝕄) from rfl)) $$ H1; iexact H
  isplitl [H2]; · ihave H := (Entails.of_eq (show end0 c (code 8 .x) = (end0 c 2 : sProp 𝕄) from rfl)) $$ H2; iexact H
  isplitl [H3]; · ihave H := (Entails.of_eq (show end0 c (code 9 .x) = (end0 c 3 : sProp 𝕄) from rfl)) $$ H3; iexact H
  isplitl [H4]; · ihave H := (Entails.of_eq (show end0 c (code 8 (.fS false)) = (end0 c 4 : sProp 𝕄) from rfl)) $$ H4; iexact H
  isplitl [H5]; · ihave H := (Entails.of_eq (show end0 c (code 9 (.fS false)) = (end0 c 5 : sProp 𝕄) from rfl)) $$ H5; iexact H
  isplitl [H6]; · ihave H := (Entails.of_eq (show end0 c (code 8 (.f false)) = (end0 c 6 : sProp 𝕄) from rfl)) $$ H6; iexact H
  isplitl [H7]; · ihave H := (Entails.of_eq (show end0 c (code 9 (.f false)) = (end0 c 7 : sProp 𝕄) from rfl)) $$ H7; iexact H
  isplitl [H8]; · ihave H := (Entails.of_eq (show end0 c (code 8 (.fS true)) = (end0 c 8 : sProp 𝕄) from rfl)) $$ H8; iexact H
  isplitl [H9]; · ihave H := (Entails.of_eq (show end0 c (code 9 (.fS true)) = (end0 c 9 : sProp 𝕄) from rfl)) $$ H9; iexact H
  isplitl [H10]; · ihave H := (Entails.of_eq (show end0 c (code 8 (.f true)) = (end0 c 10 : sProp 𝕄) from rfl)) $$ H10; iexact H
  isplitl [H11]; · ihave H := (Entails.of_eq (show end0 c (code 9 (.f true)) = (end0 c 11 : sProp 𝕄) from rfl)) $$ H11; iexact H
  isplitl [H12]; · ihave H := (Entails.of_eq (show end0 c (code 9 (.gS false)) = (end0 c 12 : sProp 𝕄) from rfl)) $$ H12; iexact H
  isplitl [H13]; · ihave H := (Entails.of_eq (show end0 c (code 8 (.gS false)) = (end0 c 13 : sProp 𝕄) from rfl)) $$ H13; iexact H
  isplitl [H14]; · ihave H := (Entails.of_eq (show end0 c (code 5 (.g false)) = (end0 c 14 : sProp 𝕄) from rfl)) $$ H14; iexact H
  isplitl [H15]; · ihave H := (Entails.of_eq (show end0 c (code 8 (.g false)) = (end0 c 15 : sProp 𝕄) from rfl)) $$ H15; iexact H
  isplitl [H16]; · ihave H := (Entails.of_eq (show end0 c (code 9 (.gS true)) = (end0 c 16 : sProp 𝕄) from rfl)) $$ H16; iexact H
  isplitl [H17]; · ihave H := (Entails.of_eq (show end0 c (code 8 (.gS true)) = (end0 c 17 : sProp 𝕄) from rfl)) $$ H17; iexact H
  isplitl [H18]; · ihave H := (Entails.of_eq (show end0 c (code 5 (.g true)) = (end0 c 18 : sProp 𝕄) from rfl)) $$ H18; iexact H
  isplitl [H19]; · ihave H := (Entails.of_eq (show end0 c (code 8 (.g true)) = (end0 c 19 : sProp 𝕄) from rfl)) $$ H19; iexact H
  isplitl [H20]; · ihave H := (Entails.of_eq (show end0 c (code 8 .stm) = (end0 c 20 : sProp 𝕄) from rfl)) $$ H20; iexact H
  isplitl [H21]; · ihave H := (Entails.of_eq (show end0 c (code 9 .stm) = (end0 c 21 : sProp 𝕄) from rfl)) $$ H21; iexact H
  isplitl [H22]; · ihave H := (Entails.of_eq (show end0 c (code 8 (.st false)) = (end0 c 22 : sProp 𝕄) from rfl)) $$ H22; iexact H
  isplitl [H23]; · ihave H := (Entails.of_eq (show end0 c (code 9 (.st false)) = (end0 c 23 : sProp 𝕄) from rfl)) $$ H23; iexact H
  isplitl [H24]; · ihave H := (Entails.of_eq (show end0 c (code 8 (.st true)) = (end0 c 24 : sProp 𝕄) from rfl)) $$ H24; iexact H
  isplitl [H25]; · ihave H := (Entails.of_eq (show end0 c (code 9 (.st true)) = (end0 c 25 : sProp 𝕄) from rfl)) $$ H25; iexact H
  isplitl [H26]; · ihave H := (Entails.of_eq (show end0 c (code 0 .xrd) = (end0 c 26 : sProp 𝕄) from rfl)) $$ H26; iexact H
  isplitl [H27]; · ihave H := (Entails.of_eq (show end0 c (code 0 (.rd false)) = (end0 c 27 : sProp 𝕄) from rfl)) $$ H27; iexact H
  isplitl [H28]; · ihave H := (Entails.of_eq (show end0 c (code 0 (.rd true)) = (end0 c 28 : sProp 𝕄) from rfl)) $$ H28; iexact H
  isplitl [H29]; · ihave H := (Entails.of_eq (show end0 c (code 0 (.frd false)) = (end0 c 29 : sProp 𝕄) from rfl)) $$ H29; iexact H
  isplitl [H30]; · ihave H := (Entails.of_eq (show end0 c (code 0 (.frd true)) = (end0 c 30 : sProp 𝕄) from rfl)) $$ H30; iexact H
  ihave H := (Entails.of_eq (show atPos ER (cell c 0 .bx) 1 ∅ 0 = (end0 c 31 : sProp 𝕄) from rfl)) $$ H31; iexact H

/-! ## What is held at the end -/

theorem rr_end (b : Option Bool) : Rr c b 8 ⊢ (slots2 c b : sProp 𝕄) := by
  have hr : bigSep (Finset.Ico 6 8) (fun k => (slotAny (c, b, sp k) : sProp 𝕄)) = iprop(slotAny (c, b, sp 6) ∗ slotAny (c, b, sp 7)) := by
    rw [show Finset.Ico 6 8 = {6, 7} from rfl, bigSep_insert (by decide), BI.bigSep_singleton]; rfl
  unfold Rr slots2
  rw [hr]
  have h : iprop(slotAny (F := F) (c, b, sp 6) ∗ slotAny (c, b, sp 7)) ⊢ iprop(slotAny (F := F) (c, b, sp 0) ∗ slotAny (c, b, sp 1)) := Entails.of_eq rfl
  iintro ⟨-, H, -⟩
  iapply h
  iexact H

theorem out_end : iprop(DM m c 8 ∗ DS m c false 8 ∗ DS m c true 8 ∗ DG m c false 8 ∗ DG m c true 8) ⊢ (((c : Thread nD τ).loc main_v1) ↦{fullShare} G m c : sProp 𝕄) :=
  Entails.of_eq (out_eq c (G m c)).symm

/-- Every semaphore at zero, the result, the buffers. -/
def Done : sProp 𝕄 := iprop((bigSep (Finset.range 32) fun n => semVal (kcell c n) 0) ∗ (((c : Thread nD τ).loc main_v1) ↦{fullShare} G m c) ∗ Scr c)

theorem finish : iprop(recs m K ιs ∗ Inv m c 8 ∗ atPos ER (cell c 0 .bx) 1 ∅ 0) ⊢ |={Set.univ}=> (Done m c : sProp 𝕄) := by
  have he : EX8 m c 8 = iprop(WF c 8 ∗ PA m c 5 ∗ TT c 8 ∗ PS c 8 ∗ GEs m c ∗ DR m c 8 ∗ SE m c) := rfl
  unfold Inv
  rw [he]
  unfold Wt WF Wt PKS PK PA PF PS GEs GE DR SE PM
  iintro ⟨#HR, ⟨⟨px, -⟩, pxS, -, ⟨q26, -⟩, RrN, -, -, -, ⟨⟨q27, -⟩, q28, -⟩, -, -, ⟨⟨pfF, -⟩, pfT, -⟩, ⟨⟨q29, -⟩, q30, -⟩, -, ⟨pgSF, pgST, pstF, pstT⟩,
    ⟨⟨pgF, pgF', dgF⟩, pgT, pgT', dgT⟩, ⟨⟨dsF, dsT⟩, RrF, RrT⟩, ⟨pfSF, pfST, pstm⟩, ⟨m0, m1⟩, dm⟩, H31⟩
  imod (ends_all m K ιs c) $$ [pxS px pfSF pfF pgSF pfST pfT pgST pstm pstF pstT pgF pgF' pgT pgT' q26 q27 q28 q29 q30 H31] with Hz
  · isplitr; · iexact HR
    isplitl [pxS]; · iexact pxS
    isplitl [px]; · iexact px
    isplitl [pfSF]; · iexact pfSF
    isplitl [pfF]; · iexact pfF
    isplitl [pgSF]; · iexact pgSF
    isplitl [pfST]; · iexact pfST
    isplitl [pfT]; · iexact pfT
    isplitl [pgST]; · iexact pgST
    isplitl [pstm]; · iexact pstm
    isplitl [pstF]; · iexact pstF
    isplitl [pstT]; · iexact pstT
    isplitl [pgF pgF']
    · isplitl [pgF]; · iexact pgF
      iexact pgF'
    isplitl [pgT pgT']
    · isplitl [pgT]; · iexact pgT
      iexact pgT'
    isplitl [q26]; · ihave H := (Entails.of_eq (show credAt m c (permOp none) (8 - 2) = credAt m c .xrd 6 from rfl)) $$ q26; iexact H
    isplitl [q27]; · ihave H := (Entails.of_eq (show credAt m c (permOp (some false)) (8 - 2) = credAt m c (.rd false) 6 from rfl)) $$ q27; iexact H
    isplitl [q28]; · ihave H := (Entails.of_eq (show credAt m c (permOp (some true)) (8 - 2) = credAt m c (.rd true) 6 from rfl)) $$ q28; iexact H
    isplitl [q29]; · ihave H := (Entails.of_eq (show credAt m c (.frd false) 5 = credAt m c (.frd false) 5 from rfl)) $$ q29; iexact H
    isplitl [q30]; · ihave H := (Entails.of_eq (show credAt m c (.frd true) 5 = credAt m c (.frd true) 5 from rfl)) $$ q30; iexact H
    iexact H31
  imodintro
  unfold Done Scr
  isplitl [Hz]; · iexact Hz
  isplitl [dm dsF dsT dgF dgT]
  · iapply (out_end m c)
    isplitl [dm]; · iexact dm
    isplitl [dsF]; · iexact dsF
    isplitl [dsT]; · iexact dsT
    isplitl [dgF]; · iexact dgF
    iexact dgT
  isplitr [m0 m1]
  · isplitl [RrN]; · iapply (rr_end c none); iexact RrN
    isplitl [RrF]; · iapply (rr_end c (some false)); iexact RrF
    iapply (rr_end c (some true)); iexact RrT
  isplitl [m0]
  · ihave H := (Entails.of_eq (show slotSm c 6 = (slotSm c 0 : sProp 𝕄) from rfl)) $$ m0; iexact H
  ihave H := (Entails.of_eq (show slotSm c 7 = (slotSm c 1 : sProp 𝕄) from rfl)) $$ m1; iexact H

end Cert.AR

end
-- ==== Proof.Body.lean ====
/-
  A step's body, and what the pipeline runs it with.
-/
module

public import proofs.«01_k».proof.Proof.Close

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

variable (ρ : Dev nD → PrngReg)

/-! ## The two-slot buffers -/

theorem sl_set (M : V3) (s : Fin 2) : (sl M s).view.set = (slr s).set.map M.view.emb := by
  show ((M.view.slice (slr s)).reshape _ _).set = _
  rw [View.set_reshape, View.set_slice]
theorem slr_mem (s : Fin 2) (i : S2x512x1024.Idx) : i ∈ (slr s).set ↔ (i 0).val = s.val := by
  have h0 : (i 0).val < 2 := (i 0).isLt
  have h1 : (i 1).val < 512 := (i 1).isLt
  have h2 : (i 2).val < 1024 := (i 2).isLt
  rw [Rect.mem_set_unit]
  constructor
  · intro h
    have h3 : s.val ≤ (i 0).val ∧ (i 0).val < s.val + 1 := h 0
    omega
  · intro h a
    match a with
    | 0 => exact ⟨h.ge, by show (i 0).val < s.val + 1; omega⟩
    | 1 => exact ⟨Nat.zero_le _, by show (i 1).val < 0 + 512; omega⟩
    | 2 => exact ⟨Nat.zero_le _, by show (i 2).val < 0 + 1024; omega⟩
theorem sl_disj (M : V3) : Disjoint (sl M 0).view.set (sl M 1).view.set := by
  rw [sl_set, sl_set, Finset.disjoint_map, Finset.disjoint_left]
  intro i h h'
  rw [slr_mem] at h h'
  rw [h] at h'; exact absurd h' (by decide)
theorem sl_union (M : V3) : (sl M 0).view.set ∪ (sl M 1).view.set = M.view.set := by
  rw [sl_set, sl_set, ← Finset.map_union, show (slr 0).set ∪ (slr 1).set = Finset.univ from ?_]; · rfl
  ext i
  have h0 : (i 0).val < 2 := (i 0).isLt
  rw [Finset.mem_union, slr_mem, slr_mem]
  refine ⟨fun _ => Finset.mem_univ _, fun _ => ?_⟩
  show (i 0).val = 0 ∨ (i 0).val = 1
  omega

def bufA (M : V3) (I : Finset (Idx (M.view.loc (c : Thread nD τ)))) : sProp 𝕄 := iprop(∃ f, M.view.loc (c : Thread nD τ) ↦[I]{fullShare} f)

theorem buf_split (M : V3) (hM : M.view.set = Finset.univ) : bufA c M Finset.univ ⊢ (iprop(bufA c M (sl M 0).view.set ∗ bufA c M (sl M 1).view.set) : sProp 𝕄) := by
  unfold bufA
  rw [← hM, ← sl_union]
  iintro ⟨%f, H⟩
  have e : _ ⊣⊢ (_ : sProp 𝕄) := pointsTo_union (ℓ := M.view.loc (c : Thread nD τ)) (q := fullShare) (f := f) (sl_disj M)
  ihave ⟨H1, H2⟩ := e.1 $$ H
  isplitl [H1]
  · iexists f; iexact H1
  iexists f; iexact H2
theorem buf_join (M : V3) (hM : M.view.set = Finset.univ) : iprop(bufA c M (sl M 0).view.set ∗ bufA c M (sl M 1).view.set) ⊢ (bufA c M Finset.univ : sProp 𝕄) := by
  unfold bufA
  rw [← hM, ← sl_union]
  iintro ⟨⟨%f, H1⟩, %g, H2⟩
  iexists _
  iapply (pointsTo_join (ℓ := M.view.loc (c : Thread nD τ)) (q := fullShare) (f := f) (g := g) (sl_disj M))
  isplitl [H1]; · iexact H1
  iexact H2

theorem scr_in : (Pipeline.scopedRest (Ix := ℕ) (Name := ℕ) (U := UU) (Lvl := ℕ) (Val := Elt F) spec0 c : sProp 𝕄) ⊢ Scr c := by
  rw [scopedRest0_eq]
  unfold Scr
  have h0 := buf_split (F := F) c xcM (View.set_whole _)
  have h1 := buf_split (F := F) c smM (View.set_whole _)
  have h2 := buf_split (F := F) c (inM false) (View.set_whole _)
  have h3 := buf_split (F := F) c (inM true) (View.set_whole _)
  iintro ⟨H0, H1, H2, H3⟩
  ihave ⟨A0, B0⟩ := h0 $$ [H0]
  · unfold bufA; iexact H0
  ihave ⟨A1, B1⟩ := h1 $$ [H1]
  · unfold bufA; iexact H1
  ihave ⟨A2, B2⟩ := h2 $$ [H2]
  · unfold bufA; iexact H2
  ihave ⟨A3, B3⟩ := h3 $$ [H3]
  · unfold bufA; iexact H3
  iapply (Entails.of_eq (show iprop(((bufA c xcM (sl xcM 0).view.set ∗ bufA c xcM (sl xcM 1).view.set) ∗ (bufA c (inM false) (sl (inM false) 0).view.set ∗ bufA c (inM false) (sl (inM false) 1).view.set)
    ∗ (bufA c (inM true) (sl (inM true) 0).view.set ∗ bufA c (inM true) (sl (inM true) 1).view.set)) ∗ bufA c smM (sl smM 0).view.set ∗ bufA c smM (sl smM 1).view.set)
    = (iprop((slots2 c none ∗ slots2 c (some false) ∗ slots2 c (some true)) ∗ slotSm c 0 ∗ slotSm c 1) : sProp 𝕄) from rfl))
  isplitl [A0 B0 A2 B2 A3 B3]
  · isplitl [A0 B0]
    · isplitl [A0]; · iexact A0
      iexact B0
    isplitl [A2 B2]
    · isplitl [A2]; · iexact A2
      iexact B2
    isplitl [A3]; · iexact A3
    iexact B3
  isplitl [A1]; · iexact A1
  iexact B1

theorem scr_out : Scr c ⊢ (Pipeline.scopedRest (Ix := ℕ) (Name := ℕ) (U := UU) (Lvl := ℕ) (Val := Elt F) spec0 c : sProp 𝕄) := by
  rw [scopedRest0_eq]
  have h0 := buf_join (F := F) c xcM (View.set_whole _)
  have h1 := buf_join (F := F) c smM (View.set_whole _)
  have h2 := buf_join (F := F) c (inM false) (View.set_whole _)
  have h3 := buf_join (F := F) c (inM true) (View.set_whole _)
  rw [show Scr c = (iprop(((bufA c xcM (sl xcM 0).view.set ∗ bufA c xcM (sl xcM 1).view.set) ∗ (bufA c (inM false) (sl (inM false) 0).view.set ∗ bufA c (inM false) (sl (inM false) 1).view.set)
    ∗ (bufA c (inM true) (sl (inM true) 0).view.set ∗ bufA c (inM true) (sl (inM true) 1).view.set)) ∗ bufA c smM (sl smM 0).view.set ∗ bufA c smM (sl smM 1).view.set) : sProp 𝕄) from rfl]
  iintro ⟨⟨H0, H2, H3⟩, H1⟩
  ihave A0 := h0 $$ H0
  ihave A1 := h1 $$ H1
  ihave A2 := h2 $$ H2
  ihave A3 := h3 $$ H3
  unfold bufA
  isplitl [A0]; · iexact A0
  isplitl [A1]; · iexact A1
  isplitl [A2]; · iexact A2
  iexact A3

/-! ## The pipeline's proof data -/

/-- What holds between the steps. -/
def Φs (n : ℕ) : sProp 𝕄 :=
  if n = 8 then Done m c
  else iprop(∃ K ιs, recs m K ιs ∗ if n = 0 then iprop(Start c ∗ Scr c) else iprop(Inv m c n ∗ atPos ER (cell c 0 .bx) 1 ∅ 0))

def dats (_ : Fin 1) (c : Dev nD) : Pipeline.Dat τ (Elt F) ℕ ℕ UU ℕ cfg0 c where
  A w := (s₀ m ρ).mem ((cfg0.win w).arr.view.loc (c : Thread nD τ))
  after w t := match w with
    | ⟨0, _⟩ => blk m c t.val
  Φ t := Φs m c t.val
  q _ := fullShare
  owed t := owe c (later t.val)

theorem index_0 : ∀ t : Fin cfg0.N, (cfg0.win (0 : Fin 1)).index t (0 : Fin 2) = t.val := by decide +kernel
theorem index_1 (t : Fin cfg0.N) : (cfg0.win (0 : Fin 1)).index t (1 : Fin 2) = 0 := rfl

theorem before_blk (t : Fin cfg0.N) (d) : (dats m ρ 0 c).before (0 : Fin 1) t d = blk m c t.val := by
  unfold Pipeline.Dat.before
  rw [if_pos (fetch0_0 t)]
  show ((cfg0.win (0 : Fin 1)).blk t).view.read (Elt F) (m ((c : Thread nD τ).loc main_arg0)) = blk m c t.val
  funext x
  have ht : t.val < 8 := t.isLt
  have hx : (x (0 : Fin 2)).val < 2048 := (x (0 : Fin 2)).isLt
  have h0 : ((((cfg0.win (0 : Fin 1)).rect t).emb x (0 : Fin 2)).val : ℕ) = (2048 * t.val + (x (0 : Fin 2)).val) % 16384 := by
    refine (Pipeline.Window.rect_emb_val (cfg0.win (0 : Fin 1)) t x (0 : Fin 2)).trans ?_
    rw [index_0, Nat.mod_eq_of_lt (by omega)]
    show t.val * 2048 + _ = _
    rw [Nat.mul_comm]
  have h1 : ((((cfg0.win (0 : Fin 1)).rect t).emb x (1 : Fin 2)).val : ℕ) = (x (1 : Fin 2)).val :=
    Pipeline.Window.rect_emb_val_of_index_zero (cfg0.win (0 : Fin 1)) t (1 : Fin 2) (index_1 t) x
  unfold blk
  refine congrArg (m ((c : Thread nD τ).loc main_arg0) : S16384x1024.Idx → Elt F .f32) (funext fun a => Fin.ext ?_)
  match a with
  | 0 => exact h0
  | 1 => exact h1

theorem owns_hold {sp : Space} {s : Shape} (M : Memref sig .tc sp s .f32) (w : s.Idx → Elt F .f32) :
    (owns (Ix := ℕ) (Name := ℕ) (U := UU) (Lvl := ℕ) (c : Thread nD τ) M fullShare w : sProp 𝕄) = hold m c M fullShare w := by
  have h1 : owns (Ix := ℕ) (Name := ℕ) (U := UU) (Lvl := ℕ) (c : Thread nD τ) M fullShare w ⊢ (hold m c M fullShare w : sProp 𝕄) := by
    unfold owns
    iintro ⟨%f, %hf, H⟩
    ihave H' := (Entails.of_eq (pts_write (q := fullShare) (m (M.view.loc (c : Thread nD τ))) f hf).symm) $$ H
    unfold hold holdI cont
    iexact H'
  have h2 : (hold m c M fullShare w : sProp 𝕄) ⊢ owns (Ix := ℕ) (Name := ℕ) (U := UU) (Lvl := ℕ) (c : Thread nD τ) M fullShare w := by
    unfold owns hold holdI
    iintro H
    iexists _
    isplitr; · ipureintro; exact read_cont m c M w
    iexact H
  exact h1.antisymm h2

theorem lt8 (t : Fin cfg0.N) : t.val < 8 := t.isLt

theorem step_from {j : ℕ} (hj : j < 8) (K : Dev nD × Fin 32 → ℕ) (ιs : Key → ℕ) :
    iprop(recs m K ιs ∗ owesE c (l1 j) ∗ (Inv m c j ∗ atPos ER (cell c 0 .bx) 1 ∅ 0) ∗ hold m c (stM (sp j)) fullShare (blk m c j))
      ⊢ run c (step (F := F) c j hj) fun _ => iprop(Φs m c (j + 1) ∗ owesE c (later (j + 1)) ∗ hold m c (stM (sp j)) fullShare (blk m c j)) := by
  have h := step_run m K ιs c hj
  iintro ⟨#HR, HO, ⟨HI, HX⟩, HB⟩
  iapply (wp_fupd _ _ _)
  ihave Hw := h $$ [HO HI HB]
  · isplitr; · iexact HR
    isplitl [HO]; · iexact HO
    isplitl [HI]; · iexact HI
    iexact HB
  ihave Hw' := (Entails.of_eq (run.eq_1 c (step (F := F) c j hj) _)) $$ Hw
  iapply (wp_wand _ _ _) $$ Hw'
  iintro %_ ⟨HO, HI, HB⟩
  unfold Φs
  by_cases h8 : j + 1 = 8
  · rw [if_pos h8, h8]
    imod (finish m K ιs c) $$ [HI HX] with HD
    · isplitr; · iexact HR
      isplitl [HI]; · iexact HI
      iexact HX
    imodintro
    isplitl [HD]; · iexact HD
    isplitl [HO]; · iexact HO
    iexact HB
  rw [if_neg h8]
  imodintro
  isplitl [HI HX]
  · iexists K; iexists ιs
    isplitr; · iexact HR
    rw [if_neg (by omega)]
    isplitl [HI]; · iexact HI
    iexact HX
  isplitl [HO]; · iexact HO
  iexact HB

/-- A step's body, from what holds before it to what holds after it. -/
theorem body_run (t : Fin cfg0.N) :
    iprop(Φs m c t.val ∗ owesE c (later t.val) ∗ hold m c (stM (sp t.val)) fullShare (blk m c t.val))
      ⊢ run c (bodyAt0 (F := F) t) fun _ => iprop(Φs m c (t.val + 1) ∗ owesE c (later (t.val + 1)) ∗ hold m c (stM (sp t.val)) fullShare (blk m c t.val)) := by
  refine BIBase.Entails.trans ?_ (sim_body c t (lt8 t) _)
  have ht := lt8 t
  have e : Φs m c t.val = iprop(∃ K ιs, recs m K ιs ∗ if t.val = 0 then iprop(Start c ∗ Scr c) else iprop(Inv m c t.val ∗ atPos ER (cell c 0 .bx) 1 ∅ 0)) := if_neg (by omega)
  rw [e]
  by_cases h0 : t.val = 0
  · have eb : b0 (F := F) c t.val = bar (F := F) c := dif_pos h0
    rw [if_pos h0, eb, show later t.val = later 0 by rw [h0]]
    iintro ⟨⟨%K, %ιs, #HR, HS, HC⟩, HO, HB⟩
    have hs := step_from m c ht K ιs
    rw [show l1 t.val = l1 0 by rw [h0], show Inv m c t.val = Inv m c 0 by rw [h0]] at hs
    iapply (cps c (begin_run m K ιs c)) $$ [HO HS HC]
    · isplitr; · iexact HR
      isplitl [HO]; · iexact HO
      isplitl [HS]; · iexact HS
      iexact HC
    iintro ⟨HO, HI, HX⟩
    iapply hs
    isplitr; · iexact HR
    isplitl [HO]; · iexact HO
    isplitl [HI HX]
    · isplitl [HI]; · iexact HI
      iexact HX
    iexact HB
  have eb : b0 (F := F) c t.val = .ret ⟨⟩ := dif_neg h0
  rw [if_neg h0, eb, show later t.val = l1 t.val by rw [later_l1 ht]; simp [gl, h0]]
  iintro ⟨⟨%K, %ιs, #HR, HΦ⟩, HO, HB⟩
  ihave Hw := (step_from m c ht K ιs) $$ [HO HΦ HB]
  · isplitr; · iexact HR
    isplitl [HO]; · iexact HO
    isplitl [HΦ]; · iexact HΦ
    iexact HB
  iexact Hw

/-- The body's obligation in the pipeline. -/
theorem body_obligation : Pipeline.BodyObligation (dats m ρ 0 c) (defs₀ (F := F)) 𝒱₀ (0 : ℕ) Set.univ := fun t => by
  rw [bigSep_W0, bigSep_W0]
  have hst : owns (Ix := ℕ) (Name := ℕ) (U := UU) (Lvl := ℕ) (c : Thread nD τ) (st0_0 t) fullShare (blk m c t.val) = (hold m c (stM (sp t.val)) fullShare (blk m c t.val) : sProp 𝕄) := by
    rw [show st0_0 t = stM (sp t.val) from stage_sp t]
    exact owns_hold m c _ _
  show iprop(Φs m c t.val ∗ (dats m ρ 0 c).owesAt (0 : ℕ) t.castSucc ∗ ∃ d, owns (c : Thread nD τ) (st0_0 t) fullShare ((dats m ρ 0 c).before (0 : Fin 1) t d))
    ⊢ run c (bodyAt0 (F := F) t) fun _ => iprop(Φs m c (t.val + 1) ∗ (dats m ρ 0 c).owesAt (0 : ℕ) t.succ ∗ owns (c : Thread nD τ) (st0_0 t) fullShare (blk m c t.val))
  simp only [before_blk m c ρ t, hst]
  unfold Pipeline.Dat.owesAt Pipeline.owesWithin
  iintro ⟨HΦ, ⟨%W, %hW, HO⟩, %d, HB⟩
  ihave Hw := (body_run m c t) $$ [HΦ HO HB]
  · isplitl [HΦ]; · iexact HΦ
    isplitl [HO]
    · unfold owesE; iexists W; iexact HO
    iexact HB
  ihave Hw' := (Entails.of_eq (run.eq_1 c (bodyAt0 (F := F) t) _)) $$ Hw
  rw [run.eq_1]
  iapply (wp_wand _ _ _) $$ Hw'
  iintro %_ ⟨HΦ, HO, HB⟩
  isplitl [HΦ]; · iexact HΦ
  isplitl [HO]
  · unfold owesE
    icases HO with ⟨%W', HO⟩
    iexists W'
    isplitr; · ipureintro; exact fun _ _ => Or.inl trivial
    iexact HO
  iexact HB

end Cert.AR

end
-- ==== Proof.Fund.lean ====
/-
  The launch elements, and what each device is dealt of them.
-/
module

public import proofs.«01_k».proof.Proof.Body

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

open Idealize.ShloMosaic.TalkSites (Pay tallyL tallyL_pos)

/-! ## Big conjunctions regrouped -/

omit [FloatOps F] in
theorem fin_range (n : ℕ) (Φ : ℕ → sProp 𝕄) : bigSep (Finset.univ : Finset (Fin n)) (fun i => Φ i.val) = bigSep (Finset.range n) Φ := by
  have h : Finset.range n = (Finset.univ : Finset (Fin n)).map Fin.valEmbedding := by
    ext i
    simp only [Finset.mem_range, Finset.mem_map, Finset.mem_univ, true_and, Fin.valEmbedding_apply]
    exact ⟨fun h => ⟨⟨i, h⟩, rfl⟩, fun ⟨j, h⟩ => h ▸ j.isLt⟩
  rw [h, bigSep_map]; rfl
theorem sep_product {M α β : Type} [URA M] [DecidableEq α] [DecidableEq β] (s : Finset α) (t : Finset β) (Φ : α × β → sProp M) :
    bigSep (s ×ˢ t) Φ = bigSep s fun a => bigSep t fun b => Φ (a, b) := by
  induction s using Finset.induction_on with
  | empty => rw [Finset.empty_product, BI.bigSep_empty, BI.bigSep_empty]
  | insert a s h ih =>
    have hd : Disjoint (t.map ⟨fun b => (a, b), Prod.mk_right_injective a⟩) (s ×ˢ t) :=
      Finset.disjoint_left.mpr fun x hx hx' => by
        obtain ⟨b, -, rfl⟩ := Finset.mem_map.mp hx
        exact h (Finset.mem_product.mp hx').1
    have he : insert a s ×ˢ t = t.map ⟨fun b => (a, b), Prod.mk_right_injective a⟩ ∪ s ×ˢ t := by
      ext ⟨x, b⟩
      simp only [Finset.mem_product, Finset.mem_insert, Finset.mem_union, Finset.mem_map, Function.Embedding.coeFn_mk, Prod.mk.injEq]
      constructor
      · rintro ⟨rfl | hx, hb⟩
        · exact Or.inl ⟨b, hb, rfl, rfl⟩
        · exact Or.inr ⟨hx, hb⟩
      · rintro (⟨b', hb, rfl, rfl⟩ | ⟨hx, hb⟩)
        · exact ⟨Or.inl rfl, hb⟩
        · exact ⟨Or.inr hx, hb⟩
    rw [he, bigSep_union hd, bigSep_map, ih, bigSep_insert h]; rfl
omit [FloatOps F] in
theorem axes (Φ : Option Bool → sProp 𝕄) : bigSep Finset.univ Φ = iprop(Φ none ∗ Φ (some false) ∗ Φ (some true)) :=
  bigSep_univ_eq_bigSepL [none, some false, some true] (by decide) (by decide) Φ
omit [FloatOps F] in
theorem two (Φ : Fin 2 → sProp 𝕄) : bigSep Finset.univ Φ = iprop(Φ 0 ∗ Φ 1) := bigSep_univ_eq_bigSepL [0, 1] (by decide) (by decide) Φ

theorem peer_peer (o : Op) (d : Dev nD) : peer o (peer o d) = d := by
  cases o <;> first | exact xp_xp d | exact pa_pa _ d | rfl
def peerE (o : Op) : Dev nD ≃ Dev nD := ⟨peer o, peer o, peer_peer o, peer_peer o⟩
theorem pe_pe (b : Option Bool) (d : Dev nD) : pe (pe d b) b = d := by
  cases b
  · exact xp_xp d
  · exact pa_pa _ d
def peE (b : Option Bool) : Dev nD ≃ Dev nD := ⟨fun d => pe d b, fun d => pe d b, pe_pe b, pe_pe b⟩

/-! ## The launch elements -/

def ckey (x : Dev nD × Fin 32) : GSem nD τ sig := kcell x.1 x.2.val
theorem ckey_inj : Function.Injective ckey := by
  rintro ⟨c, n⟩ ⟨c', n'⟩ h
  have h1 : c = c' := congrArg (fun g : GSem nD τ sig => g.1.1) h
  have h2 : n = n' := Fin.ext (smc_cd n.isLt n'.isLt (congrArg Prod.snd h))
  rw [h1, h2]
def cellS : Finset (GSem nD τ sig) := Finset.univ.map ⟨ckey, ckey_inj⟩

def tokOf (x : Dev nD × D) : GSem nD τ sig × ℕ × D := (cell (peer x.2.2 x.1) x.2.1 x.2.2, rnd x.2.1 x.2.2, x.2)
theorem tokOf_inj : Function.Injective tokOf := by
  rintro ⟨c, d⟩ ⟨c', d'⟩ h
  have h2 : d = d' := congrArg (fun x : GSem nD τ sig × ℕ × D => x.2.2) h
  subst h2
  have h1 : peer d.2 c = peer d.2 c' := congrArg (fun x : GSem nD τ sig × ℕ × D => x.1.1.1) h
  rw [(peerE d.2).injective h1]
def tokS : Finset (GSem nD τ sig × ℕ × D) := (Finset.univ ×ˢ famS tokL).map ⟨tokOf, tokOf_inj⟩

def u₀ : UU :=
  (initOf (Pipeline.cells cfgs cellOf_inj) (Pipeline.launchToks cfgs cellOf_inj), (initOf cellS tokS, Release.initSlots (Finset.univ : Finset Key) 4))

omit [FloatOps F] in
theorem cells_eq (Φ : GSem nD τ sig → sProp 𝕄) : bigSep cellS Φ = bigSep Finset.univ fun c : Dev nD => bigSep Finset.univ fun n : Fin 32 => Φ (kcell c n.val) := by
  unfold cellS; rw [bigSep_map, bigSep_univ_prod]; rfl
omit [FloatOps F] in
theorem toks_eq : bigSep tokS (fun x => (dutyTok ER x.1 x.2.1 x.2.2 : sProp 𝕄)) = bigSep Finset.univ fun c : Dev nD => bigSep (famS tokL) (tok c) := by
  unfold tokS; rw [bigSep_map, sep_product]; rfl

def slotOf (k : ℕ) : Fin 2 × ℕ := (sp k, k / 2)
theorem slotOf_inj : Function.Injective slotOf := by
  intro i j h
  have h1 : i % 2 = j % 2 := congrArg (fun x : Fin 2 × ℕ => x.1.val) h
  have h2 : i / 2 = j / 2 := congrArg Prod.snd h
  omega
theorem slots_all : (Finset.univ : Finset (Fin 2)) ×ˢ Finset.range 4 = (Finset.Ico 0 8).map ⟨slotOf, slotOf_inj⟩ := by decide
omit [FloatOps F] in
/-- The turns to write, dealt to those who write. -/
theorem writes_eq : bigSep ((Finset.univ : Finset Key) ×ˢ Finset.range 4) (fun x => (writeTok ES x.1 (x.2 + 1) : sProp 𝕄))
    = bigSep Finset.univ fun c : Dev nD => iprop(WX c none ∗ WX c (some false) ∗ WX c (some true)) := by
  have h (e : Dev nD) (b : Option Bool) : (bigSep Finset.univ fun s : Fin 2 => bigSep (Finset.range 4) fun w => (writeTok ES (e, b, s) (w + 1) : sProp 𝕄))
      = bigSep (Finset.Ico 0 8) fun k => writeTok ES (e, b, sp k) (k / 2 + 1) := by
    rw [← sep_product Finset.univ (Finset.range 4) fun x : Fin 2 × ℕ => (writeTok ES (e, b, x.1) (x.2 + 1) : sProp 𝕄), slots_all, bigSep_map]; rfl
  have h' (b : Option Bool) : (bigSep Finset.univ fun e : Dev nD => bigSep (Finset.Ico 0 8) fun k => (writeTok ES (e, b, sp k) (k / 2 + 1) : sProp 𝕄))
      = bigSep Finset.univ fun c : Dev nD => WX c b := bigSep_univ_equiv (peE b) _
  rw [sep_product, bigSep_univ_prod, bigSep_sep', bigSep_sep', ← h' none, ← h' (some false), ← h' (some true), ← bigSep_sep', ← bigSep_sep']
  refine bigSep_congr fun e _ => ?_
  rw [bigSep_univ_prod, axes, h, h, h]
omit [FloatOps F] in
theorem reads_eq : bigSep (Finset.univ : Finset Key) (fun k => (readerAt ES k 0 : sProp 𝕄))
    = bigSep Finset.univ fun c : Dev nD => iprop(reads2 c none ∗ reads2 c (some false) ∗ reads2 c (some true)) := by
  rw [bigSep_univ_prod]
  refine bigSep_congr fun e _ => ?_
  rw [bigSep_univ_prod, axes, two, two, two]; rfl

/-! ## What each device is dealt -/

/-- What a device holds of its own besides its cells' states. -/
def Own : sProp 𝕄 :=
  iprop(ats c ∗ bigSep (famS tokL) (tok c) ∗ (WX c none ∗ WX c (some false) ∗ WX c (some true)) ∗ (reads2 c none ∗ reads2 c (some false) ∗ reads2 c (some true)))
def slotsI (ιs : Key → ℕ) : sProp 𝕄 := bigSep Finset.univ fun k : Key => slotInv ES (ιs k) k (slotAny (F := F) k)
instance slotsI_persistent : BI.Persistent (slotsI (F := F) ιs) := by unfold slotsI; infer_instance
def G0 : sProp 𝕄 :=
  iprop((bigSep Finset.univ fun n : Fin 32 => roundState ER (Rd m) (kcell c n.val) 0) ∗ (bigSep Finset.univ fun n : Fin 32 => reached ER (kcell c n.val) 0)
    ∗ (∃ ιs, slotsI (F := F) ιs) ∗ Own c)
def recs0 (K : Dev nD × Fin 32 → ℕ) : sProp 𝕄 :=
  iprop((bigSep Finset.univ fun ck : Dev nD × Fin 32 => cellInv ER (Rd m) (K ck) (kcell ck.1 ck.2.val)) ∗ (bigSep Finset.univ fun ck : Dev nD × Fin 32 => reached ER (kcell ck.1 ck.2.val) 0))
instance recs0_persistent : BI.Persistent (recs0 m K) := by unfold recs0; infer_instance
def G1 : sProp 𝕄 := iprop(∃ K ιs, recs0 m K ∗ slotsI (F := F) ιs ∗ Own c)

omit [FloatOps F] in
theorem ats_eq : bigSep cellS (fun g => (atPos ER g 0 ∅ 0 : sProp 𝕄)) = bigSep Finset.univ fun c : Dev nD => ats c := by
  rw [cells_eq]
  exact bigSep_congr fun c _ => fin_range 32 fun n => at0 c n

theorem deal : iprop(slotsI (F := F) ιs ∗ (bigSep Finset.univ fun c : Dev nD => bigSep Finset.univ fun n : Fin 32 => roundState ER (Rd m) (kcell c n.val) 0)
      ∗ (bigSep Finset.univ fun c : Dev nD => bigSep Finset.univ fun n : Fin 32 => reached ER (kcell c n.val) 0)
      ∗ (bigSep Finset.univ fun c : Dev nD => ats c) ∗ (bigSep Finset.univ fun c : Dev nD => bigSep (famS tokL) (tok c))
      ∗ (bigSep Finset.univ fun c : Dev nD => iprop(WX c none ∗ WX c (some false) ∗ WX c (some true)))
      ∗ bigSep Finset.univ fun c : Dev nD => iprop(reads2 c none ∗ reads2 c (some false) ∗ reads2 c (some true)))
    ⊢ bigSep Finset.univ (G0 m) := by
  rw [← bigSep_sep', ← bigSep_sep', ← bigSep_sep', ← bigSep_sep', ← bigSep_sep']
  refine with_persistent (R := slotsI (F := F) ιs) fun c _ => ?_
  unfold G0 Own
  iintro ⟨#HI, H1, H2, H3⟩
  isplitl [H1]; · iexact H1
  isplitl [H2]; · iexact H2
  isplitr; · iexists ιs; iexact HI
  iexact H3

theorem fund : (ownU u₀ : sProp 𝕄)
    ⊢ |={Set.univ}=> iprop(BI.own (EP (initOf (Pipeline.cells cfgs cellOf_inj) (Pipeline.launchToks cfgs cellOf_inj))) ∗ bigSep Finset.univ (G0 m)) := by
  unfold u₀
  iintro Hu
  ihave ⟨HP, HX⟩ := (ownU_pair _ _) $$ Hu
  ihave ⟨HR, HS⟩ := (own_pair_emb (EX (F := F)) _ _) $$ HX
  imod (Rounds.fund ER (Rd m) cellS tokS) $$ HR with ⟨Hst, Hr, Hat, Htok⟩
  imod (Release.slots_init (Es := Set.univ) ES (Finset.univ : Finset Key) 4 (fun k => slotAny (F := F) k)) $$ HS with ⟨%ιs, -, #HI, Hrd, Hwr⟩
  imodintro
  isplitl [HP]; · iexact HP
  ihave Hst' := (Entails.of_eq (cells_eq fun g => roundState ER (Rd m) g 0)) $$ Hst
  ihave Hr' := (Entails.of_eq (cells_eq fun g => reached ER g 0)) $$ Hr
  ihave Hat' := (Entails.of_eq ats_eq) $$ Hat
  ihave Htok' := (Entails.of_eq toks_eq) $$ Htok
  ihave Hrd' := (Entails.of_eq reads_eq) $$ Hrd
  ihave Hwr' := (Entails.of_eq writes_eq) $$ Hwr
  iapply (deal m ιs)
  isplitr; · unfold slotsI; iexact HI
  isplitl [Hst']; · iexact Hst'
  isplitl [Hr']; · iexact Hr'
  isplitl [Hat']; · iexact Hat'
  isplitl [Htok']; · iexact Htok'
  isplitl [Hwr']; · iexact Hwr'
  iexact Hrd'

/-! ## The cells opened -/

/-- The kernel's own semaphores; the barrier's is not among them. -/
abbrev osem : Fin 31 → SemLoc sig := fun n => smc n.val
theorem ownSemFacts : Pipeline.OwnSemFacts cfg0.spec osem := by decide +kernel

omit [FloatOps F] in
theorem ownSems_eq : (Pipeline.ownSems0 (Ix := ℕ) (Name := ℕ) (U := UU) (Lvl := ℕ) (Val := Elt F) (τ := τ) osem c : sProp 𝕄)
    = bigSep (Finset.range 31) fun n => semVal (kcell c n) 0 := fin_range 31 fun n => semVal (kcell c n) 0
omit [FloatOps F] in
theorem unscopedSems_eq : (unscopedSems0 c : sProp 𝕄) = semVal (kcell c 31) 0 := by
  unfold unscopedSems0; rw [bigSep_eq_bigSepL_of_eq [smc 31] (by decide +kernel) (by decide)]; rfl
omit [FloatOps F] in
theorem sems_eq : (bigSep (Finset.range 32) fun n => semVal (kcell c n) 0 : sProp 𝕄)
    = iprop(unscopedSems0 c ∗ Pipeline.ownSems0 (Ix := ℕ) (Name := ℕ) (U := UU) (Lvl := ℕ) (Val := Elt F) (τ := τ) osem c) := by
  rw [ownSems_eq, unscopedSems_eq, bigSep_range_succ]

theorem open_cells : iprop(Pipeline.ownSems0 (Ix := ℕ) (Name := ℕ) (U := UU) (Lvl := ℕ) (Val := Elt F) (τ := τ) osem c ∗ unscopedSems0 c ∗ G0 m c)
    ⊢ |={Set.univ}=> (iprop((bigSep Finset.univ fun n : Fin 32 => iprop(∃ κ : ℕ, cellInv ER (Rd m) κ (kcell c n.val)))
        ∗ (bigSep Finset.univ fun n : Fin 32 => reached ER (kcell c n.val) 0) ∗ (∃ ιs, slotsI (F := F) ιs) ∗ Own c) : sProp 𝕄) := by
  have ha : iprop((bigSep Finset.univ fun n : Fin 32 => semVal (kcell c n.val) 0) ∗ bigSep Finset.univ fun n : Fin 32 => roundState ER (Rd m) (kcell c n.val) 0)
      ⊢ (|={Set.univ}=> bigSep Finset.univ fun n : Fin 32 => iprop(∃ κ : ℕ, cellInv ER (Rd m) κ (kcell c n.val)) : sProp 𝕄) := by
    rw [← bigSep_sep']
    exact (bigSep_mono fun n _ => (Rounds.body_intro ER (Rd m) (kcell c n.val)).trans inv_alloc).trans (bigSep_fupd _ _)
  have hs := (fin_range 32 fun n => (semVal (kcell c n) 0 : sProp 𝕄)).trans (sems_eq c)
  unfold G0
  iintro ⟨Hos, Hus, Hst, Hr⟩
  ihave Hv := (Entails.of_eq hs.symm) $$ [Hos Hus]
  · isplitl [Hus]; · iexact Hus
    iexact Hos
  imod ha $$ [Hv Hst] with HI
  · isplitl [Hv]; · iexact Hv
    iexact Hst
  imodintro
  isplitl [HI]; · iexact HI
  iexact Hr

theorem regroup :
    (bigSep Finset.univ fun c : Dev nD => iprop((bigSep Finset.univ fun n : Fin 32 => iprop(∃ κ : ℕ, cellInv ER (Rd m) κ (kcell c n.val)))
        ∗ (bigSep Finset.univ fun n : Fin 32 => reached ER (kcell c n.val) 0) ∗ (∃ ιs, slotsI (F := F) ιs) ∗ Own c) : sProp 𝕄)
      ⊢ bigSep Finset.univ (G1 m) := by
  rw [bigSep_sep', bigSep_sep', ← bigSep_univ_prod (fun ck : Dev nD × Fin 32 => (iprop(∃ κ : ℕ, cellInv ER (Rd m) κ (kcell ck.1 ck.2.val)) : sProp 𝕄)),
    ← bigSep_univ_prod (fun ck : Dev nD × Fin 32 => (reached ER (kcell ck.1 ck.2.val) 0 : sProp 𝕄))]
  iintro ⟨HI, #HR, H⟩
  ihave HK := (BI.bigSep_exists_pi Finset.univ (fun (ck : Dev nD × Fin 32) (κ : ℕ) => (cellInv ER (Rd m) κ (kcell ck.1 ck.2.val) : sProp 𝕄))) $$ HI
  icases HK with ⟨%K, #HI⟩
  have hw : iprop(recs0 m K ∗ bigSep Finset.univ fun c : Dev nD => iprop((∃ ιs, slotsI (F := F) ιs) ∗ Own c)) ⊢ bigSep Finset.univ (G1 m) :=
    with_persistent fun c _ => by
      unfold G1
      iintro ⟨#HR, ⟨%ιs, #HI⟩, H⟩
      iexists K; iexists ιs
      isplitr; · iexact HR
      isplitr; · iexact HI
      iexact H
  iapply hw
  isplitr
  · unfold recs0
    isplitr; · iexact HI
    iexact HR
  iexact H

theorem glob : (bigSep Finset.univ fun c => iprop(Pipeline.ownSems0 (Ix := ℕ) (Name := ℕ) (U := UU) (Lvl := ℕ) (Val := Elt F) (τ := τ) osem c ∗ unscopedSems0 c ∗ G0 m c) : sProp 𝕄)
    ⊢ |={Set.univ}=> bigSep Finset.univ (G1 m) :=
  ((bigSep_mono fun c _ => open_cells m c).trans (bigSep_fupd _ _)).trans (BI.fupd_mono (regroup m))

/-! ## The credits -/

theorem sum_pays (l : List D) : (∑ d : Dev nD, owe d l) = ∑ d : Dev nD, tallyL (l.map fun x => ((cell d x.1 x.2, pos x.1 x.2, amt x.2) : Pay nD τ sig)) := by
  induction l with
  | nil => rfl
  | cons x l ih =>
    have h : (∑ d : Dev nD, (tallyAt (cell (peer x.2 d) x.1 x.2) (pos x.1 x.2) (amt x.2) : CellTallies nD τ sig ℕ)) = ∑ d : Dev nD, tallyAt (cell d x.1 x.2) (pos x.1 x.2) (amt x.2) :=
      Equiv.sum_comp (peerE x.2) fun d => (tallyAt (cell d x.1 x.2) (pos x.1 x.2) (amt x.2) : CellTallies nD τ sig ℕ)
    simp only [owe_cons, List.map_cons, tallyL]
    rw [Finset.sum_add_distrib, Finset.sum_add_distrib, ih, h, add_comm]

omit [FloatOps F] in
theorem cred_list (l : List D) : (cred (tallyL (l.map fun x => ((cell c x.1 x.2, pos x.1 x.2, amt x.2) : Pay nD τ sig))) : sProp 𝕄) = bigSepL l (crd c) := by
  induction l with
  | nil => exact cred_zero
  | cons x l ih =>
    rw [List.map_cons, tallyL, bigSepL_cons, ← ih]
    exact BI.Entails.antisymm (cred_add _ _).1 (cred_add _ _).2

theorem credits_all : famS crdL = (later 0).toFinset := by decide +kernel
omit [FloatOps F] in
theorem launch_cred : (Pipeline.launchCred (fun c => owe c (later 0)) c : sProp 𝕄) = bigSep (famS crdL) (crd c) := by
  rw [Pipeline.launchCred_of_sum _ _ (sum_pays (later 0)) (fun d g hg => by
    obtain ⟨i, hi⟩ := DFunLike.ne_iff.mp hg
    obtain ⟨y, hy, rfl, -⟩ := tallyL_pos (Nat.pos_of_ne_zero hi)
    obtain ⟨x, -, rfl⟩ := List.mem_map.mp hy
    rfl) c, cred_list, bigSep_eq_bigSepL_of_eq (later 0) credits_all (by decide +kernel)]

end Cert.AR

end
-- ==== Proof.Run.lean ====
/-
  The kernel's run on all devices.
-/
module

public import proofs.«01_k».proof.Proof.Fund

@[expose] public section

set_option maxRecDepth 20000

noncomputable section

namespace Cert.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slotInv slot slot_take slot_release slot_slot_false)
open Idealize.ShloMosaic.SiteBlocks (L lv mem_L' mem_L mayWait_of)

variable {F : FTy → Type} [FloatOps F]

local notation "𝕄" => MT nD τ sig ℕ (Elt F) ℕ UU ℕ

variable (m : (ℓ : Loc nD τ sig) → Buf (Elt F) ℓ)
variable (K : Dev nD × Fin 32 → ℕ) (ιs : Key → ℕ) (c : Dev nD)

variable (ρ : Dev nD → PrngReg)

/-- What a device starts the kernel with. -/
def X0 : sProp 𝕄 := iprop(∃ K ιs, recs m K ιs ∗ Start c)
/-- What it ends with outside the kernel's own buffers and semaphores. -/
def Y0 : sProp 𝕄 := iprop(unscopedSems0 c ∗ ((c : Thread nD τ).loc main_v1) ↦{fullShare} G m c)

theorem start_intro :
    iprop(Pipeline.unscopedRestP Pipeline.Prefetch.none cfg0.spec c (fun b => m ((c : Thread nD τ).loc b)) ∗ levAts (L nPos) lv
        ∗ Pipeline.launchCred (fun c => owe c (later 0)) c ∗ prngReg c (ρ c) ∗ G1 m c)
      ⊢ |={Set.univ}=> (iprop(X0 m c ∗ emp) : sProp 𝕄) := by
  rw [Pipeline.unscopedRestP_none, unscopedRest0_eq, launch_cred]
  unfold G1 Own X0 Start
  iintro ⟨Hv, #Hlev, Hcr, -, %K, %ιs, #HR, #HI, H1, H2, H3, H4⟩
  imodintro
  isplitl
  · iexists K; iexists ιs
    isplitr
    · unfold recs recs0 slotsI levs
      icases HR with ⟨#H1, #H2⟩
      isplitr; · iexact H1
      isplitr; · iexact H2
      isplitr; · iexact HI
      iexact Hlev
    isplitl [H1]; · iexact H1
    isplitl [H2]; · iexact H2
    isplitl [H3]; · iexact H3
    isplitl [H4]; · iexact H4
    isplitl [Hcr]; · iexact Hcr
    iexists _; iexact Hv
  iempintro

theorem phi_intro :
    iprop(X0 m c ∗ Pipeline.prefHeld Pipeline.Prefetch.none c (fun _ => fullShare.right) (fun k => k.elim0) ∗ Pipeline.scopedRest cfg0.spec c)
      ⊢ (dats m ρ 0 c).Φ 0 := by
  show iprop(X0 m c ∗ Pipeline.prefHeld Pipeline.Prefetch.none c (fun _ => fullShare.right) (fun k => k.elim0) ∗ Pipeline.scopedRest spec0 c) ⊢ Φs m c 0
  have h := scr_in (F := F) c
  have e : Φs m c 0 = iprop(∃ K ιs, recs m K ιs ∗ Start c ∗ Scr c) := rfl
  rw [e]
  unfold X0
  iintro ⟨⟨%K, %ιs, HR, HS⟩, -, HB⟩
  ihave HB' := h $$ HB
  iexists K; iexists ιs
  isplitl [HR]; · iexact HR
  isplitl [HS]; · iexact HS
  iexact HB'

theorem phi_exit :
    (dats m ρ 0 c).Φ (Fin.last cfg0.N) ⊢ iprop(Y0 m c ∗ Pipeline.ownSems0 osem c ∗ Pipeline.scopedRest cfg0.spec c) := by
  show Φs m c 8 ⊢ iprop(Y0 m c ∗ Pipeline.ownSems0 osem c ∗ Pipeline.scopedRest spec0 c)
  have h := scr_out (F := F) c
  have e : Φs m c 8 = iprop((bigSep (Finset.range 32) fun n => semVal (kcell c n) 0) ∗ (((c : Thread nD τ).loc main_v1) ↦{fullShare} G m c) ∗ Scr c) := rfl
  rw [e, sems_eq]
  unfold Y0
  iintro ⟨⟨Hu, Ho⟩, Hv, HB⟩
  ihave HB' := h $$ HB
  isplitl [Hu Hv]
  · isplitl [Hu]; · iexact Hu
    iexact Hv
  isplitl [Ho]; · iexact Ho
  iexact HB'

theorem abv_all : ∀ j ≤ 8, ∀ d ∈ later j, 0 < pos d.1 d.2 ∧ pos d.1 d.2 < 1024 := by decide +kernel
theorem waits : (levAts (L nPos) lv : sProp 𝕄) ⊢ Pipeline.cellsWaits cfgs (dats m ρ) (0 : ℕ) 0 c :=
  Pipeline.cellsWaits_intro cfgs (dats m ρ) (0 : ℕ) 0 c fun w s t =>
    mayWait_owe c _ (by decide) (abv_all t.val (Nat.lt_succ_iff.mp t.isLt))

theorem share_eq (w : Fin cfg0.W) : (dats m ρ 0 c).share w = fullShare := by unfold Pipeline.Dat.share; split <;> rfl

/-- What a device's memory and semaphores hold at the end. -/
def QY (s : MemSt nD τ sig (Elt F)) : Prop :=
  (∀ sm : SemLoc sig, sm.isScoped .tc = false → s.sem ((c : Thread nD τ), sm) = 0) ∧ s.mem ((c : Thread nD τ).loc main_v1) = G m c

theorem read_end (s : Phys nD τ sig (Elt F)) : iprop(Y0 m c ∗ emp ∗ SI s) ⊢ |={Set.univ}=> (iprop(⌜QY m c s.mem⌝ ∗ SI s) : sProp 𝕄) := by
  unfold Y0
  iintro ⟨⟨Hu, Hv⟩, -, HSI⟩
  icombine HSI Hv gives %h
  ihave %hu := (tcUnscoped_read c s) $$ [Hu HSI]
  · isplitl [Hu]; · iexact Hu
    iexact HSI
  imodintro
  isplitr; · ipureintro; exact ⟨hu, Buf.eq_of_forall_mem_univ h⟩
  iexact HSI

def QC (r : PUnit × MemSt nD τ sig (Elt F)) : Prop :=
  ∀ c : Dev nD, r.2.mem ((c : Thread nD τ).loc main_v1) = G m c ∧ r.2.mem ((c : Thread nD τ).loc main_arg0) = m ((c : Thread nD τ).loc main_arg0)

/-- From any memory with every counter at zero every run ends, each device's result holding the sums, its argument as it
    was, every counter zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun c => (main_chain c).trans rfl)
    (hbody := fun c => body_obligation m c ρ) (hne := block_pos0) (harr := arr_whole0) (hstage := stage_whole0) (hshare := fun c w => share_eq m c ρ w)
    (hdistinct := winFacts0.arr_inj)
    (O₀ := fun c => owe c (later 0)) (howed₀ := fun _ => rfl) (howedN := fun _ => rfl)
    (L := L nPos) (lv := lv) (hL := SiteBlocks.hL nPos) (hwaits := fun c => waits m c ρ)
    (G := G0 m) (G' := G1 m) (u₀ := u₀) (hu₀ := fund m)
    (hglob := glob m)
    (hA := fun _ _ => rfl) (hpf := fun _ k => k.elim0)
    (X := X0 m) (Y := Y0 m) (Z := fun _ => iprop(emp))
    (hX := fun c => start_intro m c ρ) (hin := fun c => phi_intro m c ρ) (hout := fun c => phi_exit m c ρ)
    (QY := QY m) (hY := read_end m)
    (hQ := fun _ h hs => ⟨fun c => ⟨(h c).2.2.2, ((h c).1 (0 : Fin 1)).trans ((dats m ρ 0 c).arrAt_in (0 : Fin 1) rfl _)⟩,
      sem_eq_zero hs fun c => (h c).2.2.1⟩)

end Cert.AR

end
-- ==== Proof.Value.lean ====
/-
  Over the extended reals the kernel's result is the reference's: entry by entry the sum of the two halves' rows.
-/
module

public import proofs.«01_k».proof.Proof.Geo
public import proofs.«01_k».proof.Proof.Gen.ReferenceIdeal.Run
public import Idealize.ShloMosaic.Lib.Layout
public import Idealize.ShloMosaic.Lib.Pointwise
public import Idealize.ShloMosaic.PureOps.Ideal.Laws

@[expose] public section

noncomputable section

namespace Cert.AR

open Cert.KernelIdeal
open Idealize.ShloMosaic
open Idealize.ShloMosaic.TcCoe

/-- The whole argument: its entries are extended reals. -/
abbrev Whole := (⟨2, ![32768, 1024]⟩ : Shape).Idx → EReal

set_option backward.proofsInPublic true in
/-- Row `16384 * h + r` of the whole argument, in the column of `i`. -/
def half (w : Whole) (h : ℕ) (i : S16384x1024.Idx) : EReal :=
  w (fun | 0 => ⟨(16384 * h + (i 0).val) % 32768, Nat.mod_lt _ (by decide)⟩ | 1 => i 1)

/-- What the reference computes of `w`. -/
def refSum (w : Whole) : S16384x1024.Idx → EReal :=
  Host.reduceAdd (F := Ideal) (φ := .f32) (shapeCast _ w Cert.ReferenceIdeal.Gen.shapeCasts_S32768x1024_S2x16384x1024)
    (constant Cert.ReferenceIdeal.S_ .f32 0x00000000#32) Cert.ReferenceIdeal.Gen.reducesTo_S2x16384x1024_S16384x1024_d0
    Cert.ReferenceIdeal.Gen.h_S_

/-- The reference at an index: the two halves' rows added. -/
theorem refSum_apply (w : Whole) (i : S16384x1024.Idx) : refSum w i = half w 0 i + half w 1 i := by
  have hi : (i 0).val < 16384 := (i 0).isLt
  have hj : (i 1).val < 1024 := (i 1).isLt
  show Ideal.hostReduceAdd _ _ (Ideal.ofBits .f32 0x00000000#32) i = _
  rw [Ideal.hostReduceAdd_r3_a0, Ideal.ofBits_zero_f32, zero_add, Fin.sum_univ_two]
  refine congrArg₂ (· + ·) ?_ ?_ <;>
  · rw [Pointwise.shapeCast_apply]
    unfold half
    refine congrArg w (Shape.reshapeEquiv_eq_of_rowMajor _ ?_)
    rw [rowMajor_val2 _ 1024 rfl, rowMajor_val3 _ (16384 * 1024) 1024 rfl rfl]
    simp only [ix3, Fin.val_zero, Fin.val_one]
    show _ = _ * _ + (i 0).val * 1024 + (i 1).val
    show (16384 * _ + (i 0).val) % 32768 * 1024 + (i 1).val = _
    simp
    omega

/-- The block of the whole argument on device `d`, at index `i`: its half's row. -/
theorem block_apply (w : Whole) (d : Dev nD) (i : S16384x1024.Idx) :
    (Layout.blockN ⟨2, ![16384, 1024]⟩ ⟨2, ![32768, 1024]⟩ (Layout.meshBlock [2, 2, 4] ![[0], []] d) w : S16384x1024.Idx → EReal) i
      = half w (d.val / 8) i := by
  have hd : d.val < 16 := d.isLt
  have hi : (i 0).val < 16384 := (i 0).isLt
  rw [Layout.blockN_apply]
  unfold half
  congr 1
  funext a
  apply Fin.ext
  rw [Layout.TilesN.idx_val]
  match a with
  | 0 =>
    show (d.val / 8 % 2 * 1 + 0) * 16384 + (i 0).val = (16384 * (d.val / 8) + (i 0).val) % 32768
    omega
  | 1 =>
    show 0 * 1024 + (i 1).val = (i 1).val
    omega

theorem tau_own (c : Dev nD) (q : Fin 4) : tau (own c q.val) = q.val := by revert c q; decide
theorem half_own (c : Dev nD) (q : Fin 4) : (own c q.val).val / 8 = c.val / 8 := by revert c q; decide
theorem half_xp (d : Dev nD) : (xp d).val / 8 = 1 - d.val / 8 := by revert d; decide

variable (m : (ℓ : Loc nD τ sig) → Buf (Elt Ideal) ℓ)

/-- A device's rows of a block, at the place they have in the result. -/
theorem part_eq (w : Whole) (d : Dev nD)
    (hw : m ((d : Thread nD τ).loc main_arg0)
      = Layout.blockN ⟨2, ![16384, 1024]⟩ ⟨2, ![32768, 1024]⟩ (Layout.meshBlock [2, 2, 4] ![[0], []] d) w)
    (i : S16384x1024.Idx) (ht : tau d = (i 0).val / 512 % 4) :
    X m d ((i 0).val / 2048) (fun | 0 => ⟨(i 0).val % 512, Nat.mod_lt _ (by decide)⟩ | 1 => i 1) = half w (d.val / 8) i := by
  have hi : (i 0).val < 16384 := (i 0).isLt
  rw [← block_apply]
  unfold X
  rw [hw]
  refine congrArg (Layout.blockN (kN := _) ⟨2, ![16384, 1024]⟩ ⟨2, ![32768, 1024]⟩ (Layout.meshBlock [2, 2, 4] ![[0], []] d) w) ?_
  funext a
  apply Fin.ext
  match a with
  | 0 =>
    show (2048 * ((i 0).val / 2048) + 512 * tau d + (i 0).val % 512) % 16384 = (i 0).val
    rw [ht]
    omega
  | 1 => rfl

/-- Where each device holds its block, the kernel's result on every device is the reference's. -/
theorem result_eq (w : Whole)
    (hw : ∀ d : Dev nD, m ((d : Thread nD τ).loc main_arg0)
      = Layout.blockN ⟨2, ![16384, 1024]⟩ ⟨2, ![32768, 1024]⟩ (Layout.meshBlock [2, 2, 4] ![[0], []] d) w)
    (c : Dev nD) : G m c = refSum w := by
  funext i
  have hq : (i 0).val / 512 % 4 < 4 := Nat.mod_lt _ (by decide)
  have h1 := tau_own c ⟨_, hq⟩
  have h2 := half_own c ⟨_, hq⟩
  rw [refSum_apply]
  refine (congrArg₂ (fun a b : EReal => a + b) (part_eq m w _ (hw _) i h1) (part_eq m w _ (hw _) i ((tau_xp _).trans h1))).trans ?_
  dsimp only
  dsimp only at h2
  rw [half_xp, h2]
  have hc : c.val < 16 := c.isLt
  rcases (by omega : c.val / 8 = 0 ∨ c.val / 8 = 1) with h | h <;> rw [h]
  exact add_comm _ _

end Cert.AR

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Lib.Quiescent
public import Idealize.ShloMosaic.Init

@[expose] public section

noncomputable section

namespace Cert.Proof

open Idealize.ShloMosaic Idealize.SL.Sem Cert.Kernel

open Idealize.ShloMosaic.TcCoe

/-- The kernel's text over any float values: it runs, keeps its argument and leaves every counter at zero. -/
theorem frame_text {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run Cert.KernelIdeal.defs _ _).mono (fun _ h => ⟨fun c => (h.1 c).2, h.2⟩) (Cert.AR.run_main (F := F) m ρ)

/-- The two programs' body tables are one. -/
theorem bodies_eq : Cert.Kernel.defs₀ (F := Bits) = Cert.KernelIdeal.defs₀ (F := Bits) := by
  refine congrArg Defs.onTc ?_
  funext l x
  match l, x with
  | 0, (t, s) => rfl

/-- So are their tables with the pipelines' regions. -/
theorem tables_eq : Cert.Kernel.defs (F := Bits) = Cert.KernelIdeal.defs (F := Bits) :=
  congrArg (Pipeline.defs _) bodies_eq

/-- The kernel over the words runs, keeps its argument and leaves every counter at zero: its text is the same. -/
theorem frame_kernel : Cert.quiescent_Kernel := by
  intro m ρ _
  rw [tables_eq]
  exact frame_text (F := Bits) m ρ

/-- So does the kernel over the extended reals. -/
theorem frame_ideal : Cert.quiescent_KernelIdeal := fun m ρ _ => frame_text (F := Ideal) m ρ

/-- So does the reference, which has no counters. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Over the extended reals every device's result is the reference's. -/
theorem values : Cert.algebraic_KernelIdeal_ReferenceIdeal := fun m g m' g' _ hm =>
  ⟨Cert.AR.refSum (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).1.trans (Cert.AR.result_eq m _ hm c), (h.1 c).2⟩)
      (Cert.AR.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, values⟩

end Cert.Proof

end
